-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_layout [hPre_attention_layout : Cert.Pre_attention_layout.Facts] (m : (ℓ : Loc Cert.AttnIdeal.nD Cert.AttnIdeal.τ Cert.AttnIdeal.sig) → Buf (Elt Ideal) ℓ) : Prop :=
  ∀ c : Dev Cert.AttnIdeal.nD,
    (Cert.Pre_attention_layout.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_layout [hPre_attention_layout : Cert.Pre_attention_layout.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_layout.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftIdeal_dft_finite [hPre_dft_finite : Cert.Pre_dft_finite.Facts] (m : (ℓ : Loc Cert.DftIdeal.nD Cert.DftIdeal.τ Cert.DftIdeal.sig) → Buf (Elt Ideal) ℓ) : Prop :=
  ∀ c : Dev Cert.DftIdeal.nD,
    (Cert.Pre_dft_finite.fn (F := Ideal) (m ((c.tc : Thread Cert.DftIdeal.nD Cert.DftIdeal.τ).loc Cert.DftIdeal.main_arg0)) (m ((c.tc : Thread Cert.DftIdeal.nD Cert.DftIdeal.τ).loc Cert.DftIdeal.main_arg1)) (m ((c.tc : Thread Cert.DftIdeal.nD Cert.DftIdeal.τ).loc Cert.DftIdeal.main_arg2))) = (fun _ => 1#1)

def Pre_DftRefIdeal (m : (ℓ : Loc Cert.DftRefIdeal.nD Cert.DftRefIdeal.τ Cert.DftRefIdeal.sig) → Buf (Elt Ideal) ℓ) : Prop :=
  True

def Pre_DftRefIdeal_dft_finite [hPre_dft_finite : Cert.Pre_dft_finite.Facts] (m : (ℓ : Loc Cert.DftRefIdeal.nD Cert.DftRefIdeal.τ Cert.DftRefIdeal.sig) → Buf (Elt Ideal) ℓ) : Prop :=
  ∀ c : Dev Cert.DftRefIdeal.nD,
    (Cert.Pre_dft_finite.fn (F := Ideal) (m ((c.tc : Thread Cert.DftRefIdeal.nD Cert.DftRefIdeal.τ).loc Cert.DftRefIdeal.main_arg0)) (m ((c.tc : Thread Cert.DftRefIdeal.nD Cert.DftRefIdeal.τ).loc Cert.DftRefIdeal.main_arg1)) (m ((c.tc : Thread Cert.DftRefIdeal.nD Cert.DftRefIdeal.τ).loc Cert.DftRefIdeal.main_arg2))) = (fun _ => 1#1)

def Pre_FourW (m : (ℓ : Loc Cert.FourW.nD Cert.FourW.τ Cert.FourW.sig) → Buf (Elt Bits) ℓ) : Prop :=
  True

def Pre_FourWIdeal (m : (ℓ : Loc Cert.FourWIdeal.nD Cert.FourWIdeal.τ Cert.FourWIdeal.sig) → Buf (Elt Ideal) ℓ) : Prop :=
  True

def Pre_FourWRefIdeal (m : (ℓ : Loc Cert.FourWRefIdeal.nD Cert.FourWRefIdeal.τ Cert.FourWRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attention_layout [hAttnIdeal : Cert.AttnIdeal.Facts] [hPre_attention_layout : Cert.Pre_attention_layout.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_layout m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attention_layout [hAttnRefIdeal : Cert.AttnRefIdeal.Facts] [hPre_attention_layout : Cert.Pre_attention_layout.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_layout m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0)
      ∧ r.2.mem ((c.tc : Thread Cert.Dft.nD Cert.Dft.τ).loc Cert.Dft.main_arg1) = m ((c.tc : Thread Cert.Dft.nD Cert.Dft.τ).loc Cert.Dft.main_arg1)
      ∧ r.2.mem ((c.tc : Thread Cert.Dft.nD Cert.Dft.τ).loc Cert.Dft.main_arg2) = m ((c.tc : Thread Cert.Dft.nD Cert.Dft.τ).loc Cert.Dft.main_arg2))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
      ∧ r.2.mem ((c.tc : Thread Cert.DftIdeal.nD Cert.DftIdeal.τ).loc Cert.DftIdeal.main_arg2) = m ((c.tc : Thread Cert.DftIdeal.nD Cert.DftIdeal.τ).loc Cert.DftIdeal.main_arg2))
      ∧ r.2.sem = fun _ => 0)

def quiescent_DftIdeal_pre_dft_finite [hDftIdeal : Cert.DftIdeal.Facts] [hPre_dft_finite : Cert.Pre_dft_finite.Facts] : Prop :=
  ∀ (m : (ℓ : Loc Cert.DftIdeal.nD Cert.DftIdeal.τ Cert.DftIdeal.sig) → Buf (Elt Ideal) ℓ) (g : Dev Cert.DftIdeal.nD → PrngReg), Pre_DftIdeal_dft_finite m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
      ∧ r.2.mem ((c.tc : Thread Cert.DftIdeal.nD Cert.DftIdeal.τ).loc Cert.DftIdeal.main_arg2) = m ((c.tc : Thread Cert.DftIdeal.nD Cert.DftIdeal.τ).loc Cert.DftIdeal.main_arg2))
      ∧ r.2.sem = fun _ => 0)

def quiescent_DftRefIdeal [hDftRefIdeal : Cert.DftRefIdeal.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0)
      ∧ r.2.mem ((c.tc : Thread Cert.DftRefIdeal.nD Cert.DftRefIdeal.τ).loc Cert.DftRefIdeal.main_arg1) = m ((c.tc : Thread Cert.DftRefIdeal.nD Cert.DftRefIdeal.τ).loc Cert.DftRefIdeal.main_arg1)
      ∧ r.2.mem ((c.tc : Thread Cert.DftRefIdeal.nD Cert.DftRefIdeal.τ).loc Cert.DftRefIdeal.main_arg2) = m ((c.tc : Thread Cert.DftRefIdeal.nD Cert.DftRefIdeal.τ).loc Cert.DftRefIdeal.main_arg2))
      ∧ r.2.sem = fun _ => 0)

def quiescent_DftRefIdeal_pre_dft_finite [hDftRefIdeal : Cert.DftRefIdeal.Facts] [hPre_dft_finite : Cert.Pre_dft_finite.Facts] : Prop :=
  ∀ (m : (ℓ : Loc Cert.DftRefIdeal.nD Cert.DftRefIdeal.τ Cert.DftRefIdeal.sig) → Buf (Elt Ideal) ℓ) (g : Dev Cert.DftRefIdeal.nD → PrngReg), Pre_DftRefIdeal_dft_finite m →
    θ_run (Cert.DftRefIdeal.defs (F := Ideal)) (onTc (τ := Cert.DftRefIdeal.τ) (Cert.DftRefIdeal.main (F := Ideal))) ⟨m, fun _ => 0, g⟩ (fun r => (∀ c : Dev Cert.DftRefIdeal.nD,
      r.2.mem ((c.tc : Thread Cert.DftRefIdeal.nD Cert.DftRefIdeal.τ).loc Cert.DftRefIdeal.main_arg0) = m ((c.tc : Thread Cert.DftRefIdeal.nD Cert.DftRefIdeal.τ).loc Cert.DftRefIdeal.main_arg0)
      ∧ r.2.mem ((c.tc : Thread Cert.DftRefIdeal.nD Cert.DftRefIdeal.τ).loc Cert.DftRefIdeal.main_arg1) = m ((c.tc : Thread Cert.DftRefIdeal.nD Cert.DftRefIdeal.τ).loc Cert.DftRefIdeal.main_arg1)
      ∧ r.2.mem ((c.tc : Thread Cert.DftRefIdeal.nD Cert.DftRefIdeal.τ).loc Cert.DftRefIdeal.main_arg2) = m ((c.tc : Thread Cert.DftRefIdeal.nD Cert.DftRefIdeal.τ).loc Cert.DftRefIdeal.main_arg2))
      ∧ r.2.sem = fun _ => 0)

def quiescent_FourW [hFourW : Cert.FourW.Facts] : Prop :=
  ∀ (m : (ℓ : Loc Cert.FourW.nD Cert.FourW.τ Cert.FourW.sig) → Buf (Elt Bits) ℓ) (g : Dev Cert.FourW.nD → PrngReg), Pre_FourW m →
    θ_run (Cert.FourW.defs (F := Bits)) (onTc (τ := Cert.FourW.τ) (Cert.FourW.main (F := Bits))) ⟨m, fun _ => 0, g⟩ (fun r => (∀ c : Dev Cert.FourW.nD,
      r.2.mem ((c.tc : Thread Cert.FourW.nD Cert.FourW.τ).loc Cert.FourW.main_arg0) = m ((c.tc : Thread Cert.FourW.nD Cert.FourW.τ).loc Cert.FourW.main_arg0))
      ∧ r.2.sem = fun _ => 0)

def quiescent_FourWIdeal [hFourWIdeal : Cert.FourWIdeal.Facts] : Prop :=
  ∀ (m : (ℓ : Loc Cert.FourWIdeal.nD Cert.FourWIdeal.τ Cert.FourWIdeal.sig) → Buf (Elt Ideal) ℓ) (g : Dev Cert.FourWIdeal.nD → PrngReg), Pre_FourWIdeal m →
    θ_run (Cert.FourWIdeal.defs (F := Ideal)) (onTc (τ := Cert.FourWIdeal.τ) (Cert.FourWIdeal.main (F := Ideal))) ⟨m, fun _ => 0, g⟩ (fun r => (∀ c : Dev Cert.FourWIdeal.nD,
      r.2.mem ((c.tc : Thread Cert.FourWIdeal.nD Cert.FourWIdeal.τ).loc Cert.FourWIdeal.main_arg0) = m ((c.tc : Thread Cert.FourWIdeal.nD Cert.FourWIdeal.τ).loc Cert.FourWIdeal.main_arg0))
      ∧ r.2.sem = fun _ => 0)

def quiescent_FourWRefIdeal [hFourWRefIdeal : Cert.FourWRefIdeal.Facts] : Prop :=
  ∀ (m : (ℓ : Loc Cert.FourWRefIdeal.nD Cert.FourWRefIdeal.τ Cert.FourWRefIdeal.sig) → Buf (Elt Ideal) ℓ) (g : Dev Cert.FourWRefIdeal.nD → PrngReg), Pre_FourWRefIdeal m →
    θ_run (Cert.FourWRefIdeal.defs (F := Ideal)) (onTc (τ := Cert.FourWRefIdeal.τ) (Cert.FourWRefIdeal.main (F := Ideal))) ⟨m, fun _ => 0, g⟩ (fun r => (∀ c : Dev Cert.FourWRefIdeal.nD,
      r.2.mem ((c.tc : Thread Cert.FourWRefIdeal.nD Cert.FourWRefIdeal.τ).loc Cert.FourWRefIdeal.main_arg0) = m ((c.tc : Thread Cert.FourWRefIdeal.nD Cert.FourWRefIdeal.τ).loc Cert.FourWRefIdeal.main_arg0))
      ∧ r.2.sem = fun _ => 0)

def preserves_Attn_AttnIdeal : Prop :=
  True

def algebraic_AttnIdeal_AttnRefIdeal_pre_attention_layout [hAttnIdeal : Cert.AttnIdeal.Facts] [hAttnRefIdeal : Cert.AttnRefIdeal.Facts] [hPre_attention_layout : Cert.Pre_attention_layout.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_layout m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v90_0)) (v1 : (c : Dev Cert.InProjIdeal.nD) → Buf (Elt Ideal) ((c.tc : Thread Cert.InProjIdeal.nD Cert.InProjIdeal.τ).loc Cert.InProjIdeal.main_v90_1)) (v2 : (c : Dev Cert.InProjIdeal.nD) → Buf (Elt Ideal) ((c.tc : Thread Cert.InProjIdeal.nD Cert.InProjIdeal.τ).loc Cert.InProjIdeal.main_v90_2)) (v3 : (c : Dev Cert.InProjIdeal.nD) → Buf (Elt Ideal) ((c.tc : Thread Cert.InProjIdeal.nD Cert.InProjIdeal.τ).loc Cert.InProjIdeal.main_v90_3)) (v4 : (c : Dev Cert.InProjIdeal.nD) → Buf (Elt Ideal) ((c.tc : Thread Cert.InProjIdeal.nD Cert.InProjIdeal.τ).loc Cert.InProjIdeal.main_v90_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v90_0) = v0 c
          ∧ r.2.mem ((c.tc : Thread Cert.InProjIdeal.nD Cert.InProjIdeal.τ).loc Cert.InProjIdeal.main_v90_1) = v1 c
          ∧ r.2.mem ((c.tc : Thread Cert.InProjIdeal.nD Cert.InProjIdeal.τ).loc Cert.InProjIdeal.main_v90_2) = v2 c
          ∧ r.2.mem ((c.tc : Thread Cert.InProjIdeal.nD Cert.InProjIdeal.τ).loc Cert.InProjIdeal.main_v90_3) = v3 c
          ∧ r.2.mem ((c.tc : Thread Cert.InProjIdeal.nD Cert.InProjIdeal.τ).loc Cert.InProjIdeal.main_v90_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v121) = v0 c
          ∧ r.2.mem ((c.tc : Thread Cert.InProjRefIdeal.nD Cert.InProjRefIdeal.τ).loc Cert.InProjRefIdeal.main_v123) = v1 c
          ∧ r.2.mem ((c.tc : Thread Cert.InProjRefIdeal.nD Cert.InProjRefIdeal.τ).loc Cert.InProjRefIdeal.main_v124) = v2 c
          ∧ r.2.mem ((c.tc : Thread Cert.InProjRefIdeal.nD Cert.InProjRefIdeal.τ).loc Cert.InProjRefIdeal.main_v125) = v3 c
          ∧ r.2.mem ((c.tc : Thread Cert.InProjRefIdeal.nD Cert.InProjRefIdeal.τ).loc Cert.InProjRefIdeal.main_v126) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Dft_DftIdeal : Prop :=
  True

def algebraic_DftIdeal_DftRefIdeal_pre_dft_finite [hDftIdeal : Cert.DftIdeal.Facts] [hDftRefIdeal : Cert.DftRefIdeal.Facts] [hPre_dft_finite : Cert.Pre_dft_finite.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftRefIdeal.nD Cert.DftRefIdeal.τ Cert.DftRefIdeal.sig) → Buf (Elt Ideal) ℓ) (g' : Dev Cert.DftRefIdeal.nD → PrngReg), Pre_DftIdeal_dft_finite m →
    (∀ c : Dev Cert.DftIdeal.nD,
      m' ((c.tc : Thread Cert.DftRefIdeal.nD Cert.DftRefIdeal.τ).loc Cert.DftRefIdeal.main_arg0) = m ((c.tc : Thread Cert.DftIdeal.nD Cert.DftIdeal.τ).loc Cert.DftIdeal.main_arg0)
      ∧ m' ((c.tc : Thread Cert.DftRefIdeal.nD Cert.DftRefIdeal.τ).loc Cert.DftRefIdeal.main_arg1) = m ((c.tc : Thread Cert.DftIdeal.nD Cert.DftIdeal.τ).loc Cert.DftIdeal.main_arg1)
      ∧ m' ((c.tc : Thread Cert.DftRefIdeal.nD Cert.DftRefIdeal.τ).loc Cert.DftRefIdeal.main_arg2) = m ((c.tc : Thread Cert.DftIdeal.nD Cert.DftIdeal.τ).loc Cert.DftIdeal.main_arg2)) →
    ∃ (v0 : (c : Dev Cert.DftIdeal.nD) → Buf (Elt Ideal) ((c.tc : Thread Cert.DftIdeal.nD Cert.DftIdeal.τ).loc Cert.DftIdeal.main_v1)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v1) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0)
          ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
          ∧ r.2.mem ((c.tc : Thread Cert.DftIdeal.nD Cert.DftIdeal.τ).loc Cert.DftIdeal.main_arg2) = m ((c.tc : Thread Cert.DftIdeal.nD Cert.DftIdeal.τ).loc Cert.DftIdeal.main_arg2))
      ∧ θ_run (Cert.DftRefIdeal.defs (F := Ideal)) (onTc (τ := Cert.DftRefIdeal.τ) (Cert.DftRefIdeal.main (F := Ideal))) ⟨m', fun _ => 0, g'⟩ (fun r => ∀ c : Dev Cert.DftRefIdeal.nD,
          r.2.mem ((c.tc : Thread Cert.DftRefIdeal.nD Cert.DftRefIdeal.τ).loc Cert.DftRefIdeal.main_v41) = v0 c
          ∧ r.2.mem ((c.tc : Thread Cert.DftRefIdeal.nD Cert.DftRefIdeal.τ).loc Cert.DftRefIdeal.main_arg0) = m' ((c.tc : Thread Cert.DftRefIdeal.nD Cert.DftRefIdeal.τ).loc Cert.DftRefIdeal.main_arg0)
          ∧ r.2.mem ((c.tc : Thread Cert.DftRefIdeal.nD Cert.DftRefIdeal.τ).loc Cert.DftRefIdeal.main_arg1) = m' ((c.tc : Thread Cert.DftRefIdeal.nD Cert.DftRefIdeal.τ).loc Cert.DftRefIdeal.main_arg1)
          ∧ r.2.mem ((c.tc : Thread Cert.DftRefIdeal.nD Cert.DftRefIdeal.τ).loc Cert.DftRefIdeal.main_arg2) = m' ((c.tc : Thread Cert.DftRefIdeal.nD Cert.DftRefIdeal.τ).loc Cert.DftRefIdeal.main_arg2))

def preserves_FourW_FourWIdeal : Prop :=
  True

def algebraic_FourWIdeal_FourWRefIdeal [hFourWIdeal : Cert.FourWIdeal.Facts] [hFourWRefIdeal : Cert.FourWRefIdeal.Facts] : Prop :=
  ∀ (m : (ℓ : Loc Cert.FourWIdeal.nD Cert.FourWIdeal.τ Cert.FourWIdeal.sig) → Buf (Elt Ideal) ℓ) (g : Dev Cert.FourWIdeal.nD → PrngReg)
    (m' : (ℓ : Loc Cert.FourWRefIdeal.nD Cert.FourWRefIdeal.τ Cert.FourWRefIdeal.sig) → Buf (Elt Ideal) ℓ) (g' : Dev Cert.FourWRefIdeal.nD → PrngReg), Pre_FourWIdeal m →
    (∀ c : Dev Cert.FourWIdeal.nD,
      m' ((c.tc : Thread Cert.FourWRefIdeal.nD Cert.FourWRefIdeal.τ).loc Cert.FourWRefIdeal.main_arg0) = m ((c.tc : Thread Cert.FourWIdeal.nD Cert.FourWIdeal.τ).loc Cert.FourWIdeal.main_arg0)) →
    ∃ (v0 : (c : Dev Cert.FourWIdeal.nD) → Buf (Elt Ideal) ((c.tc : Thread Cert.FourWIdeal.nD Cert.FourWIdeal.τ).loc Cert.FourWIdeal.main_v16_0)) (v1 : (c : Dev Cert.FourWIdeal.nD) → Buf (Elt Ideal) ((c.tc : Thread Cert.FourWIdeal.nD Cert.FourWIdeal.τ).loc Cert.FourWIdeal.main_v16_1)),
      θ_run (Cert.FourWIdeal.defs (F := Ideal)) (onTc (τ := Cert.FourWIdeal.τ) (Cert.FourWIdeal.main (F := Ideal))) ⟨m, fun _ => 0, g⟩ (fun r => ∀ c : Dev Cert.FourWIdeal.nD,
          r.2.mem ((c.tc : Thread Cert.FourWIdeal.nD Cert.FourWIdeal.τ).loc Cert.FourWIdeal.main_v16_0) = v0 c
          ∧ r.2.mem ((c.tc : Thread Cert.FourWIdeal.nD Cert.FourWIdeal.τ).loc Cert.FourWIdeal.main_v16_1) = v1 c
          ∧ r.2.mem ((c.tc : Thread Cert.FourWIdeal.nD Cert.FourWIdeal.τ).loc Cert.FourWIdeal.main_arg0) = m ((c.tc : Thread Cert.FourWIdeal.nD Cert.FourWIdeal.τ).loc Cert.FourWIdeal.main_arg0))
      ∧ θ_run (Cert.FourWRefIdeal.defs (F := Ideal)) (onTc (τ := Cert.FourWRefIdeal.τ) (Cert.FourWRefIdeal.main (F := Ideal))) ⟨m', fun _ => 0, g'⟩ (fun r => ∀ c : Dev Cert.FourWRefIdeal.nD,
          r.2.mem ((c.tc : Thread Cert.FourWRefIdeal.nD Cert.FourWRefIdeal.τ).loc Cert.FourWRefIdeal.main_v14) = v0 c
          ∧ r.2.mem ((c.tc : Thread Cert.FourWRefIdeal.nD Cert.FourWRefIdeal.τ).loc Cert.FourWRefIdeal.main_v20) = v1 c
          ∧ r.2.mem ((c.tc : Thread Cert.FourWRefIdeal.nD Cert.FourWRefIdeal.τ).loc Cert.FourWRefIdeal.main_arg0) = m' ((c.tc : Thread Cert.FourWRefIdeal.nD Cert.FourWRefIdeal.τ).loc Cert.FourWRefIdeal.main_arg0))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hAda : Cert.Ada.Facts) (hAdaIdeal : Cert.AdaIdeal.Facts) (hAdaRefIdeal : Cert.AdaRefIdeal.Facts) (hDft : Cert.Dft.Facts) (hDftIdeal : Cert.DftIdeal.Facts) (hDftRefIdeal : Cert.DftRefIdeal.Facts) (hFourW : Cert.FourW.Facts) (hFourWIdeal : Cert.FourWIdeal.Facts) (hFourWRefIdeal : Cert.FourWRefIdeal.Facts) (hPre_attention_layout : Cert.Pre_attention_layout.Facts) (hPre_dft_finite : Cert.Pre_dft_finite.Facts),
    quiescent_Attn (hAttn := hAttn)
    ∧ quiescent_AttnIdeal (hAttnIdeal := hAttnIdeal)
    ∧ quiescent_AttnIdeal_pre_attention_layout (hAttnIdeal := hAttnIdeal) (hPre_attention_layout := hPre_attention_layout)
    ∧ quiescent_AttnRefIdeal (hAttnRefIdeal := hAttnRefIdeal)
    ∧ quiescent_AttnRefIdeal_pre_attention_layout (hAttnRefIdeal := hAttnRefIdeal) (hPre_attention_layout := hPre_attention_layout)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Ada (hAda := hAda)
    ∧ quiescent_AdaIdeal (hAdaIdeal := hAdaIdeal)
    ∧ quiescent_AdaRefIdeal (hAdaRefIdeal := hAdaRefIdeal)
    ∧ quiescent_Dft (hDft := hDft)
    ∧ quiescent_DftIdeal (hDftIdeal := hDftIdeal)
    ∧ quiescent_DftIdeal_pre_dft_finite (hDftIdeal := hDftIdeal) (hPre_dft_finite := hPre_dft_finite)
    ∧ quiescent_DftRefIdeal (hDftRefIdeal := hDftRefIdeal)
    ∧ quiescent_DftRefIdeal_pre_dft_finite (hDftRefIdeal := hDftRefIdeal) (hPre_dft_finite := hPre_dft_finite)
    ∧ quiescent_FourW (hFourW := hFourW)
    ∧ quiescent_FourWIdeal (hFourWIdeal := hFourWIdeal)
    ∧ quiescent_FourWRefIdeal (hFourWRefIdeal := hFourWRefIdeal)
    ∧ preserves_Attn_AttnIdeal
    ∧ algebraic_AttnIdeal_AttnRefIdeal_pre_attention_layout (hAttnIdeal := hAttnIdeal) (hAttnRefIdeal := hAttnRefIdeal) (hPre_attention_layout := hPre_attention_layout)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Ada_AdaIdeal
    ∧ algebraic_AdaIdeal_AdaRefIdeal (hAdaIdeal := hAdaIdeal) (hAdaRefIdeal := hAdaRefIdeal)
    ∧ preserves_Dft_DftIdeal
    ∧ algebraic_DftIdeal_DftRefIdeal_pre_dft_finite (hDftIdeal := hDftIdeal) (hDftRefIdeal := hDftRefIdeal) (hPre_dft_finite := hPre_dft_finite)
    ∧ preserves_FourW_FourWIdeal
    ∧ algebraic_FourWIdeal_FourWRefIdeal (hFourWIdeal := hFourWIdeal) (hFourWRefIdeal := hFourWRefIdeal)
-- ==== Pre_attention_layout.lean ====
abbrev S16x16x8x128x256 : Shape := ⟨5, ![16, 16, 8, 128, 256]⟩
abbrev S16x256x128 : Shape := ⟨3, ![16, 256, 128]⟩
abbrev S16x2x1x80x256 : Shape := ⟨5, ![16, 2, 1, 80, 256]⟩
abbrev S16x4096x128 : Shape := ⟨3, ![16, 4096, 128]⟩
abbrev S16x2x16x80x256 : Shape := ⟨5, ![16, 2, 16, 80, 256]⟩
abbrev S16x16x4x64x256 : Shape := ⟨5, ![16, 16, 4, 64, 256]⟩
abbrev S_ : Shape := ⟨0, ![]⟩
abbrev S16x2x1x16x256 : Shape := ⟨5, ![16, 2, 1, 16, 256]⟩
abbrev S16x2x16x16x256 : Shape := ⟨5, ![16, 2, 16, 16, 256]⟩

class Facts : Prop where
  slices_S16x16x8x128x256_S16x16x4x64x256_0_0_0_64_0 : S16x16x8x128x256.Slices ![0, 0, 0, 64, 0] S16x16x4x64x256
  bitsLt_bf16_f32 : FTy.bits .bf16 < FTy.bits .f32
  bcast_S_S16x16x4x64x256 : S_.BroadcastsInDim S16x16x4x64x256 (![] : Fin 0 → Fin S16x16x4x64x256.rank)
  reducesTo_S16x16x4x64x256_S_d0_1_2_3_4 : S16x16x4x64x256.ReducesTo [0, 1, 2, 3, 4] S_
  h_S_ : 0 < S_.numel
  slices_S16x16x8x128x256_S16x16x4x64x256_0_0_4_0_0 : S16x16x8x128x256.Slices ![0, 0, 4, 0, 0] S16x16x4x64x256
  slices_S16x2x1x80x256_S16x2x1x16x256_0_0_0_64_0 : S16x2x1x80x256.Slices ![0, 0, 0, 64, 0] S16x2x1x16x256
  bcast_S_S16x2x1x16x256 : S_.BroadcastsInDim S16x2x1x16x256 (![] : Fin 0 → Fin S16x2x1x16x256.rank)
  reducesTo_S16x2x1x16x256_S_d0_1_2_3_4 : S16x2x1x16x256.ReducesTo [0, 1, 2, 3, 4] S_
  slices_S16x2x16x80x256_S16x2x16x16x256_0_0_0_64_0 : S16x2x16x80x256.Slices ![0, 0, 0, 64, 0] S16x2x16x16x256
  bcast_S_S16x2x16x16x256 : S_.BroadcastsInDim S16x2x16x16x256 (![] : Fin 0 → Fin S16x2x16x16x256.rank)
  reducesTo_S16x2x16x16x256_S_d0_1_2_3_4 : S16x2x16x16x256.ReducesTo [0, 1, 2, 3, 4] S_
  bcast_S_S16x16x8x128x256 : S_.BroadcastsInDim S16x16x8x128x256 (![] : Fin 0 → Fin S16x16x8x128x256.rank)
  reducesTo_S16x16x8x128x256_S_d0_1_2_3_4 : S16x16x8x128x256.ReducesTo [0, 1, 2, 3, 4] S_
  bcast_S_S16x256x128 : S_.BroadcastsInDim S16x256x128 (![] : Fin 0 → Fin S16x256x128.rank)
  reducesTo_S16x256x128_S_d0_1_2 : S16x256x128.ReducesTo [0, 1, 2] S_
  bcast_S_S16x4096x128 : S_.BroadcastsInDim S16x4096x128 (![] : Fin 0 → Fin S16x4096x128.rank)
  reducesTo_S16x4096x128_S_d0_1_2 : S16x4096x128.ReducesTo [0, 1, 2] S_

variable [Facts]

def fn_part2 {F : FTy → Type} [FloatOps F] (main_v10 : IVec S_ 1) (main_v21 : IVec S_ 1) (main_v26 : IVec S_ 1) (main_v31 : IVec S_ 1) (main_v33 : FVec F S16x4096x128 .f32) (main_v34 : FVec F S16x4096x128 .f32) : IVec S_ 1 :=
  let main_v35 : IVec S16x4096x128 1 := cmpf .olt main_v33 main_v34
  let main_c_11 : IVec S_ 1 := constantI S_ 1 1#1
  let main_v36 : IVec S_ 1 := (fun x v => Host.reduce IntOp.andi x v reducesTo_S16x4096x128_S_d0_1_2 h_S_) main_v35 main_c_11
  let main_v37 : IVec S_ 1 := andi main_v31 main_v36
  let main_v38 : IVec S_ 1 := andi main_v26 main_v37
  let main_v39 : IVec S_ 1 := andi main_v10 main_v21
  let main_v40 : IVec S_ 1 := andi main_v38 main_v39
  main_v40

def fn_part1 {F : FTy → Type} [FloatOps F] (main_arg0 : FVec F S16x16x8x128x256 .bf16) (main_arg1 : FVec F S16x256x128 .bf16) (main_arg3 : FVec F S16x4096x128 .bf16) (main_v10 : IVec S_ 1) (main_v15 : IVec S_ 1) (main_v17 : FVec F S16x2x16x16x256 .f32) : IVec S_ 1 :=
  let main_cst_4 : FVec F S_ .f32 := constant S_ .f32 0x3F800000#32
  let main_v18 : FVec F S16x2x16x16x256 .f32 := broadcastInDim S16x2x16x16x256 ![] bcast_S_S16x2x16x16x256 main_cst_4
  let main_v19 : IVec S16x2x16x16x256 1 := cmpf .oeq main_v17 main_v18
  let main_c_5 : IVec S_ 1 := constantI S_ 1 1#1
  let main_v20 : IVec S_ 1 := (fun x v => Host.reduce IntOp.andi x v reducesTo_S16x2x16x16x256_S_d0_1_2_3_4 h_S_) main_v19 main_c_5
  let main_v21 : IVec S_ 1 := andi main_v15 main_v20
  let main_v22 : FVec F S16x16x8x128x256 .f32 := (extf .f32 · bitsLt_bf16_f32) main_arg0
  let main_v23 : FVec F S16x16x8x128x256 .f32 := Host.absf main_v22
  let main_cst_6 : FVec F S_ .f32 := constant S_ .f32 0x7F800000#32
  let main_v24 : FVec F S16x16x8x128x256 .f32 := broadcastInDim S16x16x8x128x256 ![] bcast_S_S16x16x8x128x256 main_cst_6
  let main_v25 : IVec S16x16x8x128x256 1 := cmpf .olt main_v23 main_v24
  let main_c_7 : IVec S_ 1 := constantI S_ 1 1#1
  let main_v26 : IVec S_ 1 := (fun x v => Host.reduce IntOp.andi x v reducesTo_S16x16x8x128x256_S_d0_1_2_3_4 h_S_) main_v25 main_c_7
  let main_v27 : FVec F S16x256x128 .f32 := (extf .f32 · bitsLt_bf16_f32) main_arg1
  let main_v28 : FVec F S16x256x128 .f32 := Host.absf main_v27
  let main_cst_8 : FVec F S_ .f32 := constant S_ .f32 0x7F800000#32
  let main_v29 : FVec F S16x256x128 .f32 := broadcastInDim S16x256x128 ![] bcast_S_S16x256x128 main_cst_8
  let main_v30 : IVec S16x256x128 1 := cmpf .olt main_v28 main_v29
  let main_c_9 : IVec S_ 1 := constantI S_ 1 1#1
  let main_v31 : IVec S_ 1 := (fun x v => Host.reduce IntOp.andi x v reducesTo_S16x256x128_S_d0_1_2 h_S_) main_v30 main_c_9
  let main_v32 : FVec F S16x4096x128 .f32 := (extf .f32 · bitsLt_bf16_f32) main_arg3
  let main_v33 : FVec F S16x4096x128 .f32 := Host.absf main_v32
  let main_cst_10 : FVec F S_ .f32 := constant S_ .f32 0x7F800000#32
  let main_v34 : FVec F S16x4096x128 .f32 := broadcastInDim S16x4096x128 ![] bcast_S_S16x4096x128 main_cst_10
  fn_part2 (F := F) main_v10 main_v21 main_v26 main_v31 main_v33 main_v34

def fn {F : FTy → Type} [FloatOps F] (main_arg0 : FVec F S16x16x8x128x256 .bf16) (main_arg1 : FVec F S16x256x128 .bf16) (main_arg2 : FVec F S16x2x1x80x256 .bf16) (main_arg3 : FVec F S16x4096x128 .bf16) (main_arg4 : FVec F S16x2x16x80x256 .bf16) : IVec S_ 1 :=
  let main_v0 : FVec F S16x16x4x64x256 .bf16 := (extractStridedSlice S16x16x4x64x256 ![0, 0, 0, 64, 0] · slices_S16x16x8x128x256_S16x16x4x64x256_0_0_0_64_0) main_arg0
  let main_v1 : FVec F S16x16x4x64x256 .f32 := (extf .f32 · bitsLt_bf16_f32) main_v0
  let main_cst : FVec F S_ .f32 := constant S_ .f32 0x00000000#32
  let main_v2 : FVec F S16x16x4x64x256 .f32 := broadcastInDim S16x16x4x64x256 ![] bcast_S_S16x16x4x64x256 main_cst
  let main_v3 : IVec S16x16x4x64x256 1 := cmpf .oeq main_v1 main_v2
  let main_c : IVec S_ 1 := constantI S_ 1 1#1
  let main_v4 : IVec S_ 1 := (fun x v => Host.reduce IntOp.andi x v reducesTo_S16x16x4x64x256_S_d0_1_2_3_4 h_S_) main_v3 main_c
  let main_v5 : FVec F S16x16x4x64x256 .bf16 := (extractStridedSlice S16x16x4x64x256 ![0, 0, 4, 0, 0] · slices_S16x16x8x128x256_S16x16x4x64x256_0_0_4_0_0) main_arg0
  let main_v6 : FVec F S16x16x4x64x256 .f32 := (extf .f32 · bitsLt_bf16_f32) main_v5
  let main_cst_0 : FVec F S_ .f32 := constant S_ .f32 0x00000000#32
  let main_v7 : FVec F S16x16x4x64x256 .f32 := broadcastInDim S16x16x4x64x256 ![] bcast_S_S16x16x4x64x256 main_cst_0
  let main_v8 : IVec S16x16x4x64x256 1 := cmpf .oeq main_v6 main_v7
  let main_c_1 : IVec S_ 1 := constantI S_ 1 1#1
  let main_v9 : IVec S_ 1 := (fun x v => Host.reduce IntOp.andi x v reducesTo_S16x16x4x64x256_S_d0_1_2_3_4 h_S_) main_v8 main_c_1
  let main_v10 : IVec S_ 1 := andi main_v4 main_v9
  let main_v11 : FVec F S16x2x1x16x256 .bf16 := (extractStridedSlice S16x2x1x16x256 ![0, 0, 0, 64, 0] · slices_S16x2x1x80x256_S16x2x1x16x256_0_0_0_64_0) main_arg2
  let main_v12 : FVec F S16x2x1x16x256 .f32 := (extf .f32 · bitsLt_bf16_f32) main_v11
  let main_cst_2 : FVec F S_ .f32 := constant S_ .f32 0x3F800000#32
  let main_v13 : FVec F S16x2x1x16x256 .f32 := broadcastInDim S16x2x1x16x256 ![] bcast_S_S16x2x1x16x256 main_cst_2
  let main_v14 : IVec S16x2x1x16x256 1 := cmpf .oeq main_v12 main_v13
  let main_c_3 : IVec S_ 1 := constantI S_ 1 1#1
  let main_v15 : IVec S_ 1 := (fun x v => Host.reduce IntOp.andi x v reducesTo_S16x2x1x16x256_S_d0_1_2_3_4 h_S_) main_v14 main_c_3
  let main_v16 : FVec F S16x2x16x16x256 .bf16 := (extractStridedSlice S16x2x16x16x256 ![0, 0, 0, 64, 0] · slices_S16x2x16x80x256_S16x2x16x16x256_0_0_0_64_0) main_arg4
  let main_v17 : FVec F S16x2x16x16x256 .f32 := (extf .f32 · bitsLt_bf16_f32) main_v16
  fn_part1 (F := F) main_arg0 main_arg1 main_arg3 main_v10 main_v15 main_v17
-- ==== Pre_dft_finite.lean ====
abbrev S2048x4096 : Shape := ⟨2, ![2048, 4096]⟩
abbrev S16x2x2x2048x256 : Shape := ⟨5, ![16, 2, 2, 2048, 256]⟩
abbrev S_ : Shape := ⟨0, ![]⟩
abbrev S16x1x2x2048x256 : Shape := ⟨5, ![16, 1, 2, 2048, 256]⟩
abbrev S16x2x2048x256 : Shape := ⟨4, ![16, 2, 2048, 256]⟩

class Facts : Prop where
  bitsLt_bf16_f32 : FTy.bits .bf16 < FTy.bits .f32
  bcast_S_S2048x4096 : S_.BroadcastsInDim S2048x4096 (![] : Fin 0 → Fin S2048x4096.rank)
  reducesTo_S2048x4096_S_d0_1 : S2048x4096.ReducesTo [0, 1] S_
  h_S_ : 0 < S_.numel
  slices_S16x2x2x2048x256_S16x1x2x2048x256_0_1_0_0_0 : S16x2x2x2048x256.Slices ![0, 1, 0, 0, 0] S16x1x2x2048x256
  shapeCasts_S16x1x2x2048x256_S16x2x2048x256 : S16x1x2x2048x256.ShapeCasts S16x2x2048x256
  bcast_S_S16x2x2048x256 : S_.BroadcastsInDim S16x2x2048x256 (![] : Fin 0 → Fin S16x2x2048x256.rank)
  reducesTo_S16x2x2048x256_S_d0_1_2_3 : S16x2x2048x256.ReducesTo [0, 1, 2, 3] S_

variable [Facts]

def fn {F : FTy → Type} [FloatOps F] (main_arg0 : FVec F S2048x4096 .bf16) (main_arg1 : FVec F S2048x4096 .bf16) (main_arg2 : FVec F S16x2x2x2048x256 .bf16) : IVec S_ 1 :=
  let main_v0 : FVec F S2048x4096 .f32 := (extf .f32 · bitsLt_bf16_f32) main_arg1
  let main_v1 : FVec F S2048x4096 .f32 := Host.absf main_v0
  let main_cst : FVec F S_ .f32 := constant S_ .f32 0x7F800000#32
  let main_v2 : FVec F S2048x4096 .f32 := broadcastInDim S2048x4096 ![] bcast_S_S2048x4096 main_cst
  let main_v3 : IVec S2048x4096 1 := cmpf .olt main_v1 main_v2
  let main_c : IVec S_ 1 := constantI S_ 1 1#1
  let main_v4 : IVec S_ 1 := (fun x v => Host.reduce IntOp.andi x v reducesTo_S2048x4096_S_d0_1 h_S_) main_v3 main_c
  let main_v5 : FVec F S16x1x2x2048x256 .bf16 := (extractStridedSlice S16x1x2x2048x256 ![0, 1, 0, 0, 0] · slices_S16x2x2x2048x256_S16x1x2x2048x256_0_1_0_0_0) main_arg2
  let main_v6 : FVec F S16x2x2048x256 .bf16 := shapeCast S16x2x2048x256 main_v5 shapeCasts_S16x1x2x2048x256_S16x2x2048x256
  let main_v7 : FVec F S16x2x2048x256 .f32 := (extf .f32 · bitsLt_bf16_f32) main_v6
  let main_v8 : FVec F S16x2x2048x256 .f32 := Host.absf main_v7
  let main_cst_0 : FVec F S_ .f32 := constant S_ .f32 0x7F800000#32
  let main_v9 : FVec F S16x2x2048x256 .f32 := broadcastInDim S16x2x2048x256 ![] bcast_S_S16x2x2048x256 main_cst_0
  let main_v10 : IVec S16x2x2048x256 1 := cmpf .olt main_v8 main_v9
  let main_c_1 : IVec S_ 1 := constantI S_ 1 1#1
  let main_v11 : IVec S_ 1 := (fun x v => Host.reduce IntOp.andi x v reducesTo_S16x2x2048x256_S_d0_1_2_3 h_S_) main_v10 main_c_1
  let main_v12 : IVec S_ 1 := andi main_v4 main_v11
  main_v12
-- ==== Attn.lean ====
abbrev S16x16x8x128x256 : Shape := ⟨5, ![16, 16, 8, 128, 256]⟩
abbrev S16x256x128 : Shape := ⟨3, ![16, 256, 128]⟩
abbrev S16x2x1x80x256 : Shape := ⟨5, ![16, 2, 1, 80, 256]⟩
abbrev S16x4096x128 : Shape := ⟨3, ![16, 4096, 128]⟩
abbrev S16x2x16x80x256 : Shape := ⟨5, ![16, 2, 16, 80, 256]⟩
abbrev S16x512x4096 : Shape := ⟨3, ![16, 512, 4096]⟩
abbrev S1x1x8x128x256 : Shape := ⟨5, ![1, 1, 8, 128, 256]⟩
abbrev S1x256x128 : Shape := ⟨3, ![1, 256, 128]⟩
abbrev S1x2x1x80x256 : Shape := ⟨5, ![1, 2, 1, 80, 256]⟩
abbrev S1x4096x128 : Shape := ⟨3, ![1, 4096, 128]⟩
abbrev S1x2x16x80x256 : Shape := ⟨5, ![1, 2, 16, 80, 256]⟩
abbrev S1x512x256 : Shape := ⟨3, ![1, 512, 256]⟩
abbrev S8x1x256 : Shape := ⟨3, ![8, 1, 256]⟩
abbrev S8x80x256 : Shape := ⟨3, ![8, 80, 256]⟩
abbrev S256x128 : Shape := ⟨2, ![256, 128]⟩
abbrev S1x1x1x80x256 : Shape := ⟨5, ![1, 1, 1, 80, 256]⟩
abbrev S80x256 : Shape := ⟨2, ![80, 256]⟩
abbrev S1x1x1x128x256 : Shape := ⟨5, ![1, 1, 1, 128, 256]⟩
abbrev S128x256 : Shape := ⟨2, ![128, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S1x64x256 : Shape := ⟨3, ![1, 64, 256]⟩
abbrev S64x256 : Shape := ⟨2, ![64, 256]⟩

abbrev nBuf : Space → Nat
  | .hbm => 6
  | .vmem => 14
  | .smem => 0
  | _ => 0

abbrev bufTy : (tb : Table) → Fin (tcTables nBuf tb) → BufTy
  | .hbm, ⟨0, _⟩ => ⟨S16x16x8x128x256, .bf16⟩
  | .hbm, ⟨1, _⟩ => ⟨S16x256x128, .bf16⟩
  | .hbm, ⟨2, _⟩ => ⟨S16x2x1x80x256, .bf16⟩
  | .hbm, ⟨3, _⟩ => ⟨S16x4096x128, .bf16⟩
  | .hbm, ⟨4, _⟩ => ⟨S16x2x16x80x256, .bf16⟩
  | .hbm, ⟨5, _⟩ => ⟨S16x512x4096, .bf16⟩
  | .local _ .vmem, ⟨0, _⟩ => ⟨S1x1x8x128x256, .bf16⟩
  | .local _ .vmem, ⟨1, _⟩ => ⟨S1x1x8x128x256, .bf16⟩
  | .local _ .vmem, ⟨2, _⟩ => ⟨S1x256x128, .bf16⟩
  | .local _ .vmem, ⟨3, _⟩ => ⟨S1x256x128, .bf16⟩
  | .local _ .vmem, ⟨4, _⟩ => ⟨S1x2x1x80x256, .bf16⟩
  | .local _ .vmem, ⟨5, _⟩ => ⟨S1x2x1x80x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x2x16x80x256, .bf16⟩
  | .local _ .vmem, ⟨9, _⟩ => ⟨S1x2x16x80x256, .bf16⟩
  | .local _ .vmem, ⟨10, _⟩ => ⟨S1x512x256, .bf16⟩
  | .local _ .vmem, ⟨11, _⟩ => ⟨S1x512x256, .bf16⟩
  | .local _ .vmem, ⟨12, _⟩ => ⟨S8x1x256, .f32⟩
  | .local _ .vmem, ⟨13, _⟩ => ⟨S8x80x256, .f32⟩
  | _, _ => ⟨S16x16x8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x1x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x16x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16x16x8x128x256 : Shape := ⟨5, ![16, 16, 8, 128, 256]⟩
abbrev S16x256x128 : Shape := ⟨3, ![16, 256, 128]⟩
abbrev S16x2x1x80x256 : Shape := ⟨5, ![16, 2, 1, 80, 256]⟩
abbrev S16x4096x128 : Shape := ⟨3, ![16, 4096, 128]⟩
abbrev S16x2x16x80x256 : Shape := ⟨5, ![16, 2, 16, 80, 256]⟩
abbrev S16x16x4x64x256 : Shape := ⟨5, ![16, 16, 4, 64, 256]⟩
abbrev S16x16x8x64x256 : Shape := ⟨5, ![16, 16, 8, 64, 256]⟩
abbrev S16x16x256x8x64 : Shape := ⟨5, ![16, 16, 256, 8, 64]⟩
abbrev S16x4096x2x4x64 : Shape := ⟨5, ![16, 4096, 2, 4, 64]⟩
abbrev S16x4352x128 : Shape := ⟨3, ![16, 4352, 128]⟩
abbrev S16x4352x2x64 : Shape := ⟨4, ![16, 4352, 2, 64]⟩
abbrev S16x2x1x64x256 : Shape := ⟨5, ![16, 2, 1, 64, 256]⟩
abbrev S16x2x16x64x256 : Shape := ⟨5, ![16, 2, 16, 64, 256]⟩
abbrev S16x2x17x64x256 : Shape := ⟨5, ![16, 2, 17, 64, 256]⟩
abbrev S16x17x256x2x64 : Shape := ⟨5, ![16, 17, 256, 2, 64]⟩
abbrev S16x2x4352x4096x4 : Shape := ⟨5, ![16, 2, 4352, 4096, 4]⟩
abbrev S16x2x4x4096x4352 : Shape := ⟨5, ![16, 2, 4, 4096, 4352]⟩
abbrev S_ : Shape := ⟨0, ![]⟩
abbrev S16x2x4x4096 : Shape := ⟨4, ![16, 2, 4, 4096]⟩
abbrev S16x2x4x4096x1 : Shape := ⟨5, ![16, 2, 4, 4096, 1]⟩
abbrev S16x2x64x4x4096 : Shape := ⟨5, ![16, 2, 64, 4, 4096]⟩
abbrev S16x4096x512 : Shape := ⟨3, ![16, 4096, 512]⟩
abbrev S16x512x4096 : Shape := ⟨3, ![16, 512, 4096]⟩

abbrev nBuf : Space → Nat
  | .hbm => 45
  | .vmem => 0
  | .smem => 0
  | _ => 0

abbrev bufTy : (tb : Table) → Fin (tcTables nBuf tb) → BufTy
  | .hbm, ⟨0, _⟩ => ⟨S16x16x8x128x256, .bf16⟩
  | .hbm, ⟨1, _⟩ => ⟨S16x256x128, .bf16⟩
  | .hbm, ⟨2, _⟩ => ⟨S16x2x1x80x256, .bf16⟩
  | .hbm, ⟨3, _⟩ => ⟨S16x4096x128, .bf16⟩
  | .hbm, ⟨4, _⟩ => ⟨S16x2x16x80x256, .bf16⟩
  | .hbm, ⟨5, _⟩ => ⟨S16x16x8x128x256, .f32⟩
  | .hbm, ⟨6, _⟩ => ⟨S16x16x4x64x256, .f32⟩
  | .hbm, ⟨7, _⟩ => ⟨S16x16x4x64x256, .f32⟩
  | .hbm, ⟨8, _⟩ => ⟨S16x16x8x64x256, .f32⟩
  | .hbm, ⟨9, _⟩ => ⟨S16x16x256x8x64, .f32⟩
  | .hbm, ⟨10, _⟩ => ⟨S16x4096x2x4x64, .f32⟩
  | .hbm, ⟨11, _⟩ => ⟨S16x4352x128, .bf16⟩
  | .hbm, ⟨12, _⟩ => ⟨S16x4352x128, .f32⟩
  | .hbm, ⟨13, _⟩ => ⟨S16x4352x2x64, .f32⟩
  | .hbm, ⟨14, _⟩ => ⟨S16x2x1x64x256, .bf16⟩
  | .hbm, ⟨15, _⟩ => ⟨S16x2x16x64x256, .bf16⟩
  | .hbm, ⟨16, _⟩ => ⟨S16x2x17x64x256, .bf16⟩
  | .hbm, ⟨17, _⟩ => ⟨S16x2x17x64x256, .f32⟩
  | .hbm, ⟨18, _⟩ => ⟨S16x17x256x2x64, .f32⟩
  | .hbm, ⟨19, _⟩ => ⟨S16x4352x2x64, .f32⟩
  | .hbm, ⟨20, _⟩ => ⟨S16x2x4352x4096x4, .f32⟩
  | .hbm, ⟨21, _⟩ => ⟨S16x2x4x4096x4352, .f32⟩
  | .hbm, ⟨22, _⟩ => ⟨S_, .f32⟩
  | .hbm, ⟨23, _⟩ => ⟨S_, .f32⟩
  | .hbm, ⟨24, _⟩ => ⟨S16x2x4x4096x4352, .f32⟩
  | .hbm, ⟨25, _⟩ => ⟨S16x2x4x4096x4352, .f32⟩
  | .hbm, ⟨26, _⟩ => ⟨S_, .f32⟩
  | .hbm, ⟨27, _⟩ => ⟨S16x2x4x4096, .f32⟩
  | .hbm, ⟨28, _⟩ => ⟨S_, .f32⟩
  | .hbm, ⟨29, _⟩ => ⟨S16x2x4x4096, .f32⟩
  | .hbm, ⟨30, _⟩ => ⟨S16x2x4x4096, .f32⟩
  | .hbm, ⟨31, _⟩ => ⟨S16x2x4x4096x1, .f32⟩
  | .hbm, ⟨32, _⟩ => ⟨S16x2x4x4096x4352, .f32⟩
  | .hbm, ⟨33, _⟩ => ⟨S16x2x4x4096x4352, .f32⟩
  | .hbm, ⟨34, _⟩ => ⟨S16x2x4x4096x4352, .f32⟩
  | .hbm, ⟨35, _⟩ => ⟨S_, .f32⟩
  | .hbm, ⟨36, _⟩ => ⟨S16x2x4x4096, .f32⟩
  | .hbm, ⟨37, _⟩ => ⟨S16x2x4x4096x1, .f32⟩
  | .hbm, ⟨38, _⟩ => ⟨S16x2x4x4096x4352, .f32⟩
  | .hbm, ⟨39, _⟩ => ⟨S16x2x4x4096x4352, .f32⟩
  | .hbm, ⟨40, _⟩ => ⟨S16x2x64x4x4096, .f32⟩
  | .hbm, ⟨41, _⟩ => ⟨S16x4096x2x4x64, .f32⟩
  | .hbm, ⟨42, _⟩ => ⟨S16x4096x512, .f32⟩
  | .hbm, ⟨43, _⟩ => ⟨S16x512x4096, .f32⟩
  | .hbm, ⟨44, _⟩ => ⟨S16x512x4096, .bf16⟩
  | _, _ => ⟨S16x16x8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Ffn.lean ====
abbrev S16x4096x1024 : Shape := ⟨3, ![16, 4096, 1024]⟩
abbrev S16x512x4096 : Shape := ⟨3, ![16, 512, 4096]⟩
abbrev S16x4096x256 : Shape := ⟨3, ![16, 4096, 256]⟩
abbrev S16x1x1024 : Shape := ⟨3, ![16, 1, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x1x1024 : Shape := ⟨3, ![1, 1, 1024]⟩
abbrev S512x512 : Shape := ⟨2, ![512, 512]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1024x256 : Shape := ⟨2, ![1024, 256]⟩

abbrev nBuf : Space → Nat
  | .hbm => 17
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x512x4096, .bf16⟩
  | .hbm, ⟨2, _⟩ => ⟨S16x4096x256, .bf16⟩
  | .hbm, ⟨3, _⟩ => ⟨S16x4096x256, .bf16⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S1024x1024, .bf16⟩
  | .hbm, ⟨13, _⟩ => ⟨S1024x5632, .bf16⟩
  | .hbm, ⟨14, _⟩ => ⟨S2816x1024, .bf16⟩
  | .hbm, ⟨15, _⟩ => ⟨S1x1024, .f32⟩
  | .hbm, ⟨16, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x5632, .bf16⟩
  | .local _ .vmem, ⟨19, _⟩ => ⟨S2816x1024, .bf16⟩
  | .local _ .vmem, ⟨20, _⟩ => ⟨S1x512x1024, .f32⟩
  | .local _ .vmem, ⟨21, _⟩ => ⟨S1x512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x5632 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== FfnRefIdeal.lean ====
abbrev S16x4096x1024 : Shape := ⟨3, ![16, 4096, 1024]⟩
abbrev S16x512x4096 : Shape := ⟨3, ![16, 512, 4096]⟩
abbrev S16x4096x256 : Shape := ⟨3, ![16, 4096, 256]⟩
abbrev S16x1x1024 : Shape := ⟨3, ![16, 1, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S16x4096x512 : Shape := ⟨3, ![16, 4096, 512]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4096x2816 : Shape := ⟨3, ![16, 4096, 2816]⟩

abbrev nBuf : Space → Nat
  | .hbm => 61
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x512x4096, .bf16⟩
  | .hbm, ⟨2, _⟩ => ⟨S16x4096x256, .bf16⟩
  | .hbm, ⟨3, _⟩ => ⟨S16x4096x256, .bf16⟩
  | .hbm, ⟨4, _⟩ => ⟨S16x1x1024, .f32⟩
  | .hbm, ⟨5, _⟩ => ⟨S16x1x1024, .f32⟩
  | .hbm, ⟨6, _⟩ => ⟨S16x1x1024, .f32⟩
  | .hbm, ⟨7, _⟩ => ⟨S16x1x1024, .f32⟩
  | .hbm, ⟨8, _⟩ => ⟨S1024, .f32⟩
  | .hbm, ⟨9, _⟩ => ⟨S1024x1024, .f32⟩
  | .hbm, ⟨10, _⟩ => ⟨S1024x5632, .f32⟩
  | .hbm, ⟨11, _⟩ => ⟨S2816x1024, .f32⟩
  | .hbm, ⟨12, _⟩ => ⟨S16x512x4096, .f32⟩
  | .hbm, ⟨13, _⟩ => ⟨S16x4096x512, .f32⟩
  | .hbm, ⟨14, _⟩ => ⟨S16x4096x256, .f32⟩
  | .hbm, ⟨15, _⟩ => ⟨S16x4096x256, .f32⟩
  | .hbm, ⟨16, _⟩ => ⟨S16x4096x1024, .f32⟩
  | .hbm, ⟨17, _⟩ => ⟨S16x4096x1024, .f32⟩
  | .hbm, ⟨18, _⟩ => ⟨S16x4096x1024, .f32⟩
  | .hbm, ⟨19, _⟩ => ⟨S16x4096x1024, .f32⟩
  | .hbm, ⟨20, _⟩ => ⟨S16x4096x1024, .f32⟩
  | .hbm, ⟨21, _⟩ => ⟨S16x4096x1024, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S_, .f32⟩
  | .hbm, ⟨26, _⟩ => ⟨S16x4096x1, .f32⟩
  | .hbm, ⟨27, _⟩ => ⟨S16x4096x1, .f32⟩
  | .hbm, ⟨28, _⟩ => ⟨S_, .f32⟩
  | .hbm, ⟨29, _⟩ => ⟨S16x4096x1, .f32⟩
  | .hbm, ⟨30, _⟩ => ⟨S16x4096x1, .f32⟩
  | .hbm, ⟨31, _⟩ => ⟨S16x4096x1, .f32⟩
  | .hbm, ⟨32, _⟩ => ⟨S16x4096x1024, .f32⟩
  | .hbm, ⟨33, _⟩ => ⟨S16x4096x1024, .f32⟩
  | .hbm, ⟨34, _⟩ => ⟨S1x1x1024, .f32⟩
  | .hbm, ⟨35, _⟩ => ⟨S16x4096x1024, .f32⟩
  | .hbm, ⟨36, _⟩ => ⟨S16x4096x1024, .f32⟩
  | .hbm, ⟨37, _⟩ => ⟨S_, .f32⟩
  | .hbm, ⟨38, _⟩ => ⟨S16x1x1024, .f32⟩
  | .hbm, ⟨39, _⟩ => ⟨S16x1x1024, .f32⟩
  | .hbm, ⟨40, _⟩ => ⟨S16x4096x1024, .f32⟩
  | .hbm, ⟨41, _⟩ => ⟨S16x4096x1024, .f32⟩
  | .hbm, ⟨42, _⟩ => ⟨S16x4096x1024, .f32⟩
  | .hbm, ⟨43, _⟩ => ⟨S16x4096x1024, .f32⟩
  | .hbm, ⟨44, _⟩ => ⟨S16x4096x5632, .f32⟩
  | .hbm, ⟨45, _⟩ => ⟨S16x4096x2816, .f32⟩
  | .hbm, ⟨46, _⟩ => ⟨S16x4096x2816, .f32⟩
  | .hbm, ⟨47, _⟩ => ⟨S16x4096x2816, .f32⟩
  | .hbm, ⟨48, _⟩ => ⟨S16x4096x2816, .f32⟩
  | .hbm, ⟨49, _⟩ => ⟨S_, .f32⟩
  | .hbm, ⟨50, _⟩ => ⟨S16x4096x2816, .f32⟩
  | .hbm, ⟨51, _⟩ => ⟨S16x4096x2816, .f32⟩
  | .hbm, ⟨52, _⟩ => ⟨S_, .f32⟩
  | .hbm, ⟨53, _⟩ => ⟨S16x4096x2816, .f32⟩
  | .hbm, ⟨54, _⟩ => ⟨S16x4096x2816, .f32⟩
  | .hbm, ⟨55, _⟩ => ⟨S16x4096x2816, .f32⟩
  | .hbm, ⟨56, _⟩ => ⟨S16x4096x2816, .f32⟩
  | .hbm, ⟨57, _⟩ => ⟨S16x4096x1024, .f32⟩
  | .hbm, ⟨58, _⟩ => ⟨S16x4096x1024, .f32⟩
  | .hbm, ⟨59, _⟩ => ⟨S16x4096x1024, .f32⟩
  | .hbm, ⟨60, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== InProj.lean ====
abbrev S16x4096x1024 : Shape := ⟨3, ![16, 4096, 1024]⟩
abbrev S16x1x1024 : Shape := ⟨3, ![16, 1, 1024]⟩
abbrev S1024 : Shape := ⟨1, ![1024]⟩
abbrev S1024x1280 : Shape := ⟨2, ![1024, 1280]⟩
abbrev S64 : Shape := ⟨1, ![64]⟩
abbrev S4096x2x16 : Shape := ⟨3, ![4096, 2, 16]⟩
abbrev S4x64x64 : Shape := ⟨3, ![4, 64, 64]⟩
abbrev S1024x512 : Shape := ⟨2, ![1024, 512]⟩
abbrev S1024x128 : Shape := ⟨2, ![1024, 128]⟩
abbrev S1024x640 : Shape := ⟨2, ![1024, 640]⟩
abbrev S640x1024 : Shape := ⟨2, ![640, 1024]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S2x64x64 : Shape := ⟨3, ![2, 64, 64]⟩
abbrev S2x2 : Shape := ⟨2, ![2, 2]⟩
abbrev S2x1x2x1 : Shape := ⟨4, ![2, 1, 2, 1]⟩
abbrev S2x64x1x64 : Shape := ⟨4, ![2, 64, 1, 64]⟩
abbrev S2x64x2x64 : Shape := ⟨4, ![2, 64, 2, 64]⟩
abbrev S128x128 : Shape := ⟨2, ![128, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x1024 : Shape := ⟨2, ![1, 1024]⟩
abbrev S4096x2x32 : Shape := ⟨3, ![4096, 2, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S2x2x16 : Shape := ⟨3, ![2, 2, 16]⟩
abbrev S2x16x4096 : Shape := ⟨3, ![2, 16, 4096]⟩
abbrev S2x1x16 : Shape := ⟨3, ![2, 1, 16]⟩
abbrev S2x16 : Shape := ⟨2, ![2, 16]⟩
abbrev S2x16x1 : Shape := ⟨3, ![2, 16, 1]⟩
abbrev S2x1x16x4096 : Shape := ⟨4, ![2, 1, 16, 4096]⟩
abbrev S2x4x16x4096 : Shape := ⟨4, ![2, 4, 16, 4096]⟩
abbrev S128x4096 : Shape := ⟨2, ![128, 4096]⟩
abbrev S16x16x8x128x256 : Shape := ⟨5, ![16, 16, 8, 128, 256]⟩
abbrev S16x4096x128 : Shape := ⟨3, ![16, 4096, 128]⟩
abbrev S16x2x16x80x256 : Shape := ⟨5, ![16, 2, 16, 80, 256]⟩
abbrev S16x4096x256 : Shape := ⟨3, ![16, 4096, 256]⟩
abbrev S16x2x2x2048x256 : Shape := ⟨5, ![16, 2, 2, 2048, 256]⟩
abbrev S1x1024x1024 : Shape := ⟨3, ![1, 1024, 1024]⟩
abbrev S1x1x1024 : Shape := ⟨3, ![1, 1, 1024]⟩
abbrev S128x1024 : Shape := ⟨2, ![128, 1024]⟩
abbrev S1x4x8x128x256 : Shape := ⟨5, ![1, 4, 8, 128, 256]⟩
abbrev S1x1024x128 : Shape := ⟨3, ![1, 1024, 128]⟩
abbrev S1x2x4x80x256 : Shape := ⟨5, ![1, 2, 4, 80, 256]⟩
abbrev S1x1024x256 : Shape := ⟨3, ![1, 1024, 256]⟩
abbrev S1x2x2x512x256 : Shape := ⟨5, ![1, 2, 2, 512, 256]⟩
abbrev S4x256x128 : Shape := ⟨3, ![4, 256, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S640x256 : Shape := ⟨2, ![640, 256]⟩
abbrev S256x640 : Shape := ⟨2, ![256, 640]⟩
abbrev S128x256 : Shape := ⟨2, ![128, 256]⟩
abbrev S64x256 : Shape := ⟨2, ![64, 256]⟩
abbrev S1x256 : Shape := ⟨2, ![1, 256]⟩
abbrev S16x256 : Shape := ⟨2, ![16, 256]⟩
abbrev S1x1x1x64x256 : Shape := ⟨5, ![1, 1, 1, 64, 256]⟩
abbrev S1x1x1x16x256 : Shape := ⟨5, ![1, 1, 1, 16, 256]⟩
abbrev S256x128 : Shape := ⟨2, ![256, 128]⟩
abbrev S1x256x128 : Shape := ⟨3, ![1, 256, 128]⟩
abbrev S1x256x256 : Shape := ⟨3, ![1, 256, 256]⟩
abbrev S1x128x128 : Shape := ⟨3, ![1, 128, 128]⟩
abbrev S1x1x1x128x128 : Shape := ⟨5, ![1, 1, 1, 128, 128]⟩

abbrev nBuf : Space → Nat
  | .hbm => 111
  | .vmem => 29
  | .smem => 0
  | _ => 0

abbrev bufTy : (tb : Table) → Fin (tcTables nBuf tb) → BufTy
  | .hbm, ⟨0, _⟩ => ⟨S16x4096x1024, .f32⟩
  | .hbm, ⟨1, _⟩ => ⟨S16x1x1024, .f32⟩
  | .hbm, ⟨2, _⟩ => ⟨S16x1x1024, .f32⟩
  | .hbm, ⟨3, _⟩ => ⟨S1024, .f32⟩
  | .hbm, ⟨4, _⟩ => ⟨S1024x1280, .f32⟩
  | .hbm, ⟨5, _⟩ => ⟨S64, .f32⟩
  | .hbm, ⟨6, _⟩ => ⟨S64, .f32⟩
  | .hbm, ⟨7, _⟩ => ⟨S4096x2x16, .f32⟩
  | .hbm, ⟨8, _⟩ => ⟨S4096x2x16, .f32⟩
  | .hbm, ⟨9, _⟩ => ⟨S4x64x64, .f32⟩
  | .hbm, ⟨10, _⟩ => ⟨S4x64x64, .f32⟩
  | .hbm, ⟨11, _⟩ => ⟨S1024x512, .f32⟩
  | .hbm, ⟨12, _⟩ => ⟨S1024x128, .f32⟩
  | .hbm, ⟨13, _⟩ => ⟨S1024x640, .f32⟩
  | .hbm, ⟨14, _⟩ => ⟨S640x1024, .f32⟩
  | .hbm, ⟨15, _⟩ => ⟨S640x1024, .bf16⟩
  | .hbm, ⟨16, _⟩ => ⟨S1024x128, .f32⟩
  | .hbm, ⟨17, _⟩ => ⟨S1024x512, .f32⟩
  | .hbm, ⟨18, _⟩ => ⟨S1024x640, .f32⟩
  | .hbm, ⟨19, _⟩ => ⟨S1024x640, .bf16⟩
  | .hbm, ⟨20, _⟩ => ⟨S4x4, .i32⟩
  | .hbm, ⟨21, _⟩ => ⟨S4x4, .i32⟩
  | .hbm, ⟨22, _⟩ => ⟨S_, .i32⟩
  | .hbm, ⟨23, _⟩ => ⟨S4x4, .i32⟩
  | .hbm, ⟨24, _⟩ => ⟨S4x4, .i32⟩
  | .hbm, ⟨25, _⟩ => ⟨S4x4, .i1⟩
  | .hbm, ⟨26, _⟩ => ⟨S4x4, .f32⟩
  | .hbm, ⟨27, _⟩ => ⟨S4x1x4x1, .f32⟩
  | .hbm, ⟨28, _⟩ => ⟨S4x64x1x64, .f32⟩
  | .hbm, ⟨29, _⟩ => ⟨S4x64x4x64, .f32⟩
  | .hbm, ⟨30, _⟩ => ⟨S4x64x4x64, .f32⟩
  | .hbm, ⟨31, _⟩ => ⟨S4x64x4x64, .f32⟩
  | .hbm, ⟨32, _⟩ => ⟨S256x256, .f32⟩
  | .hbm, ⟨33, _⟩ => ⟨S4x4, .i32⟩
  | .hbm, ⟨34, _⟩ => ⟨S4x4, .i32⟩
  | .hbm, ⟨35, _⟩ => ⟨S_, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S4x4, .f32⟩
  | .hbm, ⟨40, _⟩ => ⟨S4x1x4x1, .f32⟩
  | .hbm, ⟨41, _⟩ => ⟨S4x64x1x64, .f32⟩
  | .hbm, ⟨42, _⟩ => ⟨S4x64x4x64, .f32⟩
  | .hbm, ⟨43, _⟩ => ⟨S4x64x4x64, .f32⟩
  | .hbm, ⟨44, _⟩ => ⟨S4x64x4x64, .f32⟩
  | .hbm, ⟨45, _⟩ => ⟨S256x256, .f32⟩
  | .hbm, ⟨46, _⟩ => ⟨S256x512, .f32⟩
  | .hbm, ⟨47, _⟩ => ⟨S256x512, .bf16⟩
  | .hbm, ⟨48, _⟩ => ⟨S_, .f32⟩
  | .hbm, ⟨49, _⟩ => ⟨S2x64x64, .f32⟩
  | .hbm, ⟨50, _⟩ => ⟨S2x2, .i32⟩
  | .hbm, ⟨51, _⟩ => ⟨S2x2, .i32⟩
  | .hbm, ⟨52, _⟩ => ⟨S_, .i32⟩
  | .hbm, ⟨53, _⟩ => ⟨S2x2, .i32⟩
  | .hbm, ⟨54, _⟩ => ⟨S2x2, .i32⟩
  | .hbm, ⟨55, _⟩ => ⟨S2x2, .i1⟩
  | .hbm, ⟨56, _⟩ => ⟨S2x2, .f32⟩
  | .hbm, ⟨57, _⟩ => ⟨S2x1x2x1, .f32⟩
  | .hbm, ⟨58, _⟩ => ⟨S2x64x1x64, .f32⟩
  | .hbm, ⟨59, _⟩ => ⟨S2x64x2x64, .f32⟩
  | .hbm, ⟨60, _⟩ => ⟨S2x64x2x64, .f32⟩
  | .hbm, ⟨61, _⟩ => ⟨S2x64x2x64, .f32⟩
  | .hbm, ⟨62, _⟩ => ⟨S128x128, .f32⟩
  | .hbm, ⟨63, _⟩ => ⟨S128x128, .bf16⟩
  | .hbm, ⟨64, _⟩ => ⟨S1x64, .f32⟩
  | .hbm, ⟨65, _⟩ => ⟨S2x64, .f32⟩
  | .hbm, ⟨66, _⟩ => ⟨S128, .f32⟩
  | .hbm, ⟨67, _⟩ => ⟨S1x128, .f32⟩
  | .hbm, ⟨68, _⟩ => ⟨S1x1024, .f32⟩
  | .hbm, ⟨69, _⟩ => ⟨S4096x2x32, .f32⟩
  | .hbm, ⟨70, _⟩ => ⟨S4096x64, .f32⟩
  | .hbm, ⟨71, _⟩ => ⟨S4096x2x16, .f32⟩
  | .hbm, ⟨72, _⟩ => ⟨S4096x2x32, .f32⟩
  | .hbm, ⟨73, _⟩ => ⟨S4096x64, .f32⟩
  | .hbm, ⟨74, _⟩ => ⟨S1x4096x1x64, .f32⟩
  | .hbm, ⟨75, _⟩ => ⟨S1x4096x2x64, .f32⟩
  | .hbm, ⟨76, _⟩ => ⟨S4096x128, .f32⟩
  | .hbm, ⟨77, _⟩ => ⟨S1x4096x1x64, .f32⟩
  | .hbm, ⟨78, _⟩ => ⟨S1x4096x2x64, .f32⟩
  | .hbm, ⟨79, _⟩ => ⟨S4096x128, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S2x2x16, .f32⟩
  | .hbm, ⟨84, _⟩ => ⟨S2x16x4096, .f32⟩
  | .hbm, ⟨85, _⟩ => ⟨S2x16x4096, .f32⟩
  | .hbm, ⟨86, _⟩ => ⟨S2x1x16, .f32⟩
  | .hbm, ⟨87, _⟩ => ⟨S2x16, .f32⟩
  | .hbm, ⟨88, _⟩ => ⟨S2x16x1, .f32⟩
  | .hbm, ⟨89, _⟩ => ⟨S2x1x16, .f32⟩
  | .hbm, ⟨90, _⟩ => ⟨S2x16, .f32⟩
  | .hbm, ⟨91, _⟩ => ⟨S2x16x1, .f32⟩
  | .hbm, ⟨92, _⟩ => ⟨S2x16x4096, .f32⟩
  | .hbm, ⟨93, _⟩ => ⟨S2x16x4096, .f32⟩
  | .hbm, ⟨94, _⟩ => ⟨S2x16x4096, .f32⟩
  | .hbm, ⟨95, _⟩ => ⟨S2x16x4096, .f32⟩
  | .hbm, ⟨96, _⟩ => ⟨S2x16x4096, .f32⟩
  | .hbm, ⟨97, _⟩ => ⟨S2x16x4096, .f32⟩
  | .hbm, ⟨98, _⟩ => ⟨S2x16x4096, .f32⟩
  | .hbm, ⟨99, _⟩ => ⟨S2x16x4096, .f32⟩
  | .hbm, ⟨100, _⟩ => ⟨S2x1x16x4096, .f32⟩
  | .hbm, ⟨101, _⟩ => ⟨S2x1x16x4096, .f32⟩
  | .hbm, ⟨102, _⟩ => ⟨S2x1x16x4096, .f32⟩
  | .hbm, ⟨103, _⟩ => ⟨S2x1x16x4096, .f32⟩
  | .hbm, ⟨104, _⟩ => ⟨S2x4x16x4096, .f32⟩
  | .hbm, ⟨105, _⟩ => ⟨S128x4096, .f32⟩
  | .hbm, ⟨106, _⟩ => ⟨S16x16x8x128x256, .bf16⟩
  | .hbm, ⟨107, _⟩ => ⟨S16x4096x128, .bf16⟩
  | .hbm, ⟨108, _⟩ => ⟨S16x2x16x80x256, .bf16⟩
  | .hbm, ⟨109, _⟩ => ⟨S16x4096x256, .f32⟩
  | .hbm, ⟨110, _⟩ => ⟨S16x2x2x2048x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S640x1024, .bf16⟩
  | .local _ .vmem, ⟨8, _⟩ => ⟨S1024x640, .bf16⟩
  | .local _ .vmem, ⟨9, _⟩ => ⟨S128x128, .bf16⟩
  | .local _ .vmem, ⟨10, _⟩ => ⟨S1x128, .f32⟩
  | .local _ .vmem, ⟨11, _⟩ => ⟨S128x1024, .f32⟩
  | .local _ .vmem, ⟨12, _⟩ => ⟨S128x1024, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S256x512, .bf16⟩
  | .local _ .vmem, ⟨18, _⟩ => ⟨S1x4x8x128x256, .bf16⟩
  | .local _ .vmem, ⟨19, _⟩ => ⟨S1x4x8x128x256, .bf16⟩
  | .local _ .vmem, ⟨20, _⟩ => ⟨S1x1024x128, .bf16⟩
  | .local _ .vmem, ⟨21, _⟩ => ⟨S1x1024x128, .bf16⟩
  | .local _ .vmem, ⟨22, _⟩ => ⟨S1x2x4x80x256, .bf16⟩
  | .local _ .vmem, ⟨23, _⟩ => ⟨S1x2x4x80x256, .bf16⟩
  | .local _ .vmem, ⟨24, _⟩ => ⟨S1x1024x256, .f32⟩
  | .local _ .vmem, ⟨25, _⟩ => ⟨S1x1024x256, .f32⟩
  | .local _ .vmem, ⟨26, _⟩ => ⟨S1x2x2x512x256, .bf16⟩
  | .local _ .vmem, ⟨27, _⟩ => ⟨S1x2x2x512x256, .bf16⟩
  | .local _ .vmem, ⟨28, _⟩ => ⟨S4x256x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_1 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_2 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90_0 : Ref sig .tc := ⟨.hbm, 106, rfl⟩
abbrev main_v90_1 : Ref sig .tc := ⟨.hbm, 107, rfl⟩
abbrev main_v90_2 : Ref sig .tc := ⟨.hbm, 108, rfl⟩
abbrev main_v90_3 : Ref sig .tc := ⟨.hbm, 109, rfl⟩
abbrev main_v90_4 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x4x8x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x4x80x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x2x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InProjRefIdeal.lean ====
abbrev S16x4096x1024 : Shape := ⟨3, ![16, 4096, 1024]⟩
abbrev S16x1x1024 : Shape := ⟨3, ![16, 1, 1024]⟩
abbrev S1024 : Shape := ⟨1, ![1024]⟩
abbrev S1024x1280 : Shape := ⟨2, ![1024, 1280]⟩
abbrev S64 : Shape := ⟨1, ![64]⟩
abbrev S4096x2x16 : Shape := ⟨3, ![4096, 2, 16]⟩
abbrev S4x64x64 : Shape := ⟨3, ![4, 64, 64]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x1280 : Shape := ⟨3, ![16, 4096, 1280]⟩
abbrev S16x4096x512 : Shape := ⟨3, ![16, 4096, 512]⟩
abbrev S16x4096x8x64 : Shape := ⟨4, ![16, 4096, 8, 64]⟩
abbrev S16x4096x8 : Shape := ⟨3, ![16, 4096, 8]⟩
abbrev S16x4096x8x1 : Shape := ⟨4, ![16, 4096, 8, 1]⟩
abbrev S1x1x1x64 : Shape := ⟨4, ![1, 1, 1, 64]⟩
abbrev S16x4096x8x2x2x16 : Shape := ⟨6, ![16, 4096, 8, 2, 2, 16]⟩
abbrev S16x4096x8x2x1x16 : Shape := ⟨6, ![16, 4096, 8, 2, 1, 16]⟩
abbrev S16x4096x8x2x16 : Shape := ⟨5, ![16, 4096, 8, 2, 16]⟩
abbrev S1x4096x1x2x16 : Shape := ⟨5, ![1, 4096, 1, 2, 16]⟩
abbrev S16x4096x128 : Shape := ⟨3, ![16, 4096, 128]⟩
abbrev S16x4096x2x64 : Shape := ⟨4, ![16, 4096, 2, 64]⟩
abbrev S16x4096x2 : Shape := ⟨3, ![16, 4096, 2]⟩
abbrev S16x4096x2x1 : Shape := ⟨4, ![16, 4096, 2, 1]⟩
abbrev S16x4096x2x2x2x16 : Shape := ⟨6, ![16, 4096, 2, 2, 2, 16]⟩
abbrev S16x4096x2x2x1x16 : Shape := ⟨6, ![16, 4096, 2, 2, 1, 16]⟩
abbrev S16x4096x2x2x16 : Shape := ⟨5, ![16, 4096, 2, 2, 16]⟩
abbrev S16x4096x256 : Shape := ⟨3, ![16, 4096, 256]⟩
abbrev S16x4096x4x64 : Shape := ⟨4, ![16, 4096, 4, 64]⟩
abbrev S4x64x16x4096 : Shape := ⟨4, ![4, 64, 16, 4096]⟩
abbrev S16x4096x4x128 : Shape := ⟨4, ![16, 4096, 4, 128]⟩
abbrev S16x4096x8x128 : Shape := ⟨4, ![16, 4096, 8, 128]⟩
abbrev S16x16x256x8x128 : Shape := ⟨5, ![16, 16, 256, 8, 128]⟩
abbrev S16x16x8x128x256 : Shape := ⟨5, ![16, 16, 8, 128, 256]⟩
abbrev S16x4096x2x16 : Shape := ⟨4, ![16, 4096, 2, 16]⟩
abbrev S16x4096x2x80 : Shape := ⟨4, ![16, 4096, 2, 80]⟩
abbrev S16x16x256x2x80 : Shape := ⟨5, ![16, 16, 256, 2, 80]⟩
abbrev S16x2x16x80x256 : Shape := ⟨5, ![16, 2, 16, 80, 256]⟩
abbrev S16x1x4096x256 : Shape := ⟨4, ![16, 1, 4096, 256]⟩
abbrev S16x2x4096x256 : Shape := ⟨4, ![16, 2, 4096, 256]⟩
abbrev S16x2x2048x2x256 : Shape := ⟨5, ![16, 2, 2048, 2, 256]⟩
abbrev S16x2x2x2048x256 : Shape := ⟨5, ![16, 2, 2, 2048, 256]⟩

abbrev nBuf : Space → Nat
  | .hbm => 151
  | .vmem => 0
  | .smem => 0
  | _ => 0

abbrev hbmTy0_0 (i : Nat) : BufTy := match i % 128 with
  | 0 => ⟨S16x4096x1024, .f32⟩
  | 1 => ⟨S16x1x1024, .f32⟩
  | 2 => ⟨S16x1x1024, .f32⟩
  | 3 => ⟨S1024, .f32⟩
  | 4 => ⟨S1024x1280, .f32⟩
  | 5 => ⟨S64, .f32⟩
  | 6 => ⟨S64, .f32⟩
  | 7 => ⟨S4096x2x16, .f32⟩
  | 8 => ⟨S4096x2x16, .f32⟩
  | 9 => ⟨S4x64x64, .f32⟩
  | 10 => ⟨S4x64x64, .f32⟩
  | 11 => ⟨S16x4096x1024, .f32⟩
  | 12 => ⟨S_, .f32⟩
  | 13 => ⟨S16x4096, .f32⟩
  | 14 => ⟨S16x4096x1, .f32⟩
  | 15 => ⟨S_, .f32⟩
  | 16 => ⟨S16x4096x1, .f32⟩
  | 17 => ⟨S16x4096x1, .f32⟩
  | 18 => ⟨S_, .f32⟩
  | 19 => ⟨S16x4096x1, .f32⟩
  | 20 => ⟨S16x4096x1, .f32⟩
  | 21 => ⟨S16x4096x1, .f32⟩
  | 22 => ⟨S16x4096x1024, .f32⟩
  | 23 => ⟨S16x4096x1024, .f32⟩
  | 24 => ⟨S1x1x1024, .f32⟩
  | 25 => ⟨S16x4096x1024, .f32⟩
  | 26 => ⟨S16x4096x1024, .f32⟩
  | 27 => ⟨S_, .f32⟩
  | 28 => ⟨S16x1x1024, .f32⟩
  | 29 => ⟨S16x1x1024, .f32⟩
  | 30 => ⟨S16x4096x1024, .f32⟩
  | 31 => ⟨S16x4096x1024, .f32⟩
  | 32 => ⟨S16x4096x1024, .f32⟩
  | 33 => ⟨S16x4096x1024, .f32⟩
  | 34 => ⟨S16x4096x1280, .f32⟩
  | 35 => ⟨S16x4096x512, .f32⟩
  | 36 => ⟨S16x4096x8x64, .f32⟩
  | 37 => ⟨S16x4096x8x64, .f32⟩
  | 38 => ⟨S_, .f32⟩
  | 39 => ⟨S16x4096x8, .f32⟩
  | 40 => ⟨S16x4096x8x1, .f32⟩
  | 41 => ⟨S_, .f32⟩
  | 42 => ⟨S16x4096x8x1, .f32⟩
  | 43 => ⟨S16x4096x8x1, .f32⟩
  | 44 => ⟨S_, .f32⟩
  | 45 => ⟨S16x4096x8x1, .f32⟩
  | 46 => ⟨S16x4096x8x1, .f32⟩
  | 47 => ⟨S16x4096x8x1, .f32⟩
  | 48 => ⟨S16x4096x8x64, .f32⟩
  | 49 => ⟨S16x4096x8x64, .f32⟩
  | 50 => ⟨S1x1x1x64, .f32⟩
  | 51 => ⟨S16x4096x8x64, .f32⟩
  | 52 => ⟨S16x4096x8x64, .f32⟩
  | 53 => ⟨S16x4096x8x2x2x16, .f32⟩
  | 54 => ⟨S16x4096x8x2x1x16, .f32⟩
  | 55 => ⟨S16x4096x8x2x16, .f32⟩
  | 56 => ⟨S16x4096x8x2x1x16, .f32⟩
  | 57 => ⟨S16x4096x8x2x16, .f32⟩
  | 58 => ⟨S1x4096x1x2x16, .f32⟩
  | 59 => ⟨S1x4096x1x2x16, .f32⟩
  | 60 => ⟨S16x4096x8x2x16, .f32⟩
  | 61 => ⟨S16x4096x8x2x16, .f32⟩
  | 62 => ⟨S16x4096x8x2x16, .f32⟩
  | 63 => ⟨S16x4096x8x2x16, .f32⟩
  | 64 => ⟨S16x4096x8x2x16, .f32⟩
  | 65 => ⟨S16x4096x8x2x16, .f32⟩
  | 66 => ⟨S16x4096x8x2x16, .f32⟩
  | 67 => ⟨S16x4096x8x2x16, .f32⟩
  | 68 => ⟨S16x4096x8x2x16, .f32⟩
  | 69 => ⟨S16x4096x8x2x16, .f32⟩
  | 70 => ⟨S16x4096x8x2x1x16, .f32⟩
  | 71 => ⟨S16x4096x8x2x1x16, .f32⟩
  | 72 => ⟨S16x4096x8x2x2x16, .f32⟩
  | 73 => ⟨S16x4096x8x64, .f32⟩
  | 74 => ⟨S16x4096x128, .f32⟩
  | 75 => ⟨S16x4096x2x64, .f32⟩
  | 76 => ⟨S16x4096x2x64, .f32⟩
  | 77 => ⟨S_, .f32⟩
  | 78 => ⟨S16x4096x2, .f32⟩
  | 79 => ⟨S16x4096x2x1, .f32⟩
  | 80 => ⟨S_, .f32⟩
  | 81 => ⟨S16x4096x2x1, .f32⟩
  | 82 => ⟨S16x4096x2x1, .f32⟩
  | 83 => ⟨S_, .f32⟩
  | 84 => ⟨S16x4096x2x1, .f32⟩
  | 85 => ⟨S16x4096x2x1, .f32⟩
  | 86 => ⟨S16x4096x2x1, .f32⟩
  | 87 => ⟨S16x4096x2x64, .f32⟩
  | 88 => ⟨S16x4096x2x64, .f32⟩
  | 89 => ⟨S1x1x1x64, .f32⟩
  | 90 => ⟨S16x4096x2x64, .f32⟩
  | 91 => ⟨S16x4096x2x64, .f32⟩
  | 92 => ⟨S16x4096x2x2x2x16, .f32⟩
  | 93 => ⟨S16x4096x2x2x1x16, .f32⟩
  | 94 => ⟨S16x4096x2x2x16, .f32⟩
  | 95 => ⟨S16x4096x2x2x1x16, .f32⟩
  | 96 => ⟨S16x4096x2x2x16, .f32⟩
  | 97 => ⟨S1x4096x1x2x16, .f32⟩
  | 98 => ⟨S1x4096x1x2x16, .f32⟩
  | 99 => ⟨S16x4096x2x2x16, .f32⟩
  | 100 => ⟨S16x4096x2x2x16, .f32⟩
  | 101 => ⟨S16x4096x2x2x16, .f32⟩
  | 102 => ⟨S16x4096x2x2x16, .f32⟩
  | 103 => ⟨S16x4096x2x2x16, .f32⟩
  | 104 => ⟨S16x4096x2x2x16, .f32⟩
  | 105 => ⟨S16x4096x2x2x16, .f32⟩
  | 106 => ⟨S16x4096x2x2x16, .f32⟩
  | 107 => ⟨S16x4096x2x2x16, .f32⟩
  | 108 => ⟨S16x4096x2x2x16, .f32⟩
  | 109 => ⟨S16x4096x2x2x1x16, .f32⟩
  | 110 => ⟨S16x4096x2x2x1x16, .f32⟩
  | 111 => ⟨S16x4096x2x2x2x16, .f32⟩
  | 112 => ⟨S16x4096x2x64, .f32⟩
  | 113 => ⟨S16x4096x128, .f32⟩
  | 114 => ⟨S16x4096x2x64, .f32⟩
  | 115 => ⟨S16x4096x256, .f32⟩
  | 116 => ⟨S16x4096x4x64, .f32⟩
  | 117 => ⟨S4x64x16x4096, .f32⟩
  | 118 => ⟨S16x4096x4x64, .f32⟩
  | 119 => ⟨S16x4096x256, .f32⟩
  | 120 => ⟨S4x64x16x4096, .f32⟩
  | 121 => ⟨S16x4096x4x64, .f32⟩
  | 122 => ⟨S16x4096x256, .f32⟩
  | 123 => ⟨S_, .f32⟩
  | 124 => ⟨S16x4096x8x64, .f32⟩
  | 125 => ⟨S16x4096x8x64, .f32⟩
  | 126 => ⟨S_, .f32⟩
  | 127 => ⟨S16x4096x4x64, .f32⟩
  | _ => ⟨S16x4096x1024, .f32⟩

abbrev hbmTy0_1 (i : Nat) : BufTy := match i % 128 with
  | 0 => ⟨S16x4096x4x64, .f32⟩
  | 1 => ⟨S16x4096x4x128, .f32⟩
  | 2 => ⟨S16x4096x4x64, .f32⟩
  | 3 => ⟨S16x4096x4x128, .f32⟩
  | 4 => ⟨S16x4096x8x128, .f32⟩
  | 5 => ⟨S16x16x256x8x128, .f32⟩
  | 6 => ⟨S16x16x8x128x256, .f32⟩
  | 7 => ⟨S_, .f32⟩
  | 8 => ⟨S16x4096x2x16, .f32⟩
  | 9 => ⟨S16x4096x2x80, .f32⟩
  | 10 => ⟨S16x16x256x2x80, .f32⟩
  | 11 => ⟨S16x2x16x80x256, .f32⟩
  | 12 => ⟨S16x1x4096x256, .f32⟩
  | 13 => ⟨S16x1x4096x256, .f32⟩
  | 14 => ⟨S16x2x4096x256, .f32⟩
  | 15 => ⟨S16x2x2048x2x256, .f32⟩
  | 16 => ⟨S16x2x2x2048x256, .f32⟩
  | 17 => ⟨S16x16x8x128x256, .bf16⟩
  | 18 => ⟨S16x4096x128, .f32⟩
  | 19 => ⟨S16x4096x128, .bf16⟩
  | 20 => ⟨S16x2x16x80x256, .bf16⟩
  | 21 => ⟨S16x4096x256, .f32⟩
  | 22 => ⟨S16x2x2x2048x256, .bf16⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_6 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_9 : Ref sig .tc := ⟨.hbm, 123, rfl⟩
abbrev main_v102 : Ref sig .tc := ⟨.hbm, 124, rfl⟩
abbrev main_v103 : Ref sig .tc := ⟨.hbm, 125, rfl⟩
abbrev main_cst_10 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_11 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩

abbrev nD : Nat := 1
abbrev τ : Topo := Topo.v7x

variable {F : FTy → Type} [FloatOps F]
-- ==== Ada.lean ====
abbrev S24x1024 : Shape := ⟨2, ![24, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x24x6144 : Shape := ⟨3, ![2, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x24x6144, .f32⟩
  | .local _ .vmem, ⟨0, _⟩ => ⟨S24x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S24x1024 : Shape := ⟨2, ![24, 1024]⟩
abbrev S2x1024x6144 : Shape := ⟨3, ![2, 1024, 6144]⟩
abbrev S2x6144 : Shape := ⟨2, ![2, 6144]⟩
abbrev S_ : Shape := ⟨0, ![]⟩
abbrev S2x6144x24 : Shape := ⟨3, ![2, 6144, 24]⟩
abbrev S2x24x6144 : Shape := ⟨3, ![2, 24, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S2x1024x6144, .f32⟩
  | .hbm, ⟨2, _⟩ => ⟨S2x6144, .f32⟩
  | .hbm, ⟨3, _⟩ => ⟨S24x1024, .f32⟩
  | .hbm, ⟨4, _⟩ => ⟨S24x1024, .f32⟩
  | .hbm, ⟨5, _⟩ => ⟨S_, .f32⟩
  | .hbm, ⟨6, _⟩ => ⟨S24x1024, .f32⟩
  | .hbm, ⟨7, _⟩ => ⟨S24x1024, .f32⟩
  | .hbm, ⟨8, _⟩ => ⟨S_, .f32⟩
  | .hbm, ⟨9, _⟩ => ⟨S24x1024, .f32⟩
  | .hbm, ⟨10, _⟩ => ⟨S24x1024, .f32⟩
  | .hbm, ⟨11, _⟩ => ⟨S24x1024, .f32⟩
  | .hbm, ⟨12, _⟩ => ⟨S2x6144x24, .f32⟩
  | .hbm, ⟨13, _⟩ => ⟨S2x24x6144, .f32⟩
  | .hbm, ⟨14, _⟩ => ⟨S2x1x6144, .f32⟩
  | .hbm, ⟨15, _⟩ => ⟨S2x24x6144, .f32⟩
  | .hbm, ⟨16, _⟩ => ⟨S2x24x6144, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Dft.lean ====
abbrev S2048x4096 : Shape := ⟨2, ![2048, 4096]⟩
abbrev S16x2x2x2048x256 : Shape := ⟨5, ![16, 2, 2, 2048, 256]⟩
abbrev S16x2x4096x256 : Shape := ⟨4, ![16, 2, 4096, 256]⟩
abbrev S16x2x2048x256 : Shape := ⟨4, ![16, 2, 2048, 256]⟩
abbrev S512x4096 : Shape := ⟨2, ![512, 4096]⟩
abbrev S1x2x4096x256 : Shape := ⟨4, ![1, 2, 4096, 256]⟩
abbrev S1x2x512x256 : Shape := ⟨4, ![1, 2, 512, 256]⟩
abbrev S1x1x4096x256 : Shape := ⟨4, ![1, 1, 4096, 256]⟩
abbrev S4096x256 : Shape := ⟨2, ![4096, 256]⟩
abbrev S512x256 : Shape := ⟨2, ![512, 256]⟩
abbrev S1x1x512x256 : Shape := ⟨4, ![1, 1, 512, 256]⟩

abbrev nBuf : Space → Nat
  | .hbm => 5
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S16x2x2x2048x256, .bf16⟩
  | .hbm, ⟨3, _⟩ => ⟨S16x2x4096x256, .bf16⟩
  | .hbm, ⟨4, _⟩ => ⟨S16x2x2048x256, .bf16⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S1x2x4096x256, .bf16⟩
  | .local _ .vmem, ⟨5, _⟩ => ⟨S1x2x4096x256, .bf16⟩
  | .local _ .vmem, ⟨6, _⟩ => ⟨S1x2x512x256, .bf16⟩
  | .local _ .vmem, ⟨7, _⟩ => ⟨S1x2x512x256, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DftRefIdeal.lean ====
abbrev S2048x4096 : Shape := ⟨2, ![2048, 4096]⟩
abbrev S16x2x2x2048x256 : Shape := ⟨5, ![16, 2, 2, 2048, 256]⟩
abbrev S2048x2048 : Shape := ⟨2, ![2048, 2048]⟩
abbrev S2048x2048x1 : Shape := ⟨3, ![2048, 2048, 1]⟩
abbrev S2048x2048x2 : Shape := ⟨3, ![2048, 2048, 2]⟩
abbrev S4096x4096 : Shape := ⟨2, ![4096, 4096]⟩
abbrev S16x2x2048x2x256 : Shape := ⟨5, ![16, 2, 2048, 2, 256]⟩
abbrev S16x2x4096x256 : Shape := ⟨4, ![16, 2, 4096, 256]⟩
abbrev S16x1x4096x256 : Shape := ⟨4, ![16, 1, 4096, 256]⟩
abbrev S16x4096x256 : Shape := ⟨3, ![16, 4096, 256]⟩
abbrev S16x256x4096 : Shape := ⟨3, ![16, 256, 4096]⟩
abbrev S16x2x2048x256 : Shape := ⟨4, ![16, 2, 2048, 256]⟩

abbrev nBuf : Space → Nat
  | .hbm => 45
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4096, .bf16⟩
  | .hbm, ⟨2, _⟩ => ⟨S16x2x2x2048x256, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048x1, .f32⟩
  | .hbm, ⟨8, _⟩ => ⟨S2048x2048x1, .f32⟩
  | .hbm, ⟨9, _⟩ => ⟨S2048x2048x2, .f32⟩
  | .hbm, ⟨10, _⟩ => ⟨S2048x4096, .f32⟩
  | .hbm, ⟨11, _⟩ => ⟨S2048x2048, .f32⟩
  | .hbm, ⟨12, _⟩ => ⟨S2048x2048x1, .f32⟩
  | .hbm, ⟨13, _⟩ => ⟨S2048x2048x1, .f32⟩
  | .hbm, ⟨14, _⟩ => ⟨S2048x2048x2, .f32⟩
  | .hbm, ⟨15, _⟩ => ⟨S2048x4096, .f32⟩
  | .hbm, ⟨16, _⟩ => ⟨S4096x4096, .f32⟩
  | .hbm, ⟨17, _⟩ => ⟨S2048x2048, .bf16⟩
  | .hbm, ⟨18, _⟩ => ⟨S2048x2048, .bf16⟩
  | .hbm, ⟨19, _⟩ => ⟨S2048x2048, .f32⟩
  | .hbm, ⟨20, _⟩ => ⟨S2048x2048, .f32⟩
  | .hbm, ⟨21, _⟩ => ⟨S2048x2048x1, .f32⟩
  | .hbm, ⟨22, _⟩ => ⟨S2048x2048x1, .f32⟩
  | .hbm, ⟨23, _⟩ => ⟨S2048x2048x2, .f32⟩
  | .hbm, ⟨24, _⟩ => ⟨S2048x4096, .f32⟩
  | .hbm, ⟨25, _⟩ => ⟨S2048x2048, .f32⟩
  | .hbm, ⟨26, _⟩ => ⟨S2048x2048x1, .f32⟩
  | .hbm, ⟨27, _⟩ => ⟨S2048x2048x1, .f32⟩
  | .hbm, ⟨28, _⟩ => ⟨S2048x2048x2, .f32⟩
  | .hbm, ⟨29, _⟩ => ⟨S2048x4096, .f32⟩
  | .hbm, ⟨30, _⟩ => ⟨S4096x4096, .f32⟩
  | .hbm, ⟨31, _⟩ => ⟨S16x2x2x2048x256, .f32⟩
  | .hbm, ⟨32, _⟩ => ⟨S16x2x2048x2x256, .f32⟩
  | .hbm, ⟨33, _⟩ => ⟨S16x2x4096x256, .f32⟩
  | .hbm, ⟨34, _⟩ => ⟨S16x1x4096x256, .f32⟩
  | .hbm, ⟨35, _⟩ => ⟨S16x4096x256, .f32⟩
  | .hbm, ⟨36, _⟩ => ⟨S16x256x4096, .f32⟩
  | .hbm, ⟨37, _⟩ => ⟨S16x4096x256, .f32⟩
  | .hbm, ⟨38, _⟩ => ⟨S16x1x4096x256, .f32⟩
  | .hbm, ⟨39, _⟩ => ⟨S16x4096x256, .f32⟩
  | .hbm, ⟨40, _⟩ => ⟨S16x256x4096, .f32⟩
  | .hbm, ⟨41, _⟩ => ⟨S16x4096x256, .f32⟩
  | .hbm, ⟨42, _⟩ => ⟨S16x4096x256, .f32⟩
  | .hbm, ⟨43, _⟩ => ⟨S16x2x2048x256, .f32⟩
  | .hbm, ⟨44, _⟩ => ⟨S16x2x2048x256, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩

abbrev nD : Nat := 1
abbrev τ : Topo := Topo.v7x

variable {F : FTy → Type} [FloatOps F]
-- ==== FourW.lean ====
abbrev S2x4x64x64 : Shape := ⟨4, ![2, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S1x4x64x64 : Shape := ⟨4, ![1, 4, 64, 64]⟩
abbrev S1x1x64x64 : Shape := ⟨4, ![1, 1, 64, 64]⟩

abbrev nBuf : Space → Nat
  | .hbm => 43
  | .vmem => 8
  | .smem => 0
  | _ => 0

abbrev bufTy : (tb : Table) → Fin (tcTables nBuf tb) → BufTy
  | .hbm, ⟨0, _⟩ => ⟨S2x4x64x64, .f32⟩
  | .hbm, ⟨1, _⟩ => ⟨S64, .i32⟩
  | .hbm, ⟨2, _⟩ => ⟨S64x1, .i32⟩
  | .hbm, ⟨3, _⟩ => ⟨S1x64, .i32⟩
  | .hbm, ⟨4, _⟩ => ⟨S64x64, .i32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i1⟩
  | .hbm, ⟨18, _⟩ => ⟨S_, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S_, .i1⟩
  | .hbm, ⟨23, _⟩ => ⟨S64x64, .i1⟩
  | .hbm, ⟨24, _⟩ => ⟨S64x64, .i1⟩
  | .hbm, ⟨25, _⟩ => ⟨S64x64, .i1⟩
  | .hbm, ⟨26, _⟩ => ⟨S64x64, .i32⟩
  | .hbm, ⟨27, _⟩ => ⟨S64x64, .i32⟩
  | .hbm, ⟨28, _⟩ => ⟨S64x64, .i32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S2x4x64x64, .f32⟩
  | .hbm, ⟨42, _⟩ => ⟨S2x4x64x64, .f32⟩
  | .local _ .vmem, ⟨0, _⟩ => ⟨S64x64, .f32⟩
  | .local _ .vmem, ⟨1, _⟩ => ⟨S64x64, .f32⟩
  | .local _ .vmem, ⟨2, _⟩ => ⟨S1x4x64x64, .f32⟩
  | .local _ .vmem, ⟨3, _⟩ => ⟨S1x4x64x64, .f32⟩
  | .local _ .vmem, ⟨4, _⟩ => ⟨S1x4x64x64, .f32⟩
  | .local _ .vmem, ⟨5, _⟩ => ⟨S1x4x64x64, .f32⟩
  | .local _ .vmem, ⟨6, _⟩ => ⟨S1x4x64x64, .f32⟩
  | .local _ .vmem, ⟨7, _⟩ => ⟨S1x4x64x64, .f32⟩
  | _, _ => ⟨S2x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_1 : Ref sig .tc := ⟨.hbm, 38, rfl⟩
abbrev main_v14 : Ref sig .tc := ⟨.hbm, 39, rfl⟩
abbrev main_v15 : Ref sig .tc := ⟨.hbm, 40, rfl⟩
abbrev main_v16_0 : Ref sig .tc := ⟨.hbm, 41, rfl⟩
abbrev main_v16_1 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FourWRefIdeal.lean ====
abbrev S2x4x64x64 : Shape := ⟨4, ![2, 4, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2x4x64x64, .f32⟩
  | .hbm, ⟨1, _⟩ => ⟨S64, .i32⟩
  | .hbm, ⟨2, _⟩ => ⟨S64x1, .i32⟩
  | .hbm, ⟨3, _⟩ => ⟨S1x64, .i32⟩
  | .hbm, ⟨4, _⟩ => ⟨S64x64, .i32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S_, .i32⟩
  | .hbm, ⟨16, _⟩ => ⟨S64x64, .i32⟩
  | .hbm, ⟨17, _⟩ => ⟨S64x64, .i1⟩
  | .hbm, ⟨18, _⟩ => ⟨S_, .i32⟩
  | .hbm, ⟨19, _⟩ => ⟨S64x64, .i32⟩
  | .hbm, ⟨20, _⟩ => ⟨S64x64, .i1⟩
  | .hbm, ⟨21, _⟩ => ⟨S_, .i32⟩
  | .hbm, ⟨22, _⟩ => ⟨S_, .i1⟩
  | .hbm, ⟨23, _⟩ => ⟨S64x64, .i1⟩
  | .hbm, ⟨24, _⟩ => ⟨S64x64, .i1⟩
  | .hbm, ⟨25, _⟩ => ⟨S64x64, .i1⟩
  | .hbm, ⟨26, _⟩ => ⟨S64x64, .i32⟩
  | .hbm, ⟨27, _⟩ => ⟨S64x64, .i32⟩
  | .hbm, ⟨28, _⟩ => ⟨S64x64, .i32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S2x4x64x64, .f32⟩
  | .hbm, ⟨38, _⟩ => ⟨S2x4x64x64, .f32⟩
  | .hbm, ⟨39, _⟩ => ⟨S64x64, .f32⟩
  | .hbm, ⟨40, _⟩ => ⟨S_, .f32⟩
  | .hbm, ⟨41, _⟩ => ⟨S64x64, .f32⟩
  | .hbm, ⟨42, _⟩ => ⟨S64x64, .f32⟩
  | .hbm, ⟨43, _⟩ => ⟨S2x4x64x64, .f32⟩
  | .hbm, ⟨44, _⟩ => ⟨S2x4x64x64, .f32⟩
  | .hbm, ⟨45, _⟩ => ⟨S2x4x64x64, .f32⟩
  | _, _ => ⟨S2x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst_0 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩

abbrev nD : Nat := 1
abbrev τ : Topo := Topo.v7x

variable {F : FTy → Type} [FloatOps F]
-- ==== Proof.Chain.lean ====
module

public import proofs.«01_k».proof.Proof.Gen.AttnIdeal.Value

@[expose] public section

/-! # The attention kernel's body as a recursion over its steps

Step `i` of the body takes block `i / 8` of 256 keys for head `i % 8`: it replaces the head's row of maxima and the
head's sums in the two scratch arrays.  The body writes these steps one after another; here they are one recursion. -/

noncomputable section

namespace Cert.AttnIdeal.Chain

open Cert.AttnIdeal Cert.AttnIdeal.Gen Idealize.ShloMosaic Idealize.ShloMosaic.TcCoe Idealize.SL.Sem

variable {F : FTy → Type} [FloatOps F]

/-- The scores of a block of keys against a head's queries. -/
def scores (k : Vec F S1x256x128 .bf16) (q : Vec F S1x1x1x128x256 .bf16) : FVec F S256x256 .f32 :=
  matmul dot_S256x128_S128x256_S256x256_1_0_0_1_n_n none (shapeCast S256x128 k shapeCasts_S1x256x128_S256x128)
    (shapeCast S128x256 q shapeCasts_S1x1x1x128x256_S128x256) (constant S256x256 .f32 0x00000000#32)

/-- The new row of maxima, from the scores and the old row. -/
def newMax (s : FVec F S256x256 .f32) (mo : Vec F S1x1x256 .f32) : FVec F S1x256 .f32 :=
  maximumf (shapeCast S1x256 mo shapeCasts_S1x1x256_S1x256)
    (shapeCast S1x256 (multiReduction .maximumf [0] S256 s 0xFF800000#32 reduces_S256x256_S256 (.inl rfl) rfl) shapeCasts_S256_S1x256)

/-- The new sums, from the scores, the values, the old row of maxima and the old sums. -/
def newAcc (s : FVec F S256x256 .f32) (v : Vec F S1x1x1x80x256 .bf16) (mo : Vec F S1x1x256 .f32) (ao : Vec F S1x80x256 .f32) :
    FVec F S80x256 .f32 :=
  addf (mulf (broadcastTo S80x256 (exp2 (subf (shapeCast S1x256 mo shapeCasts_S1x1x256_S1x256) (newMax s mo))) broadcasts_S1x256_S80x256)
      (shapeCast S80x256 ao shapeCasts_S1x80x256_S80x256))
    (matmul dot_S80x256_S256x256_S80x256_1_0_0_1_n_n none (shapeCast S80x256 v shapeCasts_S1x1x1x80x256_S80x256)
      (truncf .bf16 (exp2 (subf s (broadcastTo S256x256 (newMax s mo) broadcasts_S1x256_S256x256))) bitsLt_bf16_f32)
      (constant S80x256 .f32 0x00000000#32))

/-- A head's output, from its sums: the sums of the values times the reciprocal of the sum of the weights. -/
def quot (a : Vec F S1x64x256 .f32) (l : Vec F S1x1x256 .f32) : FVec F S1x64x256 .bf16 :=
  shapeCast S1x64x256 (truncf .bf16 (mulf (shapeCast S64x256 a shapeCasts_S1x64x256_S64x256)
    (broadcastTo S64x256 (divf (broadcast S1x256 (Scalar.ofBits .f32 0x3F800000#32)) (shapeCast S1x256 l shapeCasts_S1x1x256_S1x256))
      broadcasts_S1x256_S64x256)) bitsLt_bf16_f32) shapeCasts_S64x256_S1x64x256

/-- Head `h`'s row of maxima. -/
def rectM (h : ℕ) : Rect S8x1x256 :=
  Rect.unit (s := S8x1x256) ![h % 8, 0, 0] S1x1x256.size (fun a => by
    match a with
    | ⟨0, _⟩ => show h % 8 + 1 ≤ 8; omega
    | ⟨1, _⟩ => show 0 + 1 ≤ 1; omega
    | ⟨2, _⟩ => show 0 + 256 ≤ 256; omega)

/-- Head `h`'s sums. -/
def rectA (h : ℕ) : Rect S8x80x256 :=
  Rect.unit (s := S8x80x256) ![h % 8, 0, 0] S1x80x256.size (fun a => by
    match a with
    | ⟨0, _⟩ => show h % 8 + 1 ≤ 8; omega
    | ⟨1, _⟩ => show 0 + 80 ≤ 80; omega
    | ⟨2, _⟩ => show 0 + 256 ≤ 256; omega)

/-- Head `h`'s sums of the values' 64 rows. -/
def rectV (h : ℕ) : Rect S8x80x256 :=
  Rect.unit (s := S8x80x256) ![h % 8, 0, 0] S1x64x256.size (fun a => by
    match a with
    | ⟨0, _⟩ => show h % 8 + 1 ≤ 8; omega
    | ⟨1, _⟩ => show 0 + 64 ≤ 80; omega
    | ⟨2, _⟩ => show 0 + 256 ≤ 256; omega)

/-- Head `h`'s sum of the weights: the row that the rows of ones in the values leave. -/
def rectL (h : ℕ) : Rect S8x80x256 :=
  Rect.unit (s := S8x80x256) ![h % 8, 64, 0] S1x1x256.size (fun a => by
    match a with
    | ⟨0, _⟩ => show h % 8 + 1 ≤ 8; omega
    | ⟨1, _⟩ => show 64 + 1 ≤ 80; omega
    | ⟨2, _⟩ => show 0 + 256 ≤ 256; omega)

/-- Head `h`'s rows of the output block. -/
def rectO (h : ℕ) : Rect S1x512x256 :=
  Rect.unit (s := S1x512x256) ![0, 64 * (h % 8), 0] S1x64x256.size (fun a => by
    match a with
    | ⟨0, _⟩ => show 0 + 1 ≤ 1; omega
    | ⟨1, _⟩ => show 64 * (h % 8) + 64 ≤ 512; omega
    | ⟨2, _⟩ => show 0 + 256 ≤ 256; omega)

/-! ## Loads and stores of a head's rows -/

/-- A head's row of maxima, read back. -/
def loadM (vm : View sig .tc .vmem S8x1x256 .f32) (L : List (View.Piece (Elt F) S8x1x256 .f32)) (h : ℕ) : Vec F S1x1x256 .f32 :=
  vm.readCov L (rectM h).toLoadRect

/-- A head's sums, read back. -/
def loadA (va : View sig .tc .vmem S8x80x256 .f32) (L : List (View.Piece (Elt F) S8x80x256 .f32)) (h : ℕ) : Vec F S1x80x256 .f32 :=
  va.readCov L (rectA h).toLoadRect

/-- A head's sums of the values' 64 rows, read back. -/
def loadV (va : View sig .tc .vmem S8x80x256 .f32) (L : List (View.Piece (Elt F) S8x80x256 .f32)) (h : ℕ) : Vec F S1x64x256 .f32 :=
  va.readCov L (rectV h).toLoadRect

/-- A head's sum of the weights, read back. -/
def loadL (va : View sig .tc .vmem S8x80x256 .f32) (L : List (View.Piece (Elt F) S8x80x256 .f32)) (h : ℕ) : Vec F S1x1x256 .f32 :=
  va.readCov L (rectL h).toLoadRect

/-- A store of a head's row of maxima. -/
def storeM (h : ℕ) (w : FVec F S1x256 .f32) (L : List (View.Piece (Elt F) S8x1x256 .f32)) : List (View.Piece (Elt F) S8x1x256 .f32) :=
  ⟨rectM h, shapeCast S1x1x256 w shapeCasts_S1x256_S1x1x256⟩ :: L

/-- A store of a head's sums. -/
def storeA (h : ℕ) (w : FVec F S80x256 .f32) (L : List (View.Piece (Elt F) S8x80x256 .f32)) : List (View.Piece (Elt F) S8x80x256 .f32) :=
  ⟨rectA h, shapeCast S1x80x256 w shapeCasts_S80x256_S1x80x256⟩ :: L

/-- A store of a head's output. -/
def storeO (h : ℕ) (w : FVec F S1x64x256 .bf16) (L : List (View.Piece (Elt F) S1x512x256 .bf16)) : List (View.Piece (Elt F) S1x512x256 .bf16) :=
  ⟨rectO h, w⟩ :: L

/-- The maxima before the first step. -/
def fillM : List (View.Piece (Elt F) S8x1x256 .f32) :=
  [⟨Rect.unit (s := S8x1x256) ![0, 0, 0] S8x1x256.size inb_S8x1x256_S8x1x256_0_0_0,
    shapeCast S8x1x256 (broadcast S8x1x256 (Scalar.ofBits .f32 0xFF800000#32)) shapeCasts_S8x1x256_S8x1x256⟩]

/-- The sums before the first step. -/
def fillA : List (View.Piece (Elt F) S8x80x256 .f32) :=
  [⟨Rect.unit (s := S8x80x256) ![0, 0, 0] S8x80x256.size inb_S8x80x256_S8x80x256_0_0_0,
    shapeCast S8x80x256 (broadcast S8x80x256 (Scalar.ofBits .f32 0x00000000#32)) shapeCasts_S8x80x256_S8x80x256⟩]

section
variable (s : ℕ → FVec F S256x256 .f32) (v : ℕ → Vec F S1x1x1x80x256 .bf16)
variable (vm : View sig .tc .vmem S8x1x256 .f32) (va : View sig .tc .vmem S8x80x256 .f32)

/-- What has been stored into the maxima after `n` steps, the last store first. -/
def listM (n : ℕ) : List (View.Piece (Elt F) S8x1x256 .f32) :=
  Nat.rec fillM (fun i L => storeM i (newMax (s i) (loadM vm L i)) L) n

/-- What has been stored into the sums after `n` steps, the last store first. -/
def listA (n : ℕ) : List (View.Piece (Elt F) S8x80x256 .f32) :=
  Nat.rec fillA (fun i L => storeA i (newAcc (s i) (v i) (loadM vm (listM s vm i) i) (loadA va L i)) L) n

/-- What is stored into the output block for the first `n` heads, the last store first. -/
def listO (n : ℕ) : List (View.Piece (Elt F) S1x512x256 .bf16) :=
  Nat.rec [] (fun h L => storeO h (quot (loadV va (listA s v vm va 136) h) (loadL va (listA s v vm va 136) h)) L) n

theorem listM_succ (n : ℕ) : listM s vm (n + 1) = storeM n (newMax (s n) (loadM vm (listM s vm n) n)) (listM s vm n) := rfl

theorem listA_succ (n : ℕ) : listA s v vm va (n + 1)
    = storeA n (newAcc (s n) (v n) (loadM vm (listM s vm n) n) (loadA va (listA s v vm va n) n)) (listA s v vm va n) := rfl

theorem listO_succ (n : ℕ) : listO s v vm va (n + 1)
    = storeO n (quot (loadV va (listA s v vm va 136) n) (loadL va (listA s v vm va 136) n)) (listO s v vm va n) := rfl
end

/-- The keys of block `c`: block 0 is the context, the others are the latents'. -/
def keys (v3 : View sig .tc .vmem S1x256x128 .bf16) (v5 : View sig .tc .vmem S1x4096x128 .bf16) (y3 : v3.ty.Contents (Elt F))
    (y5 : v5.ty.Contents (Elt F)) : ℕ → Vec F S1x256x128 .bf16
  | 0 => v3.readAt (Elt F) (Rect.unit (s := S1x256x128) ![0, 0, 0] S1x256x128.size inb_S1x256x128_S1x256x128_0_0_0).toLoadRect y3
  | c + 1 => v5.readAt (Elt F) (Rect.unit (s := S1x4096x128) ![0, 256 * (c % 16), 0] S1x256x128.size (fun a => by
      match a with
      | ⟨0, _⟩ => show 0 + 1 ≤ 1; omega
      | ⟨1, _⟩ => show 256 * (c % 16) + 256 ≤ 4096; omega
      | ⟨2, _⟩ => show 0 + 128 ≤ 128; omega)).toLoadRect y5

/-- The values of block `c` for head `h`'s group. -/
def values (v4 : View sig .tc .vmem S1x2x1x80x256 .bf16) (v6 : View sig .tc .vmem S1x2x16x80x256 .bf16) (y4 : v4.ty.Contents (Elt F))
    (y6 : v6.ty.Contents (Elt F)) (h : ℕ) : ℕ → Vec F S1x1x1x80x256 .bf16
  | 0 => v4.readAt (Elt F) (Rect.unit (s := S1x2x1x80x256) ![0, h % 8 / 4, 0, 0, 0] S1x1x1x80x256.size (fun a => by
      match a with
      | ⟨0, _⟩ => show 0 + 1 ≤ 1; omega
      | ⟨1, _⟩ => show h % 8 / 4 + 1 ≤ 2; omega
      | ⟨2, _⟩ => show 0 + 1 ≤ 1; omega
      | ⟨3, _⟩ => show 0 + 80 ≤ 80; omega
      | ⟨4, _⟩ => show 0 + 256 ≤ 256; omega)).toLoadRect y4
  | c + 1 => v6.readAt (Elt F) (Rect.unit (s := S1x2x16x80x256) ![0, h % 8 / 4, c % 16, 0, 0] S1x1x1x80x256.size (fun a => by
      match a with
      | ⟨0, _⟩ => show 0 + 1 ≤ 1; omega
      | ⟨1, _⟩ => show h % 8 / 4 + 1 ≤ 2; omega
      | ⟨2, _⟩ => show c % 16 + 1 ≤ 16; omega
      | ⟨3, _⟩ => show 0 + 80 ≤ 80; omega
      | ⟨4, _⟩ => show 0 + 256 ≤ 256; omega)).toLoadRect y6

/-- Head `h`'s queries. -/
def queries (v2 : View sig .tc .vmem S1x1x8x128x256 .bf16) (y2 : v2.ty.Contents (Elt F)) (h : ℕ) : Vec F S1x1x1x128x256 .bf16 :=
  v2.readAt (Elt F) (Rect.unit (s := S1x1x8x128x256) ![0, 0, h % 8, 0, 0] S1x1x1x128x256.size (fun a => by
      match a with
      | ⟨0, _⟩ => show 0 + 1 ≤ 1; omega
      | ⟨1, _⟩ => show 0 + 1 ≤ 1; omega
      | ⟨2, _⟩ => show h % 8 + 1 ≤ 8; omega
      | ⟨3, _⟩ => show 0 + 128 ≤ 128; omega
      | ⟨4, _⟩ => show 0 + 256 ≤ 256; omega)).toLoadRect y2

variable (c : Dev nD) (i : grid0.Coords) (arg2 : Memref sig .tc .vmem S1x1x8x128x256 .bf16) (harg2 : arg2.IsWhole) (arg3 : Memref sig .tc .vmem S1x256x128 .bf16) (harg3 : arg3.IsWhole) (arg4 : Memref sig .tc .vmem S1x2x1x80x256 .bf16) (harg4 : arg4.IsWhole) (arg5 : Memref sig .tc .vmem S1x4096x128 .bf16) (harg5 : arg5.IsWhole) (arg6 : Memref sig .tc .vmem S1x2x16x80x256 .bf16) (harg6 : arg6.IsWhole) (arg7 : Memref sig .tc .vmem S1x512x256 .bf16) (harg7 : arg7.IsWhole) (arg8 : Memref sig .tc .vmem S8x1x256 .f32) (harg8 : arg8.IsWhole) (arg9 : Memref sig .tc .vmem S8x80x256 .f32) (harg9 : arg9.IsWhole)
    (x0 : Vec F S1x1x8x128x256 .bf16) (x1 : Vec F S1x256x128 .bf16) (x2 : Vec F S1x2x1x80x256 .bf16) (x3 : Vec F S1x4096x128 .bf16) (x4 : Vec F S1x2x16x80x256 .bf16)

/-- The scores of step `n`, from the blocks. -/
abbrev bodyScores (n : ℕ) : FVec F S256x256 .f32 :=
  scores (keys arg3.view arg5.view (harg3.unread x1) (harg5.unread x3) (n / 8)) (queries arg2.view (harg2.unread x0) n)

/-- The values of step `n`, from the blocks. -/
abbrev bodyValues (n : ℕ) : Vec F S1x1x1x80x256 .bf16 :=
  values arg4.view arg6.view (harg4.unread x2) (harg6.unread x4) n (n / 8)

/-- What the body stores into its output block is the recursion's list. -/
theorem pieces_eq :
    (kernelRun0_A c i arg2 harg2 arg3 harg3 arg4 harg4 arg5 harg5 arg6 harg6 arg7 harg7 arg8 harg8 arg9 harg9 x0 x1 x2 x3 x4).1
      = listO (bodyScores arg2 harg2 arg3 harg3 arg5 harg5 x0 x1 x3) (bodyValues arg4 harg4 arg6 harg6 x2 x4) arg8.view arg9.view 8 := by
  sl_kernel_rfl

end Cert.AttnIdeal.Chain

end

end
-- ==== Proof.Softmax.lean ====
module

public import Idealize.ShloMosaic.PureOps.Ideal
public import Mathlib.Analysis.SpecialFunctions.Pow.Real
public import Mathlib.Data.EReal.Operations

@[expose] public section

/-! # The softmax of a row of scores, taken block by block

No program is mentioned here.  A row of real scores comes in blocks of `n`.  Block by block one keeps a number `m`
(the maximum so far, which starts at `-∞`) and a sum `a` of the values weighted by `2 ^ (score - m)` (which starts
at `0`, and is rescaled whenever `m` changes).  What is left after the last block, divided by the same sum
with all values `1`, is the average of the values weighted by the softmax of the scores. -/

open Idealize Idealize.ShloMosaic
open scoped BigOperators

namespace Cert.Softmax

/-- A sum of extended reals may be multiplied term by term by a real that is not negative. -/
theorem mul_sum_of_nonneg {ι : Type*} (s : Finset ι) (f : ι → EReal) {r : ℝ} (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- A sum of reals is the same sum in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of `⊥` and finitely many reals, of which there is at least one, is a real. -/
theorem fold_max_real {ι : Type*} (s : Finset ι) (hs : s.Nonempty) (f : ι → EReal) (hf : ∀ i, ∃ r : ℝ, f i = r) :
    ∃ r : ℝ, s.fold max ⊥ f = r := by
  classical
  induction hs using Finset.Nonempty.cons_induction with
  | singleton a => obtain ⟨r, hr⟩ := hf a; exact ⟨r, by simp [hr]⟩
  | cons a s ha hs ih =>
    obtain ⟨r, hr⟩ := hf a; obtain ⟨q, hq⟩ := ih
    exact ⟨max r q, by rw [Finset.fold_cons, hr, hq]; exact (EReal.coe_strictMono.monotone.map_max).symm⟩

variable {n : ℕ}

/-- The maximum of the scores of the first `c` blocks. -/
noncomputable def runMax (s : ℕ → Fin n → EReal) : ℕ → EReal
  | 0 => ⊥
  | c + 1 => max (runMax s c) ((Finset.univ : Finset (Fin n)).fold max ⊥ (s c))

/-- The weighted sum of the values of the first `c` blocks, rescaled at each block to the maximum so far. -/
noncomputable def runAcc (s v : ℕ → Fin n → EReal) : ℕ → EReal
  | 0 => 0
  | c + 1 => Ideal.exp2 (runMax s c - runMax s (c + 1)) * runAcc s v c
      + ∑ k, v c k * Ideal.exp2 (s c k - runMax s (c + 1))

/-- After one block or more of real scores the maximum is a real. -/
theorem runMax_real (hn : 0 < n) (σ : ℕ → Fin n → ℝ) (c : ℕ) :
    ∃ μ : ℝ, runMax (fun c k => (σ c k : EReal)) (c + 1) = μ := by
  haveI : Nonempty (Fin n) := ⟨⟨0, hn⟩⟩
  have hb : ∀ c, ∃ r : ℝ, (Finset.univ : Finset (Fin n)).fold max ⊥ (fun k => (σ c k : EReal)) = r := fun c =>
    fold_max_real _ Finset.univ_nonempty _ fun k => ⟨σ c k, rfl⟩
  induction c with
  | zero => obtain ⟨r, hr⟩ := hb 0; exact ⟨r, by simp [runMax, hr]⟩
  | succ c ih =>
    obtain ⟨q, hq⟩ := ih; obtain ⟨r, hr⟩ := hb (c + 1)
    exact ⟨max q r, by rw [runMax, hq, hr]; exact (EReal.coe_strictMono.monotone.map_max).symm⟩

/-- A product of an extended real and two reals, the reals multiplied first. -/
theorem mul_mul_coe (x : EReal) (a b : ℝ) : (a : EReal) * (x * (b : EReal)) = x * ((a * b : ℝ) : EReal) := by
  rw [EReal.coe_mul, ← mul_assoc, mul_comm (a : EReal) x, mul_assoc]

/-- After the blocks `0 … c` the sum is `∑ v · 2 ^ (s - μ)` over all their scores, where `μ` is the maximum so far. -/
theorem runAcc_eq (hn : 0 < n) (σ : ℕ → Fin n → ℝ) (v : ℕ → Fin n → EReal) (c : ℕ) (μ : ℝ)
    (hμ : runMax (fun c k => (σ c k : EReal)) (c + 1) = μ) :
    runAcc (fun c k => (σ c k : EReal)) v (c + 1)
      = ∑ j ∈ Finset.range (c + 1), ∑ k, v j k * ((Real.rpow 2 (σ j k - μ) : ℝ) : EReal) := by
  induction c generalizing μ with
  | zero =>
    rw [runAcc, hμ, Finset.sum_range_one]
    simp only [runAcc, mul_zero, zero_add, ← EReal.coe_sub, Ideal.exp2_coe]
  | succ c ih =>
    obtain ⟨ν, hν⟩ := runMax_real hn σ c
    rw [runAcc, hμ, hν, ih ν hν, Finset.sum_range_succ _ (c + 1)]
    simp only [← EReal.coe_sub, Ideal.exp2_coe]
    have h2 : ∀ x : ℝ, (0 : ℝ) ≤ Real.rpow 2 x := fun x => Real.rpow_nonneg (by norm_num) x
    rw [mul_sum_of_nonneg _ _ (h2 _)]
    congr 1
    refine Finset.sum_congr rfl fun j _ => ?_
    rw [mul_sum_of_nonneg _ _ (h2 _)]
    refine Finset.sum_congr rfl fun k _ => ?_
    rw [mul_mul_coe]
    congr 2
    change (2 : ℝ) ^ (ν - μ) * (2 : ℝ) ^ (σ j k - ν) = (2 : ℝ) ^ (σ j k - μ)
    rw [← Real.rpow_add (by norm_num)]; congr 1; ring

/-- What the blocks leave, divided by the same with all values `1`, is the average weighted by the softmax in base `2`. -/
theorem runAcc_div (hn : 0 < n) (σ : ℕ → Fin n → ℝ) (v : ℕ → Fin n → EReal) (c : ℕ) :
    runAcc (fun c k => (σ c k : EReal)) v (c + 1)
        * Ideal.div 1 (runAcc (fun c k => (σ c k : EReal)) (fun _ _ => 1) (c + 1))
      = ∑ j ∈ Finset.range (c + 1), ∑ k, v j k
          * (((2 : ℝ) ^ (σ j k) / ∑ j ∈ Finset.range (c + 1), ∑ k, (2 : ℝ) ^ (σ j k) : ℝ) : EReal) := by
  obtain ⟨μ, hμ⟩ := runMax_real hn σ c
  rw [runAcc_eq hn σ _ c μ hμ, runAcc_eq hn σ _ c μ hμ]
  haveI : Nonempty (Fin n) := ⟨⟨0, hn⟩⟩
  simp only [one_mul, ← coe_sum]
  have pos : ∀ ρ : ℝ, 0 < ∑ j ∈ Finset.range (c + 1), ∑ k : Fin n, (2 : ℝ) ^ (σ j k - ρ) := fun ρ =>
    Finset.sum_pos (fun j _ => Finset.sum_pos (fun k _ => Real.rpow_pos_of_pos (by norm_num) _) Finset.univ_nonempty)
      ⟨0, by simp⟩
  have hsum : ∑ j ∈ Finset.range (c + 1), ∑ k : Fin n, (2 : ℝ) ^ (σ j k - μ)
      = (2 : ℝ) ^ (-μ) * ∑ j ∈ Finset.range (c + 1), ∑ k : Fin n, (2 : ℝ) ^ (σ j k) := by
    rw [Finset.mul_sum]; refine Finset.sum_congr rfl fun j _ => ?_
    rw [Finset.mul_sum]; refine Finset.sum_congr rfl fun k _ => ?_
    rw [← Real.rpow_add (by norm_num)]; congr 1; ring
  have h0 : (∑ j ∈ Finset.range (c + 1), ∑ k : Fin n, Real.rpow 2 (σ j k - μ)) ≠ 0 := (pos μ).ne'
  rw [Ideal.div_coe h0, one_mul, mul_comm]
  have hd : (0 : ℝ) ≤ 1 / ∑ j ∈ Finset.range (c + 1), ∑ k : Fin n, Real.rpow 2 (σ j k - μ) :=
    one_div_nonneg.2 (pos μ).le
  rw [mul_sum_of_nonneg _ _ hd]
  refine Finset.sum_congr rfl fun j _ => ?_
  rw [mul_sum_of_nonneg _ _ hd]
  refine Finset.sum_congr rfl fun k _ => ?_
  rw [mul_mul_coe]
  congr 2
  change 1 / (∑ j ∈ Finset.range (c + 1), ∑ k : Fin n, (2 : ℝ) ^ (σ j k - μ)) * (2 : ℝ) ^ (σ j k - μ) = _
  have hne : (2 : ℝ) ^ (-μ) ≠ 0 := (Real.rpow_pos_of_pos (by norm_num) _).ne'
  have h1 : (∑ j ∈ Finset.range (c + 1), ∑ k : Fin n, (2 : ℝ) ^ (σ j k)) ≠ 0 := by
    have := (pos 0).ne'; simpa using this
  rw [hsum, sub_eq_add_neg, Real.rpow_add (by norm_num)]
  field_simp

/-- The softmax in base `e` of scores multiplied by `log 2`, from which any real has been subtracted, is the softmax in
base `2` of the scores. -/
theorem softmax_log_two {ι : Type*} [Fintype ι] [Nonempty ι] (t : ι → ℝ) (T : ℝ) (k : ι) :
    Ideal.div (Ideal.exp (((t k * Real.log 2 : ℝ) : EReal) - (T : EReal)))
        (∑ j, Ideal.exp (((t j * Real.log 2 : ℝ) : EReal) - (T : EReal)))
      = (((2 : ℝ) ^ t k / ∑ j, (2 : ℝ) ^ t j : ℝ) : EReal) := by
  simp only [← EReal.coe_sub, Ideal.exp_coe, ← coe_sum]
  have he : ∀ j, Real.exp (t j * Real.log 2 - T) = (2 : ℝ) ^ t j * Real.exp (-T) := fun j => by
    rw [sub_eq_add_neg, Real.exp_add, Real.rpow_def_of_pos (by norm_num), mul_comm (t j)]
  simp only [he, ← Finset.sum_mul]
  have hp : 0 < ∑ j, (2 : ℝ) ^ t j :=
    Finset.sum_pos (fun j _ => Real.rpow_pos_of_pos (by norm_num) _) Finset.univ_nonempty
  have hT := Real.exp_ne_zero (-T)
  rw [Ideal.div_coe (mul_ne_zero hp.ne' hT), ← EReal.coe_mul]
  congr 1
  field_simp

end Cert.Softmax

end
-- ==== Proof.Step.lean ====
module

public import proofs.«01_k».proof.Proof.Chain
public import proofs.«01_k».proof.Proof.Softmax
public import Idealize.ShloMosaic.Lib.Pipeline.ValueKit
public import Idealize.ShloMosaic.Lib.Pointwise

@[expose] public section

/-! # One step of the attention kernel, element by element -/

noncomputable section

namespace Cert.AttnIdeal.Chain

open Cert.AttnIdeal Cert.AttnIdeal.Gen Cert.Softmax Idealize Idealize.ShloMosaic

/-- The word of `-∞`. -/
theorem ofBits_neg_inf : Ideal.ofBits .f32 0xFF800000#32 = ⊥ := by
  norm_num [Ideal.ofBits, Ideal.ieee]
  rw [if_pos (by decide), if_pos (by decide)]

/-- A score is the product of a key and a query. -/
theorem scores_apply (k : Vec Ideal S1x256x128 .bf16) (q : Vec Ideal S1x1x1x128x256 .bf16) (a b : Fin 256) :
    scores k q (ix2 a b) = ∑ d : Fin 128, k (ix3 0 a d) * q (ix5 0 0 0 d b) := by
  unfold scores
  pointwise

/-- A new maximum is the larger of the old one and the block's scores. -/
theorem newMax_apply (s : FVec Ideal S256x256 .f32) (mo : Vec Ideal S1x1x256 .f32) (b : Fin 256) :
    newMax s mo (ix2 0 b) = max (mo (ix3 0 0 b)) ((Finset.univ : Finset (Fin 256)).fold max ⊥ fun k => s (ix2 k b)) := by
  unfold newMax
  pointwise
  rw [ofBits_neg_inf]

/-- A new sum is the old one rescaled, plus the block's weighted values. -/
theorem newAcc_apply (s : FVec Ideal S256x256 .f32) (v : Vec Ideal S1x1x1x80x256 .bf16) (mo : Vec Ideal S1x1x256 .f32)
    (ao : Vec Ideal S1x80x256 .f32) (r : Fin 80) (b : Fin 256) :
    newAcc s v mo ao (ix2 r b) = Ideal.exp2 (mo (ix3 0 0 b) - newMax s mo (ix2 0 b)) * ao (ix3 0 r b)
      + ∑ k : Fin 256, v (ix5 0 0 0 r k) * Ideal.exp2 (s (ix2 k b) - newMax s mo (ix2 0 b)) := by
  unfold newAcc
  pointwise
  rfl

/-- An output is a sum of weighted values over the sum of the weights. -/
theorem quot_apply (a : Vec Ideal S1x64x256 .f32) (l : Vec Ideal S1x1x256 .f32) (r : Fin 64) (b : Fin 256) :
    quot a l (ix3 0 r b) = a (ix3 0 r b) * Ideal.div 1 (l (ix3 0 0 b)) := by
  unfold quot
  pointwise

/-! ## Where the stores lie -/

theorem rectM_emb (h : ℕ) (b : Fin 256) :
    (rectM h).emb (ix3 0 0 b : S1x1x256.Idx) = ix3 ⟨h % 8, Nat.mod_lt _ (by norm_num)⟩ 0 b := by
  funext a
  match a with
  | ⟨0, _⟩ => exact Fin.ext (by show h % 8 + 1 * 0 = h % 8; omega)
  | ⟨1, _⟩ => exact Fin.ext (by show 0 + 1 * 0 = 0; omega)
  | ⟨2, _⟩ => exact Fin.ext (by show 0 + 1 * b.val = b.val; omega)

theorem rectA_emb (h : ℕ) (r : Fin 80) (b : Fin 256) :
    (rectA h).emb (ix3 0 r b : S1x80x256.Idx) = ix3 ⟨h % 8, Nat.mod_lt _ (by norm_num)⟩ r b := by
  funext a
  match a with
  | ⟨0, _⟩ => exact Fin.ext (by show h % 8 + 1 * 0 = h % 8; omega)
  | ⟨1, _⟩ => exact Fin.ext (by show 0 + 1 * r.val = r.val; omega)
  | ⟨2, _⟩ => exact Fin.ext (by show 0 + 1 * b.val = b.val; omega)

theorem rectV_emb (h : ℕ) (r : Fin 64) (b : Fin 256) :
    (rectV h).emb (ix3 0 r b : S1x64x256.Idx) = ix3 ⟨h % 8, Nat.mod_lt _ (by norm_num)⟩ ⟨r, by omega⟩ b := by
  funext a
  match a with
  | ⟨0, _⟩ => exact Fin.ext (by show h % 8 + 1 * 0 = h % 8; omega)
  | ⟨1, _⟩ => exact Fin.ext (by show 0 + 1 * r.val = r.val; omega)
  | ⟨2, _⟩ => exact Fin.ext (by show 0 + 1 * b.val = b.val; omega)

theorem rectL_emb (h : ℕ) (b : Fin 256) :
    (rectL h).emb (ix3 0 0 b : S1x1x256.Idx) = ix3 ⟨h % 8, Nat.mod_lt _ (by norm_num)⟩ 64 b := by
  funext a
  match a with
  | ⟨0, _⟩ => exact Fin.ext (by show h % 8 + 1 * 0 = h % 8; omega)
  | ⟨1, _⟩ => exact Fin.ext (by show 64 + 1 * 0 = 64; omega)
  | ⟨2, _⟩ => exact Fin.ext (by show 0 + 1 * b.val = b.val; omega)

theorem rectO_emb (h : Fin 8) (r : Fin 64) (b : Fin 256) :
    (rectO h).emb (ix3 0 r b : S1x64x256.Idx) = ix3 0 ⟨64 * h + r, by omega⟩ b := by
  funext a
  match a with
  | ⟨0, _⟩ => exact Fin.ext (by show 0 + 1 * 0 = 0; omega)
  | ⟨1, _⟩ => exact Fin.ext (by show 64 * (h.val % 8) + 1 * r.val = 64 * h.val + r.val; omega)
  | ⟨2, _⟩ => exact Fin.ext (by show 0 + 1 * b.val = b.val; omega)

theorem not_mem_rectM {n : ℕ} {h : Fin 8} (hn : n % 8 ≠ h) (b : Fin 256) : (ix3 h 0 b : S8x1x256.Idx) ∉ (rectM n).set := fun hm => by
  have := Rect.mem_set_unit.1 hm 0
  change n % 8 ≤ h.val ∧ h.val < n % 8 + 1 at this
  omega

theorem not_mem_rectA {n : ℕ} {h : Fin 8} (hn : n % 8 ≠ h) (r : Fin 80) (b : Fin 256) :
    (ix3 h r b : S8x80x256.Idx) ∉ (rectA n).set := fun hm => by
  have := Rect.mem_set_unit.1 hm 0
  change n % 8 ≤ h.val ∧ h.val < n % 8 + 1 at this
  omega

theorem not_mem_rectO {n : ℕ} {h : Fin 8} (hn : n % 8 ≠ h) (r : Fin 64) (b : Fin 256) :
    (ix3 0 ⟨64 * h + r, by omega⟩ b : S1x512x256.Idx) ∉ (rectO n).set := fun hm => by
  have := Rect.mem_set_unit.1 hm 1
  change 64 * (n % 8) ≤ 64 * h.val + r.val ∧ 64 * h.val + r.val < 64 * (n % 8) + 64 at this
  omega

/-! ## Loads and stores, element by element -/

section
variable (vm : View sig .tc .vmem S8x1x256 .f32) (va : View sig .tc .vmem S8x80x256 .f32)

theorem loadM_apply (L : List (View.Piece (Elt Ideal) S8x1x256 .f32)) {n : ℕ} {h : Fin 8} (hn : n % 8 = h) (b : Fin 256) :
    loadM vm L n (ix3 0 0 b) = View.canon L (ix3 h 0 b) := by
  unfold loadM
  rw [View.readCov_eq_canon']
  exact congrArg (View.canon L) ((rectM_emb n b).trans (congrArg (fun h => ix3 h 0 b) (Fin.ext hn)))

theorem loadA_apply (L : List (View.Piece (Elt Ideal) S8x80x256 .f32)) {n : ℕ} {h : Fin 8} (hn : n % 8 = h) (r : Fin 80) (b : Fin 256) :
    loadA va L n (ix3 0 r b) = View.canon L (ix3 h r b) := by
  unfold loadA
  rw [View.readCov_eq_canon']
  exact congrArg (View.canon L) ((rectA_emb n r b).trans (congrArg (fun h => ix3 h r b) (Fin.ext hn)))

theorem loadV_apply (L : List (View.Piece (Elt Ideal) S8x80x256 .f32)) {n : ℕ} {h : Fin 8} (hn : n % 8 = h) (r : Fin 64) (b : Fin 256) :
    loadV va L n (ix3 0 r b) = View.canon L (ix3 h ⟨r, by omega⟩ b) := by
  unfold loadV
  rw [View.readCov_eq_canon']
  exact congrArg (View.canon L) ((rectV_emb n r b).trans (congrArg (fun h => ix3 h _ b) (Fin.ext hn)))

theorem loadL_apply (L : List (View.Piece (Elt Ideal) S8x80x256 .f32)) {n : ℕ} {h : Fin 8} (hn : n % 8 = h) (b : Fin 256) :
    loadL va L n (ix3 0 0 b) = View.canon L (ix3 h 64 b) := by
  unfold loadL
  rw [View.readCov_eq_canon']
  exact congrArg (View.canon L) ((rectL_emb n b).trans (congrArg (fun h => ix3 h 64 b) (Fin.ext hn)))

theorem storeM_same (w : FVec Ideal S1x256 .f32) (L : List (View.Piece (Elt Ideal) S8x1x256 .f32)) {n : ℕ} {h : Fin 8} (hn : n % 8 = h)
    (b : Fin 256) : View.canon (storeM n w L) (ix3 h 0 b) = w (ix2 0 b) := by
  have hy : (ix3 h 0 b : S8x1x256.Idx) = (rectM n).emb (ix3 0 0 b : S1x1x256.Idx) :=
    ((rectM_emb n b).trans (congrArg (fun h => ix3 h 0 b) (Fin.ext hn))).symm
  unfold storeM
  rw [hy]
  refine (View.canon_cons_emb (rectM n) _ _ (ix3 0 0 b : S1x1x256.Idx)).trans ?_
  pointwise

theorem storeA_same (w : FVec Ideal S80x256 .f32) (L : List (View.Piece (Elt Ideal) S8x80x256 .f32)) {n : ℕ} {h : Fin 8} (hn : n % 8 = h)
    (r : Fin 80) (b : Fin 256) : View.canon (storeA n w L) (ix3 h r b) = w (ix2 r b) := by
  have hy : (ix3 h r b : S8x80x256.Idx) = (rectA n).emb (ix3 0 r b : S1x80x256.Idx) :=
    ((rectA_emb n r b).trans (congrArg (fun h => ix3 h r b) (Fin.ext hn))).symm
  unfold storeA
  rw [hy]
  refine (View.canon_cons_emb (rectA n) _ _ (ix3 0 r b : S1x80x256.Idx)).trans ?_
  pointwise

theorem storeO_same (w : FVec Ideal S1x64x256 .bf16) (L : List (View.Piece (Elt Ideal) S1x512x256 .bf16)) (h : Fin 8)
    (r : Fin 64) (b : Fin 256) : View.canon (storeO h w L) (ix3 0 ⟨64 * h + r, by omega⟩ b) = w (ix3 0 r b) := by
  unfold storeO
  rw [← rectO_emb]
  exact View.canon_cons_emb (rectO h) _ _ (ix3 0 r b : S1x64x256.Idx)

theorem fillM_apply (h : Fin 8) (b : Fin 256) : View.canon (fillM (F := Ideal)) (ix3 h 0 b) = ⊥ := by
  unfold fillM
  refine (congrFun (View.canon_cons_unit_lit (S := S8x1x256) _ _ _ (by decide)) _).trans ?_
  pointwise
  exact ofBits_neg_inf

theorem fillA_apply (h : Fin 8) (r : Fin 80) (b : Fin 256) : View.canon (fillA (F := Ideal)) (ix3 h r b) = 0 := by
  unfold fillA
  refine (congrFun (View.canon_cons_unit_lit (S := S8x80x256) _ _ _ (by decide)) _).trans ?_
  pointwise
end

/-! ## What the scratch arrays hold after `n` steps -/

section
variable (s : ℕ → FVec Ideal S256x256 .f32) (v : ℕ → Vec Ideal S1x1x1x80x256 .bf16)
variable (vm : View sig .tc .vmem S8x1x256 .f32) (va : View sig .tc .vmem S8x80x256 .f32)

/-- How many blocks head `h` has taken after `n` steps: one more when step `n` is its own … -/
theorem taken_succ {n h : ℕ} (hh : h < 8) (e : n % 8 = h) : (n + 1 + 7 - h) / 8 = (n + 7 - h) / 8 + 1 ∧ n = 8 * ((n + 7 - h) / 8) + h := by
  omega

/-- … and the same when it is another head's. -/
theorem taken_same {n h : ℕ} (hh : h < 8) (e : n % 8 ≠ h) : (n + 1 + 7 - h) / 8 = (n + 7 - h) / 8 := by omega

/-- Head `h`'s maxima after `n` steps are those of the blocks it has taken. -/
theorem maxima (n : ℕ) (h : Fin 8) (b : Fin 256) :
    View.canon (listM s vm n) (ix3 h 0 b) = runMax (fun c k => s (8 * c + h) (ix2 k b)) ((n + 7 - h) / 8) := by
  induction n with
  | zero =>
    have e : (0 + 7 - h.val) / 8 = 0 := by omega
    rw [e, runMax]
    exact fillM_apply h b
  | succ n ih =>
    rw [listM_succ]
    by_cases hn : n % 8 = h
    · obtain ⟨e₁, e₂⟩ := taken_succ h.isLt hn
      rw [storeM_same _ _ hn, newMax_apply, loadM_apply vm _ hn, ih, e₁, runMax, ← e₂]
    · rw [taken_same h.isLt hn, ← ih]
      exact View.canon_cons_of_not_mem _ _ (not_mem_rectM hn b)

/-- Head `h`'s sums after `n` steps are those of the blocks it has taken. -/
theorem sums (n : ℕ) (h : Fin 8) (r : Fin 80) (b : Fin 256) :
    View.canon (listA s v vm va n) (ix3 h r b)
      = runAcc (fun c k => s (8 * c + h) (ix2 k b)) (fun c k => v (8 * c + h) (ix5 0 0 0 r k)) ((n + 7 - h) / 8) := by
  induction n with
  | zero =>
    have e : (0 + 7 - h.val) / 8 = 0 := by omega
    rw [e, runAcc]
    exact fillA_apply h r b
  | succ n ih =>
    rw [listA_succ]
    by_cases hn : n % 8 = h
    · obtain ⟨e₁, e₂⟩ := taken_succ h.isLt hn
      rw [storeA_same _ _ hn, newAcc_apply, newMax_apply, loadM_apply vm _ hn, loadA_apply va _ hn, ih, maxima, e₁, runAcc, runMax, ← e₂]
    · rw [taken_same h.isLt hn, ← ih]
      exact View.canon_cons_of_not_mem _ _ (not_mem_rectA hn r b)

/-- What the body leaves in its output block: head `h`'s rows are its weighted sums over its sum of weights. -/
theorem output (n : ℕ) (hn8 : n ≤ 8) (h : Fin 8) (hn : h < n) (r : Fin 64) (b : Fin 256) :
    View.canon (listO s v vm va n) (ix3 0 ⟨64 * h + r, by omega⟩ b)
      = runAcc (fun c k => s (8 * c + h) (ix2 k b)) (fun c k => v (8 * c + h) (ix5 0 0 0 ⟨r, by omega⟩ k)) 17
        * Ideal.div 1 (runAcc (fun c k => s (8 * c + h) (ix2 k b)) (fun c k => v (8 * c + h) (ix5 0 0 0 64 k)) 17) := by
  induction n with
  | zero => omega
  | succ n ih =>
    rw [listO_succ]
    by_cases e : n = h
    · subst e
      have h17 : (136 + 7 - h.val) / 8 = 17 := by omega
      have hh : h.val % 8 = h := by omega
      rw [storeO_same, quot_apply, loadV_apply va _ hh, loadL_apply va _ hh, sums, sums, h17]
    · rw [← ih (by omega) (by omega)]
      exact View.canon_cons_of_not_mem _ _ (not_mem_rectO (by omega) r b)
end

end Cert.AttnIdeal.Chain

end

end
-- ==== Proof.Block.lean ====
module

public import proofs.«01_k».proof.Proof.Step

@[expose] public section

/-! # What the attention's body leaves in its output block, from its input blocks -/

noncomputable section

namespace Cert.AttnIdeal.Chain

open Cert.AttnIdeal Cert.AttnIdeal.Gen Cert.Softmax Idealize Idealize.ShloMosaic

/-- Column `d` of key `a` of block `c`: block 0 is the context's, block `c + 1` the latents' rows `256 c …`. -/
def keyAt (x1 : Vec Ideal S1x256x128 .bf16) (x3 : Vec Ideal S1x4096x128 .bf16) : ℕ → Fin 256 → Fin 128 → EReal
  | 0, a, d => x1 (ix3 0 a d)
  | c + 1, a, d => x3 (ix3 0 ⟨256 * (c % 16) + a, by omega⟩ d)

/-- Row `r` of the value of key `a` of block `c`, for group `g`. -/
def valueAt (x2 : Vec Ideal S1x2x1x80x256 .bf16) (x4 : Vec Ideal S1x2x16x80x256 .bf16) (g : Fin 2) (r : Fin 80) : ℕ → Fin 256 → EReal
  | 0, a => x2 (ix5 0 g 0 r a)
  | c + 1, a => x4 (ix5 0 g ⟨c % 16, by omega⟩ r a)

/-- The score of query `b` of head `h` at key `a` of block `c`. -/
def scoreAt (x0 : Vec Ideal S1x1x8x128x256 .bf16) (x1 : Vec Ideal S1x256x128 .bf16) (x3 : Vec Ideal S1x4096x128 .bf16) (h : Fin 8)
    (b : Fin 256) (c : ℕ) (a : Fin 256) : EReal :=
  ∑ d : Fin 128, keyAt x1 x3 c a d * x0 (ix5 0 0 h d b)

/-- The group of a head. -/
def groupOf (h : Fin 8) : Fin 2 := ⟨h / 4, by omega⟩

/-- A head's output: its weighted sums of the values over its sum of the weights (row 64 of the values). -/
def outAt (x0 : Vec Ideal S1x1x8x128x256 .bf16) (x1 : Vec Ideal S1x256x128 .bf16) (x2 : Vec Ideal S1x2x1x80x256 .bf16)
    (x3 : Vec Ideal S1x4096x128 .bf16) (x4 : Vec Ideal S1x2x16x80x256 .bf16) (h : Fin 8) (r : Fin 64) (b : Fin 256) : EReal :=
  runAcc (scoreAt x0 x1 x3 h b) (valueAt x2 x4 (groupOf h) ⟨r, by omega⟩) 17
    * Ideal.div 1 (runAcc (scoreAt x0 x1 x3 h b) (valueAt x2 x4 (groupOf h) 64) 17)

section
variable (arg2 : Memref sig .tc .vmem S1x1x8x128x256 .bf16) (harg2 : arg2.IsWhole) (arg3 : Memref sig .tc .vmem S1x256x128 .bf16) (harg3 : arg3.IsWhole) (arg4 : Memref sig .tc .vmem S1x2x1x80x256 .bf16) (harg4 : arg4.IsWhole) (arg5 : Memref sig .tc .vmem S1x4096x128 .bf16) (harg5 : arg5.IsWhole) (arg6 : Memref sig .tc .vmem S1x2x16x80x256 .bf16) (harg6 : arg6.IsWhole)
    (x0 : Vec Ideal S1x1x8x128x256 .bf16) (x1 : Vec Ideal S1x256x128 .bf16) (x2 : Vec Ideal S1x2x1x80x256 .bf16) (x3 : Vec Ideal S1x4096x128 .bf16) (x4 : Vec Ideal S1x2x16x80x256 .bf16)

theorem keys_apply (c : ℕ) (a : Fin 256) (d : Fin 128) :
    keys arg3.view arg5.view (harg3.unread x1) (harg5.unread x3) c (ix3 0 a d) = keyAt x1 x3 c a d := by
  cases c with
  | zero =>
    rw [keys, keyAt, View.readAt_eq_ld, Memref.IsWhole.read_unread]
    refine congrArg x1 (funext fun e => ?_)
    match e with
    | ⟨0, _⟩ => exact Fin.ext (by show 0 + 1 * 0 = 0; omega)
    | ⟨1, _⟩ => exact Fin.ext (by show 0 + 1 * a.val = a.val; omega)
    | ⟨2, _⟩ => exact Fin.ext (by show 0 + 1 * d.val = d.val; omega)
  | succ c =>
    rw [keys, keyAt, View.readAt_eq_ld, Memref.IsWhole.read_unread]
    refine congrArg x3 (funext fun e => ?_)
    match e with
    | ⟨0, _⟩ => exact Fin.ext (by show 0 + 1 * 0 = 0; omega)
    | ⟨1, _⟩ => exact Fin.ext (by show 256 * (c % 16) + 1 * a.val = 256 * (c % 16) + a.val; omega)
    | ⟨2, _⟩ => exact Fin.ext (by show 0 + 1 * d.val = d.val; omega)

theorem values_apply (n : ℕ) (h : Fin 8) (hn : n % 8 = h) (c : ℕ) (r : Fin 80) (a : Fin 256) :
    values arg4.view arg6.view (harg4.unread x2) (harg6.unread x4) n c (ix5 0 0 0 r a) = valueAt x2 x4 (groupOf h) r c a := by
  cases c with
  | zero =>
    rw [values, valueAt, View.readAt_eq_ld, Memref.IsWhole.read_unread]
    refine congrArg x2 (funext fun e => ?_)
    match e with
    | ⟨0, _⟩ => exact Fin.ext (by show 0 + 1 * 0 = 0; omega)
    | ⟨1, _⟩ => exact Fin.ext (by show n % 8 / 4 + 1 * 0 = h.val / 4; omega)
    | ⟨2, _⟩ => exact Fin.ext (by show 0 + 1 * 0 = 0; omega)
    | ⟨3, _⟩ => exact Fin.ext (by show 0 + 1 * r.val = r.val; omega)
    | ⟨4, _⟩ => exact Fin.ext (by show 0 + 1 * a.val = a.val; omega)
  | succ c =>
    rw [values, valueAt, View.readAt_eq_ld, Memref.IsWhole.read_unread]
    refine congrArg x4 (funext fun e => ?_)
    match e with
    | ⟨0, _⟩ => exact Fin.ext (by show 0 + 1 * 0 = 0; omega)
    | ⟨1, _⟩ => exact Fin.ext (by show n % 8 / 4 + 1 * 0 = h.val / 4; omega)
    | ⟨2, _⟩ => exact Fin.ext (by show c % 16 + 1 * 0 = c % 16; omega)
    | ⟨3, _⟩ => exact Fin.ext (by show 0 + 1 * r.val = r.val; omega)
    | ⟨4, _⟩ => exact Fin.ext (by show 0 + 1 * a.val = a.val; omega)

theorem queries_apply (n : ℕ) (h : Fin 8) (hn : n % 8 = h) (d : Fin 128) (b : Fin 256) :
    queries arg2.view (harg2.unread x0) n (ix5 0 0 0 d b) = x0 (ix5 0 0 h d b) := by
  unfold queries
  rw [View.readAt_eq_ld, Memref.IsWhole.read_unread]
  refine congrArg x0 (funext fun e => ?_)
  match e with
  | ⟨0, _⟩ => exact Fin.ext (by show 0 + 1 * 0 = 0; omega)
  | ⟨1, _⟩ => exact Fin.ext (by show 0 + 1 * 0 = 0; omega)
  | ⟨2, _⟩ => exact Fin.ext (by show n % 8 + 1 * 0 = h.val; omega)
  | ⟨3, _⟩ => exact Fin.ext (by show 0 + 1 * d.val = d.val; omega)
  | ⟨4, _⟩ => exact Fin.ext (by show 0 + 1 * b.val = b.val; omega)

/-- The scores of head `h`'s steps. -/
theorem bodyScores_apply (h : Fin 8) (b : Fin 256) :
    (fun c k => bodyScores arg2 harg2 arg3 harg3 arg5 harg5 x0 x1 x3 (8 * c + h) (ix2 k b)) = scoreAt x0 x1 x3 h b := by
  funext c k
  have e : (8 * c + h.val) / 8 = c := by omega
  have e' : (8 * c + h.val) % 8 = h := by omega
  rw [bodyScores, scores_apply, scoreAt, e]
  exact Finset.sum_congr rfl fun d _ => by rw [keys_apply, queries_apply _ _ _ _ h e']

/-- The values of head `h`'s steps. -/
theorem bodyValues_apply (h : Fin 8) (r : Fin 80) :
    (fun c k => bodyValues arg4 harg4 arg6 harg6 x2 x4 (8 * c + h) (ix5 0 0 0 r k)) = valueAt x2 x4 (groupOf h) r := by
  funext c k
  have e : (8 * c + h.val) / 8 = c := by omega
  have e' : (8 * c + h.val) % 8 = h := by omega
  rw [bodyValues, e, values_apply _ _ _ _ _ _ _ h e']
end

section
variable (c : Dev nD) (i : grid0.Coords) (arg2 : Memref sig .tc .vmem S1x1x8x128x256 .bf16) (harg2 : arg2.IsWhole) (arg3 : Memref sig .tc .vmem S1x256x128 .bf16) (harg3 : arg3.IsWhole) (arg4 : Memref sig .tc .vmem S1x2x1x80x256 .bf16) (harg4 : arg4.IsWhole) (arg5 : Memref sig .tc .vmem S1x4096x128 .bf16) (harg5 : arg5.IsWhole) (arg6 : Memref sig .tc .vmem S1x2x16x80x256 .bf16) (harg6 : arg6.IsWhole) (arg7 : Memref sig .tc .vmem S1x512x256 .bf16) (harg7 : arg7.IsWhole) (arg8 : Memref sig .tc .vmem S8x1x256 .f32) (harg8 : arg8.IsWhole) (arg9 : Memref sig .tc .vmem S8x80x256 .f32) (harg9 : arg9.IsWhole)
    (x0 : Vec Ideal S1x1x8x128x256 .bf16) (x1 : Vec Ideal S1x256x128 .bf16) (x2 : Vec Ideal S1x2x1x80x256 .bf16) (x3 : Vec Ideal S1x4096x128 .bf16) (x4 : Vec Ideal S1x2x16x80x256 .bf16)

/-- The output block, row by row. -/
theorem out_apply (h : Fin 8) (r : Fin 64) (b : Fin 256) :
    out0_A_5 c i arg2 harg2 arg3 harg3 arg4 harg4 arg5 harg5 arg6 harg6 arg7 harg7 arg8 harg8 arg9 harg9 x0 x1 x2 x3 x4
      (ix3 0 ⟨64 * h + r, by omega⟩ b) = outAt x0 x1 x2 x3 x4 h r b := by
  rw [out0_A_5, View.read_writes_junk_eq_canon, pieces_eq]
  refine (output _ _ arg8.view arg9.view 8 le_rfl h h.isLt r b).trans ?_
  rw [bodyScores_apply, bodyValues_apply, bodyValues_apply, outAt]
end

end Cert.AttnIdeal.Chain

end

end
-- ==== Proof.Array.lean ====
module

public import proofs.«01_k».proof.Proof.Block
public import proofs.«01_k».proof.Proof.Gen.AttnIdeal.Value
public import Idealize.ShloMosaic.Lib.Pipeline.Covers

@[expose] public section

/-! # What the attention's output array holds after the run -/

noncomputable section

namespace Cert.AttnIdeal.Chain

open Cert.AttnIdeal Cert.AttnIdeal.Gen Idealize Idealize.ShloMosaic Idealize.ShloMosaic.TcCoe

/-- Batch `b`, tile `j` of the queries. -/
def tileQ (qt : Vec Ideal S16x16x8x128x256 .bf16) (b j : Fin 16) : Vec Ideal S1x1x8x128x256 .bf16 :=
  fun y => qt (ix5 b j (y 2) (y 3) (y 4))

/-- Batch `b` of the context's keys. -/
def tileKc (kc : Vec Ideal S16x256x128 .bf16) (b : Fin 16) : Vec Ideal S1x256x128 .bf16 :=
  fun y => kc (ix3 b (y 1) (y 2))

/-- Batch `b` of the context's values. -/
def tileVc (vc : Vec Ideal S16x2x1x80x256 .bf16) (b : Fin 16) : Vec Ideal S1x2x1x80x256 .bf16 :=
  fun y => vc (ix5 b (y 1) (y 2) (y 3) (y 4))

/-- Batch `b` of the latents' keys. -/
def tileK (k : Vec Ideal S16x4096x128 .bf16) (b : Fin 16) : Vec Ideal S1x4096x128 .bf16 :=
  fun y => k (ix3 b (y 1) (y 2))

/-- Batch `b` of the latents' values. -/
def tileV (v : Vec Ideal S16x2x16x80x256 .bf16) (b : Fin 16) : Vec Ideal S1x2x16x80x256 .bf16 :=
  fun y => v (ix5 b (y 1) (y 2) (y 3) (y 4))

/-- The whole output array. -/
def outArr (qt : Vec Ideal S16x16x8x128x256 .bf16) (kc : Vec Ideal S16x256x128 .bf16) (vc : Vec Ideal S16x2x1x80x256 .bf16)
    (k : Vec Ideal S16x4096x128 .bf16) (v : Vec Ideal S16x2x16x80x256 .bf16) : Vec Ideal S16x512x4096 .bf16 := fun i =>
  outAt (tileQ qt (i 0) ⟨(i 2).val / 256, by have := (i 2).isLt; change _ < 4096 at this; omega⟩) (tileKc kc (i 0)) (tileVc vc (i 0))
    (tileK k (i 0)) (tileV v (i 0)) ⟨(i 1).val / 64, by have := (i 1).isLt; change _ < 512 at this; omega⟩
    ⟨(i 1).val % 64, by omega⟩ ⟨(i 2).val % 256, by omega⟩

variable (m : (ℓ : Loc nD τ sig) → Buf (Elt Ideal) ℓ)

theorem index0 (t : Fin cfg0.N) : win0_0.index t = ![(grid0.coords t 0).val, (grid0.coords t 1).val, 0, 0, 0] := by
  revert t; decide +kernel
theorem index1 (t : Fin cfg0.N) : win0_1.index t = ![(grid0.coords t 0).val, 0, 0] := by
  revert t; decide +kernel
theorem index2 (t : Fin cfg0.N) : win0_2.index t = ![(grid0.coords t 0).val, 0, 0, 0, 0] := by
  revert t; decide +kernel
theorem index3 (t : Fin cfg0.N) : win0_3.index t = ![(grid0.coords t 0).val, 0, 0] := by
  revert t; decide +kernel
theorem index4 (t : Fin cfg0.N) : win0_4.index t = ![(grid0.coords t 0).val, 0, 0, 0, 0] := by
  revert t; decide +kernel
theorem index5 (t : Fin cfg0.N) : win0_5.index t = ![(grid0.coords t 0).val, 0, (grid0.coords t 1).val] := by
  revert t; decide +kernel

theorem block0 (c : Dev nD) (t : Fin cfg0.N) :
    (iblk m c 0 t : Vec Ideal S1x1x8x128x256 .bf16) = tileQ (m ((c : Thread nD τ).loc main_arg0)) (grid0.coords t 0) (grid0.coords t 1) := by
  funext y
  unfold tileQ
  blk_ext [iblk, V, index0 t]

theorem block1 (c : Dev nD) (t : Fin cfg0.N) :
    (iblk m c 1 t : Vec Ideal S1x256x128 .bf16) = tileKc (m ((c : Thread nD τ).loc main_arg1)) (grid0.coords t 0) := by
  funext y
  unfold tileKc
  blk_ext [iblk, V, index1 t]

theorem block2 (c : Dev nD) (t : Fin cfg0.N) :
    (iblk m c 2 t : Vec Ideal S1x2x1x80x256 .bf16) = tileVc (m ((c : Thread nD τ).loc main_arg2)) (grid0.coords t 0) := by
  funext y
  unfold tileVc
  blk_ext [iblk, V, index2 t]

theorem block3 (c : Dev nD) (t : Fin cfg0.N) :
    (iblk m c 3 t : Vec Ideal S1x4096x128 .bf16) = tileK (m ((c : Thread nD τ).loc main_arg3)) (grid0.coords t 0) := by
  funext y
  unfold tileK
  blk_ext [iblk, V, index3 t]

theorem block4 (c : Dev nD) (t : Fin cfg0.N) :
    (iblk m c 4 t : Vec Ideal S1x2x16x80x256 .bf16) = tileV (m ((c : Thread nD τ).loc main_arg4)) (grid0.coords t 0) := by
  funext y
  unfold tileV
  blk_ext [iblk, V, index4 t]

/-- Every block of the output is written. -/
theorem covers5 : (cfg0.win 5).Covers :=
  (cfg0.win 5).covers_of_indexMap_surj rfl (by decide) fun β =>
    ⟨fun a => match a with
      | ⟨0, _⟩ => ⟨(β ⟨0, by decide⟩).val, lt_of_lt_of_eq (β ⟨0, by decide⟩).isLt (by decide : (cfg0.win 5).nblk ⟨0, by decide⟩ = 16)⟩
      | ⟨1, _⟩ => ⟨(β ⟨2, by decide⟩).val, lt_of_lt_of_eq (β ⟨2, by decide⟩).isLt (by decide : (cfg0.win 5).nblk ⟨2, by decide⟩ = 16)⟩,
    fun a => by
      match a with
      | ⟨0, _⟩ =>
        have := lt_of_lt_of_eq (β ⟨0, by decide⟩).isLt (by decide : (cfg0.win 5).nblk ⟨0, by decide⟩ = 16)
        show (BitVec.ofNat 32 (β ⟨0, by decide⟩).val).toNat = _
        rw [BitVec.toNat_ofNat]; omega
      | ⟨1, _⟩ =>
        have := lt_of_lt_of_eq (β ⟨1, by decide⟩).isLt (by decide : (cfg0.win 5).nblk ⟨1, by decide⟩ = 1)
        show 0 = _
        omega
      | ⟨2, _⟩ =>
        have := lt_of_lt_of_eq (β ⟨2, by decide⟩).isLt (by decide : (cfg0.win 5).nblk ⟨2, by decide⟩ = 16)
        show (BitVec.ofNat 32 (β ⟨2, by decide⟩).val).toNat = _
        rw [BitVec.toNat_ofNat]; omega⟩

/-- After the run the output array is `outArr` of the arguments. -/
theorem arrAt_eq (c : Dev nD) : (dats m 0 c).arrAt 5 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ covers5 fun t hf y => ?_
  blk_simp
  rw [after0_5, outsAt0, block0, block1, block2, block3, block4]
  have h1 : (y 1).val < 512 := (y 1).isLt
  have h2 : (y 2).val < 256 := (y 2).isLt
  have e0 : ((((cfg0.win 5).blk t).view.emb y) 0).val = (grid0.coords t 0).val := by
    blk_simp [index5 t]
  have e1 : ((((cfg0.win 5).blk t).view.emb y) 1).val = (y 1).val := by
    blk_simp [index5 t]
  have e2 : ((((cfg0.win 5).blk t).view.emb y) 2).val = (grid0.coords t 1).val * 256 + (y 2).val := by
    blk_simp [index5 t]
  have hy : (y : S1x512x256.Idx) = ix3 0 ⟨64 * ((⟨(y 1).val / 64, by omega⟩ : Fin 8) : ℕ) + ((⟨(y 1).val % 64, by omega⟩ : Fin 64) : ℕ), by
      show 64 * ((y 1).val / 64) + (y 1).val % 64 < 512; omega⟩ (⟨(y 2).val, h2⟩ : Fin 256) := by
    funext a
    match a with
    | ⟨0, _⟩ => exact Fin.ext (by have := (y 0).isLt; change _ < 1 at this; show (y 0).val = 0; omega)
    | ⟨1, _⟩ => exact Fin.ext (by show (y 1).val = 64 * ((y 1).val / 64) + (y 1).val % 64; omega)
    | ⟨2, _⟩ => rfl
  refine (congrArg _ hy).trans ((out_apply c _ _ _ _ _ _ _ _ _ _ _ _ _ _ _ _ _ _ _ _ _ _ _ _ _).trans ?_)
  unfold outArr
  congr 1
  · congr 1
    · exact Fin.ext e0.symm
    · exact Fin.ext (by show _ = _ / 256; rw [e2]; omega)
  · exact congrArg _ (Fin.ext e0.symm)
  · exact congrArg _ (Fin.ext e0.symm)
  · exact congrArg _ (Fin.ext e0.symm)
  · exact congrArg _ (Fin.ext e0.symm)
  · exact Fin.ext (by show _ = _ / 64; rw [e1])
  · exact Fin.ext (by show _ = _ % 64; rw [e1])
  · exact Fin.ext (by show (y 2).val = _ % 256; rw [e2]; omega)

end Cert.AttnIdeal.Chain

end

end
-- ==== Proof.Reference.lean ====
module

public import proofs.«01_k».proof.Proof.Softmax
public import proofs.«01_k».proof.Proof.Gen.AttnRefIdeal.Read
public import Idealize.ShloMosaic.Lib.Pipeline.ValueKit
public import Idealize.ShloMosaic.Lib.Pointwise
public import Idealize.ShloMosaic.PureOps.Ideal.Laws

@[expose] public section

/-! # The reference attention, element by element -/

noncomputable section

namespace Cert.AttnRefIdeal.Chain

open Cert.AttnRefIdeal Cert.AttnRefIdeal.Gen Cert.AttnRefIdeal.Read Cert.Softmax Idealize Idealize.ShloMosaic

variable (qt : Vec Ideal S16x16x8x128x256 .bf16) (kc : Vec Ideal S16x256x128 .bf16) (vc : Vec Ideal S16x2x1x80x256 .bf16)
variable (k : Vec Ideal S16x4096x128 .bf16) (v : Vec Ideal S16x2x16x80x256 .bf16)

/-- Column `e` of key `j`: the context's 256 keys, then the latents' 4096. -/
def keyArr (b : Fin 16) (j : Fin 4352) (e : Fin 128) : EReal :=
  if h : j.val < 256 then kc (ix3 b ⟨j, h⟩ e) else k (ix3 b ⟨j - 256, by omega⟩ e)

/-- Column `d` of group `g`'s value `j`. -/
def valArr (b : Fin 16) (g : Fin 2) (j : Fin 4352) (d : Fin 64) : EReal :=
  if h : j.val < 256 then vc (ix5 b g 0 ⟨d, by omega⟩ ⟨j, h⟩)
  else v (ix5 b g ⟨j / 256 - 1, by omega⟩ ⟨d, by omega⟩ ⟨j % 256, by omega⟩)

/-- Column `d` of query `p` of head `4 g + r`: it sits in group `g`'s half of the 128 columns. -/
def queryArr (b : Fin 16) (p : Fin 4096) (g : Fin 2) (r : Fin 4) (d : Fin 64) : EReal :=
  qt (ix5 b ⟨p / 256, by omega⟩ ⟨4 * g + r, by omega⟩ ⟨64 * g + d, by omega⟩ ⟨p % 256, by omega⟩)

theorem v6_apply (b : Fin 16) (j : Fin 4352) (e : Fin 128) : val_main_v6 (F := Ideal) kc k (ix3 b j e) = keyArr kc k b j e := by
  unfold val_main_v6 keyArr
  split
  · rename_i h
    refine concatenate_pair_apply_left (t := S16x4352x128) (s₁ := S16x256x128) (s₂ := S16x4096x128) 1 kc k _ _ rfl _ fun a => ?_
    match a with
    | ⟨0, _⟩ => rfl
    | ⟨1, _⟩ => rfl
    | ⟨2, _⟩ => rfl
  · rename_i h
    refine concatenate_pair_apply_right (t := S16x4352x128) (s₁ := S16x256x128) (s₂ := S16x4096x128) 1 kc k _ _ rfl rfl _ (fun a ha => ?_) ?_
    · match a with
      | ⟨0, _⟩ => rfl
      | ⟨1, _⟩ => exact absurd rfl ha
      | ⟨2, _⟩ => rfl
    · show j.val - 256 + 256 = j.val
      omega

theorem v8_apply (b : Fin 16) (j : Fin 4352) (g : Fin 2) (d : Fin 64) :
    val_main_v8 (F := Ideal) kc k (ix4 b j g d) = keyArr kc k b j ⟨64 * g + d, by omega⟩ := by
  rw [val_main_v8_apply, val_main_v7_apply, ← v6_apply]
  show val_main_v6 (F := Ideal) kc k _ = _
  refine congrArg _ ?_
  blk_ext [idx_main_v8]

theorem v3_apply (b t : Fin 16) (h : Fin 8) (d : Fin 64) (q : Fin 256) :
    val_main_v3 (F := Ideal) qt (ix5 b t h d q) = qt (ix5 b t h ⟨64 * (h / 4) + d, by omega⟩ q) := by
  unfold val_main_v3
  by_cases hh : h.val < 4
  · refine (concatenate_pair_apply_left (t := S16x16x8x64x256) (s₁ := S16x16x4x64x256) (s₂ := S16x16x4x64x256) 2 _ _ _ _ rfl
      (ix5 b t (⟨h, hh⟩ : Fin 4) d q) fun a => ?_).trans ?_
    · match a with
      | ⟨0, _⟩ => rfl
      | ⟨1, _⟩ => rfl
      | ⟨2, _⟩ => rfl
      | ⟨3, _⟩ => rfl
      | ⟨4, _⟩ => rfl
    · rw [val_main_v1_apply]
      show qt _ = _
      refine congrArg _ ?_
      blk_ext [idx_main_v1]
  · refine (concatenate_pair_apply_right (t := S16x16x8x64x256) (s₁ := S16x16x4x64x256) (s₂ := S16x16x4x64x256) 2 _ _ _ _ rfl rfl
      (ix5 b t (⟨h - 4, by omega⟩ : Fin 4) d q) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show h.val - 4 + 4 = h.val
      omega
    · rw [val_main_v2_apply]
      show qt _ = _
      refine congrArg _ ?_
      blk_ext [idx_main_v2]

theorem v5_apply (b : Fin 16) (p : Fin 4096) (g : Fin 2) (r : Fin 4) (d : Fin 64) :
    val_main_v5 (F := Ideal) qt (ix5 b p g r d) = queryArr qt b p g r d := by
  rw [val_main_v5_apply, val_main_v4_apply, queryArr]
  have e : idx_main_v4 (idx_main_v5 (ix5 b p g r d))
      = ix5 b (⟨p / 256, by omega⟩ : Fin 16) (⟨4 * g + r, by omega⟩ : Fin 8) d (⟨p % 256, by omega⟩ : Fin 256) := by
    blk_ext [idx_main_v4, idx_main_v5]
  rw [e, v3_apply]
  refine congrArg _ ?_
  blk_ext []

theorem v11_apply (b : Fin 16) (g : Fin 2) (c : Fin 17) (d : Fin 64) (a : Fin 256) :
    val_main_v11 (F := Ideal) vc v (ix5 b g c d a) = valArr vc v b g ⟨256 * c + a, by omega⟩ d := by
  unfold val_main_v11 valArr
  by_cases hc : c.val = 0
  · rw [dif_pos (show 256 * c.val + a.val < 256 by omega)]
    refine (concatenate_pair_apply_left (t := S16x2x17x64x256) (s₁ := S16x2x1x64x256) (s₂ := S16x2x16x64x256) 2 _ _ _ _ rfl
      (ix5 b g (0 : Fin 1) d a) fun x => ?_).trans ?_
    · match x with
      | ⟨0, _⟩ => rfl
      | ⟨1, _⟩ => rfl
      | ⟨2, _⟩ => exact hc.symm
      | ⟨3, _⟩ => rfl
      | ⟨4, _⟩ => rfl
    · rw [val_main_v9_apply]
      refine congrArg _ ?_
      blk_ext [idx_main_v9]
  · rw [dif_neg (show ¬ 256 * c.val + a.val < 256 by omega)]
    refine (concatenate_pair_apply_right (t := S16x2x17x64x256) (s₁ := S16x2x1x64x256) (s₂ := S16x2x16x64x256) 2 _ _ _ _ rfl rfl
      (ix5 b g (⟨c - 1, by omega⟩ : Fin 16) d a) (fun x hx => ?_) ?_).trans ?_
    · match x with
      | ⟨0, _⟩ => rfl
      | ⟨1, _⟩ => rfl
      | ⟨2, _⟩ => exact absurd rfl hx
      | ⟨3, _⟩ => rfl
      | ⟨4, _⟩ => rfl
    · show c.val - 1 + 1 = c.val
      omega
    · rw [val_main_v10_apply]
      refine congrArg _ ?_
      blk_ext [idx_main_v10]

theorem v14_apply (b : Fin 16) (j : Fin 4352) (g : Fin 2) (d : Fin 64) :
    val_main_v14 (F := Ideal) vc v (ix4 b j g d) = valArr vc v b g j d := by
  rw [val_main_v14_apply, val_main_v13_apply, val_main_v12_apply]
  show val_main_v11 (F := Ideal) vc v _ = _
  have e : idx_main_v13 (idx_main_v14 (ix4 b j g d))
      = ix5 b g (⟨j / 256, by omega⟩ : Fin 17) d (⟨j % 256, by omega⟩ : Fin 256) := by
    blk_ext [idx_main_v13, idx_main_v14]
  rw [e, v11_apply]
  exact congrArg (fun j => valArr vc v b g j d) (Fin.ext (by show 256 * (j.val / 256) + j.val % 256 = j.val; omega))

end Cert.AttnRefIdeal.Chain

end

end
-- ==== Proof.RefSoftmax.lean ====
module

public import proofs.«01_k».proof.Proof.Reference

@[expose] public section

/-! # The reference's softmax and its product with the values -/

noncomputable section

namespace Cert.AttnRefIdeal.Chain

open Cert.AttnRefIdeal Cert.AttnRefIdeal.Gen Cert.AttnRefIdeal.Read Cert.Softmax Idealize Idealize.ShloMosaic

variable (qt : Vec Ideal S16x16x8x128x256 .bf16) (kc : Vec Ideal S16x256x128 .bf16) (vc : Vec Ideal S16x2x1x80x256 .bf16)
variable (k : Vec Ideal S16x4096x128 .bf16) (v : Vec Ideal S16x2x16x80x256 .bf16)

/-- The product of key `j` and query `p` of head `4 g + r`. -/
def scoreArr (b : Fin 16) (g : Fin 2) (r : Fin 4) (p : Fin 4096) (j : Fin 4352) : EReal :=
  ∑ d : Fin 64, keyArr kc k b j ⟨64 * g + d, by omega⟩ * queryArr qt b p g r d

theorem ofBits_two : Ideal.ofBits .f32 0x40000000#32 = ((2 : ℝ) : EReal) := by
  simp [Ideal.ofBits, Ideal.ieee, -EReal.coe_mul]; norm_num

theorem ofBits_neg_inf : Ideal.ofBits .f32 0xFF800000#32 = ⊥ := by
  norm_num [Ideal.ofBits, Ideal.ieee]
  rw [if_pos (by decide), if_pos (by decide)]

theorem v16_apply (b : Fin 16) (g : Fin 2) (r : Fin 4) (p : Fin 4096) (j : Fin 4352) :
    val_main_v16 (F := Ideal) qt kc k (ix5 b g r p j) = scoreArr qt kc k b g r p j := by
  rw [val_main_v16_apply, val_main_v15_apply, scoreArr]
  refine Finset.sum_congr rfl fun d _ => ?_
  have e₁ : lidx_main_v15 (idx_main_v16 (ix5 b g r p j)) d = ix4 b j g d := by
    funext a
    match a with
    | ⟨0, _⟩ => rfl
    | ⟨1, _⟩ => rfl
    | ⟨2, _⟩ => rfl
    | ⟨3, _⟩ => rfl
  have e₂ : ridx_main_v15 (idx_main_v16 (ix5 b g r p j)) d = ix5 b p g r d := by
    funext a
    match a with
    | ⟨0, _⟩ => rfl
    | ⟨1, _⟩ => rfl
    | ⟨2, _⟩ => rfl
    | ⟨3, _⟩ => rfl
    | ⟨4, _⟩ => rfl
  rw [e₁, e₂, v8_apply, v5_apply]

/-- The scaled scores: the product times `log 2`. -/
theorem v19_apply (b : Fin 16) (g : Fin 2) (r : Fin 4) (p : Fin 4096) (j : Fin 4352) (t : ℝ) (ht : scoreArr qt kc k b g r p j = t) :
    val_main_v19 (F := Ideal) qt kc k (ix5 b g r p j) = ((t * Real.log 2 : ℝ) : EReal) := by
  rw [val_main_v19_apply, v16_apply, val_main_v18_apply, val_main_v17_apply, val_main_cst_apply, ht]
  show (t : EReal) * Ideal.log (Ideal.ofBits .f32 0x40000000#32) = _
  rw [ofBits_two, Ideal.log_coe, if_neg (by norm_num), EReal.coe_mul]

section
variable (b : Fin 16) (g : Fin 2) (r : Fin 4) (p : Fin 4096) (t : Fin 4352 → ℝ) (ht : ∀ j, scoreArr qt kc k b g r p j = t j)
include ht

/-- The largest scaled score is a real. -/
theorem v22_real : ∃ T : ℝ, val_main_v22 (F := Ideal) qt kc k (ix4 b g r p) = T := by
  have h20 : ∃ T : ℝ, val_main_v20 (F := Ideal) qt kc k (ix4 b g r p) = T := by
    unfold val_main_v20
    rw [Host.reduce_eq_fold_single FloatOps.maximumf _ _ _ (by decide : S16x2x4x4096x4352.Reduces [4] S16x2x4x4096)]
    have hinit : val_main_cst_0 (F := Ideal) (Shape.Idx.first h_S_) = ⊥ := ofBits_neg_inf
    rw [hinit]
    refine fold_max_real _ ⟨(0 : Fin 4352), Finset.mem_univ _⟩ _ fun j => ⟨t j * Real.log 2, ?_⟩
    refine Eq.trans (congrArg (val_main_v19 (F := Ideal) qt kc k) ?_) (v19_apply qt kc k b g r p j (t j) (ht j))
    funext a
    match a with
    | ⟨0, _⟩ => rfl
    | ⟨1, _⟩ => rfl
    | ⟨2, _⟩ => rfl
    | ⟨3, _⟩ => rfl
    | ⟨4, _⟩ => rfl
  obtain ⟨T, hT⟩ := h20
  refine ⟨T, ?_⟩
  rw [val_main_v22_apply, hT, val_main_v21_apply, val_main_cst_1_apply]
  show max (Ideal.ofBits .f32 0xFF800000#32) (T : EReal) = T
  rw [ofBits_neg_inf]
  exact max_eq_right bot_le

/-- The softmax of the scores at base 2. -/
theorem v30_apply (j : Fin 4352) :
    val_main_v30 (F := Ideal) qt kc k (ix5 b g r p j) = (((2 : ℝ) ^ t j / ∑ j, (2 : ℝ) ^ t j : ℝ) : EReal) := by
  obtain ⟨T, hT⟩ := v22_real qt kc k b g r p t ht
  have h26 : ∀ j, val_main_v26 (F := Ideal) qt kc k (ix5 b g r p j) = Ideal.exp (((t j * Real.log 2 : ℝ) : EReal) - (T : EReal)) := by
    intro j
    have e : idx_main_v23 (idx_main_v24 (ix5 b g r p j)) = ix4 b g r p := by
      funext a
      match a with
      | ⟨0, _⟩ => rfl
      | ⟨1, _⟩ => rfl
      | ⟨2, _⟩ => rfl
      | ⟨3, _⟩ => rfl
    rw [val_main_v26_apply, val_main_v25_apply, v19_apply qt kc k b g r p j (t j) (ht j), val_main_v24_apply, val_main_v23_apply, e, hT]
    rfl
  have e : idx_main_v28 (idx_main_v29 (ix5 b g r p j)) = ix4 b g r p := by
    funext a
    match a with
    | ⟨0, _⟩ => rfl
    | ⟨1, _⟩ => rfl
    | ⟨2, _⟩ => rfl
    | ⟨3, _⟩ => rfl
  have h0 : val_main_cst_2 (F := Ideal) (Shape.Idx.first h_S_) = 0 := Ideal.ofBits_zero_f32
  rw [val_main_v30_apply, val_main_v29_apply, val_main_v28_apply, e, val_main_v27_apply, h0, zero_add, h26]
  have h27 : ∀ j, val_main_v26 (F := Ideal) qt kc k (idx_main_v27 (ix4 b g r p) j)
      = Ideal.exp (((t j * Real.log 2 : ℝ) : EReal) - (T : EReal)) := by
    intro j
    rw [← h26]
    refine congrArg _ ?_
    funext a
    match a with
    | ⟨0, _⟩ => rfl
    | ⟨1, _⟩ => rfl
    | ⟨2, _⟩ => rfl
    | ⟨3, _⟩ => rfl
    | ⟨4, _⟩ => rfl
  simp only [h27]
  haveI : Nonempty (Fin 4352) := ⟨0⟩
  exact softmax_log_two t T j

/-- The reference's result: row `64 (4 g + r) + d`, column `p`. -/
theorem v35_apply (d : Fin 64) :
    val_main_v35 (F := Ideal) qt kc vc k v (ix3 b ⟨64 * (4 * g + r) + d, by omega⟩ p)
      = ∑ j : Fin 4352, valArr vc v b g j d * (((2 : ℝ) ^ t j / ∑ j, (2 : ℝ) ^ t j : ℝ) : EReal) := by
  rw [val_main_v35_apply, val_main_v34_apply, val_main_v33_apply, val_main_v32_apply]
  have e : idx_main_v32 (idx_main_v33 (idx_main_v34 (ix3 b (⟨64 * (4 * g + r) + d, by omega⟩ : Fin 512) p))) = ix5 b g d r p := by
    blk_ext [idx_main_v32, idx_main_v33, idx_main_v34]
  rw [e]
  refine (val_main_v31_apply qt kc vc k v _).trans (Finset.sum_congr rfl fun j _ => ?_)
  have e₁ : lidx_main_v31 (ix5 b g d r p) j = ix4 b j g d := by
    funext a
    match a with
    | ⟨0, _⟩ => rfl
    | ⟨1, _⟩ => rfl
    | ⟨2, _⟩ => rfl
    | ⟨3, _⟩ => rfl
  have e₂ : ridx_main_v31 (ix5 b g d r p) j = ix5 b g r p j := by
    funext a
    match a with
    | ⟨0, _⟩ => rfl
    | ⟨1, _⟩ => rfl
    | ⟨2, _⟩ => rfl
    | ⟨3, _⟩ => rfl
    | ⟨4, _⟩ => rfl
  rw [e₁, e₂, v14_apply, v30_apply qt kc k b g r p t ht j]
end

end Cert.AttnRefIdeal.Chain

end

end
-- ==== Proof.Layout.lean ====
module

public import proofs.«01_k».proof.Proof.Gen.Pre_attention_layout
public import Idealize.ShloMosaic.Lib.ReduceAll
public import Idealize.ShloMosaic.Lib.IdealHost
public import Idealize.ShloMosaic.Lib.Pipeline.ValueKit
public import Idealize.ShloMosaic.Lib.Pointwise

@[expose] public section

/-! # What the precondition says of the attention's arguments -/

noncomputable section

namespace Cert.Pre_attention_layout.Chain

open Cert.Pre_attention_layout Cert.Pre_attention_layout.Gen Idealize Idealize.ShloMosaic

instance : Subsingleton S_.Idx := ⟨fun a b => funext fun x => x.elim0⟩

/-- A value whose magnitude is below the largest pattern is a real. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Two values that compare equal are equal. -/
theorem eq_of_eq (x y : EReal) (h : Ideal.cmp .oeq x y = 1#1) : x = y := by
  by_contra hne
  simp [Ideal.cmp, hne] at h

variable (qt : Vec Ideal S16x16x8x128x256 .bf16) (kc : Vec Ideal S16x256x128 .bf16) (vc : Vec Ideal S16x2x1x80x256 .bf16)
variable (k : Vec Ideal S16x4096x128 .bf16) (v : Vec Ideal S16x2x16x80x256 .bf16)

/-- The layout: the queries and the keys are real, a head's queries are zero off its group's columns, and rows 64 to 79 of
    the values are ones. -/
structure Layout : Prop where
  query : ∀ i, ∃ r : ℝ, qt i = r
  keyC : ∀ i, ∃ r : ℝ, kc i = r
  key : ∀ i, ∃ r : ℝ, k i = r
  pad : ∀ (b j : Fin 16) (h : Fin 8) (d : Fin 128) (q : Fin 256), d.val / 64 ≠ h.val / 4 → qt (ix5 b j h d q) = 0
  oneC : ∀ (b : Fin 16) (g : Fin 2) (a : Fin 256), vc (ix5 b g 0 64 a) = 1
  one : ∀ (b : Fin 16) (g : Fin 2) (c : Fin 16) (a : Fin 256), v (ix5 b g c 64 a) = 1

theorem layout (h : fn (F := Ideal) qt kc vc k v = fun _ => 1#1) : Layout qt kc vc k v := by
  have h0 := congrFun h (fun a => a.elim0)
  dsimp only [fn, fn_part1, fn_part2] at h0
  obtain ⟨h38, h39⟩ := IntOp.andi_eq_one.1 h0
  obtain ⟨h26, h37⟩ := IntOp.andi_eq_one.1 h38
  obtain ⟨h31, h36⟩ := IntOp.andi_eq_one.1 h37
  obtain ⟨h10, h21⟩ := IntOp.andi_eq_one.1 h39
  obtain ⟨h4, h9⟩ := IntOp.andi_eq_one.1 h10
  obtain ⟨h15, h20⟩ := IntOp.andi_eq_one.1 h21
  refine ⟨fun i => real_of_lt _ (Host.reduce_andi_all _ _ _ _ _ h26 i), fun i => real_of_lt _ (Host.reduce_andi_all _ _ _ _ _ h31 i),
    fun i => real_of_lt _ (Host.reduce_andi_all _ _ _ _ _ h36 i), fun b j h d q hd => ?_, fun b g a => ?_, fun b g c a => ?_⟩
  · have hz : Ideal.ofBits .f32 0x00000000#32 = 0 := Ideal.ofBits_zero_f32
    by_cases hh : h.val < 4
    · have := eq_of_eq _ _ (Host.reduce_andi_all _ _ _ _ _ h4 (ix5 b j (⟨h, hh⟩ : Fin 4) (⟨d - 64, by omega⟩ : Fin 64) q))
      rw [← hz]
      refine Eq.trans (congrArg qt ?_) this
      funext e
      match e with
      | ⟨0, _⟩ => exact Fin.ext (by show b.val = 0 + b.val; omega)
      | ⟨1, _⟩ => exact Fin.ext (by show j.val = 0 + j.val; omega)
      | ⟨2, _⟩ => exact Fin.ext (by show h.val = 0 + h.val; omega)
      | ⟨3, _⟩ => exact Fin.ext (by show d.val = 64 + (d.val - 64); omega)
      | ⟨4, _⟩ => exact Fin.ext (by show q.val = 0 + q.val; omega)
    · have := eq_of_eq _ _ (Host.reduce_andi_all _ _ _ _ _ h9 (ix5 b j (⟨h - 4, by omega⟩ : Fin 4) (⟨d, by omega⟩ : Fin 64) q))
      rw [← hz]
      refine Eq.trans (congrArg qt ?_) this
      funext e
      match e with
      | ⟨0, _⟩ => exact Fin.ext (by show b.val = 0 + b.val; omega)
      | ⟨1, _⟩ => exact Fin.ext (by show j.val = 0 + j.val; omega)
      | ⟨2, _⟩ => exact Fin.ext (by show h.val = 4 + (h.val - 4); omega)
      | ⟨3, _⟩ => exact Fin.ext (by show d.val = 0 + d.val; omega)
      | ⟨4, _⟩ => exact Fin.ext (by show q.val = 0 + q.val; omega)
  · have := eq_of_eq _ _ (Host.reduce_andi_all _ _ _ _ _ h15 (ix5 b g (0 : Fin 1) (0 : Fin 16) a))
    rw [← Ideal.ofBits_one_f32]
    refine Eq.trans (congrArg vc ?_) this
    funext e
    match e with
    | ⟨0, _⟩ => exact Fin.ext (by show b.val = 0 + b.val; omega)
    | ⟨1, _⟩ => exact Fin.ext (by show g.val = 0 + g.val; omega)
    | ⟨2, _⟩ => rfl
    | ⟨3, _⟩ => rfl
    | ⟨4, _⟩ => exact Fin.ext (by show a.val = 0 + a.val; omega)
  · have := eq_of_eq _ _ (Host.reduce_andi_all _ _ _ _ _ h20 (ix5 b g c (0 : Fin 16) a))
    rw [← Ideal.ofBits_one_f32]
    refine Eq.trans (congrArg v ?_) this
    funext e
    match e with
    | ⟨0, _⟩ => exact Fin.ext (by show b.val = 0 + b.val; omega)
    | ⟨1, _⟩ => exact Fin.ext (by show g.val = 0 + g.val; omega)
    | ⟨2, _⟩ => exact Fin.ext (by show c.val = 0 + c.val; omega)
    | ⟨3, _⟩ => rfl
    | ⟨4, _⟩ => exact Fin.ext (by show a.val = 0 + a.val; omega)

end Cert.Pre_attention_layout.Chain

end

end
-- ==== Proof.Equation.lean ====
module

public import proofs.«01_k».proof.Proof.Array
public import proofs.«01_k».proof.Proof.RefSoftmax
public import proofs.«01_k».proof.Proof.Layout

@[expose] public section

/-! # The attention kernel's array is the reference's -/

noncomputable section

namespace Cert.AttnEquation

open Cert.AttnIdeal Cert.AttnIdeal.Chain Cert.Softmax Cert.Pre_attention_layout.Chain Idealize Idealize.ShloMosaic
open Cert.AttnRefIdeal.Chain (keyArr valArr queryArr scoreArr)

/-- A sum of products of reals is a real. -/
theorem real_sum {ι : Type*} [Fintype ι] (f g : ι → EReal) (hf : ∀ i, ∃ r : ℝ, f i = r) (hg : ∀ i, ∃ r : ℝ, g i = r) :
    ∃ r : ℝ, ∑ i, f i * g i = r := by
  choose a ha using hf
  choose b hb using hg
  refine ⟨∑ i, a i * b i, ?_⟩
  rw [coe_sum]
  exact Finset.sum_congr rfl fun i _ => by rw [ha, hb, EReal.coe_mul]

variable {qt : Vec Ideal S16x16x8x128x256 .bf16} {kc : Vec Ideal S16x256x128 .bf16} {vc : Vec Ideal S16x2x1x80x256 .bf16}
variable {k : Vec Ideal S16x4096x128 .bf16} {v : Vec Ideal S16x2x16x80x256 .bf16}

/-- Key `a` of block `c` is key `256 c + a` of the 4352. -/
theorem keyAt_eq (b : Fin 16) (c : Fin 17) (a : Fin 256) (d : Fin 128) :
    keyAt (tileKc kc b) (tileK k b) c a d = keyArr kc k b ⟨256 * c + a, by omega⟩ d := by
  obtain ⟨c, hc⟩ := c
  cases c with
  | zero =>
    unfold keyArr
    rw [dif_pos (show 256 * 0 + a.val < 256 by omega)]
    exact congrArg (fun a => kc (ix3 b a d)) (Fin.ext (by show a.val = 256 * 0 + a.val; omega))
  | succ c =>
    unfold keyArr
    rw [dif_neg (show ¬ 256 * (c + 1) + a.val < 256 by omega)]
    exact congrArg (fun a => k (ix3 b a d)) (Fin.ext (by show 256 * (c % 16) + a.val = 256 * (c + 1) + a.val - 256; omega))

/-- Value `a` of block `c` is value `256 c + a` of the 4352. -/
theorem valueAt_eq (b : Fin 16) (g : Fin 2) (d : Fin 64) (c : Fin 17) (a : Fin 256) :
    valueAt (tileVc vc b) (tileV v b) g ⟨d, by omega⟩ c a = valArr vc v b g ⟨256 * c + a, by omega⟩ d := by
  obtain ⟨c, hc⟩ := c
  cases c with
  | zero =>
    unfold valArr
    rw [dif_pos (show 256 * 0 + a.val < 256 by omega)]
    exact congrArg (fun a => vc (ix5 b g 0 _ a)) (Fin.ext (by show a.val = 256 * 0 + a.val; omega))
  | succ c =>
    unfold valArr
    rw [dif_neg (show ¬ 256 * (c + 1) + a.val < 256 by omega)]
    exact congrArg₂ (fun c a => v (ix5 b g c _ a)) (Fin.ext (by show c % 16 = (256 * (c + 1) + a.val) / 256 - 1; omega))
      (Fin.ext (by show a.val = (256 * (c + 1) + a.val) % 256; omega))

variable (L : Layout qt kc vc k v)
include L

/-- A block's score is a real. -/
theorem scoreAt_real (b j : Fin 16) (h : Fin 8) (q : Fin 256) (c : ℕ) (a : Fin 256) :
    ∃ r : ℝ, scoreAt (tileQ qt b j) (tileKc kc b) (tileK k b) h q c a = r :=
  real_sum _ _ (fun d => by cases c with | zero => exact L.keyC _ | succ c => exact L.key _) fun d => L.query _

/-- The zero halves of the queries leave the product over the 64 columns of the head's group. -/
theorem scoreAt_eq (b : Fin 16) (g : Fin 2) (r : Fin 4) (p : Fin 4096) (c : Fin 17) (a : Fin 256) :
    scoreAt (tileQ qt b ⟨p / 256, by omega⟩) (tileKc kc b) (tileK k b) ⟨4 * g + r, by omega⟩ ⟨p % 256, by omega⟩ c a
      = scoreArr qt kc k b g r p ⟨256 * c + a, by omega⟩ := by
  unfold scoreAt scoreArr
  refine (Fintype.sum_of_injective (fun d : Fin 64 => (⟨64 * g + d, by omega⟩ : Fin 128)) (fun d d' h => ?_) _ _ (fun d hd => ?_)
    fun d => ?_).symm
  · have := congrArg Fin.val h
    exact Fin.ext (by simpa using this)
  · have hne : d.val / 64 ≠ (4 * g.val + r.val) / 4 := fun e => hd ⟨⟨d.val % 64, by omega⟩, Fin.ext (by
      show 64 * g.val + d.val % 64 = d.val; omega)⟩
    exact (congrArg _ (L.pad b _ ⟨4 * g + r, by omega⟩ d _ hne)).trans (mul_zero _)
  · rw [keyAt_eq]
    rfl

/-- Row 64 of the values is all ones. -/
theorem valueAt_one (b : Fin 16) (g : Fin 2) : valueAt (tileVc vc b) (tileV v b) g 64 = fun _ _ => 1 := by
  funext c a
  cases c with
  | zero => exact L.oneC b g a
  | succ c => exact L.one b g _ a

/-- The two arrays agree. -/
theorem outArr_eq : outArr qt kc vc k v = Cert.AttnRefIdeal.Read.val_main_v35 (F := Ideal) qt kc vc k v := by
  funext i
  obtain ⟨b, w, p, rfl⟩ : ∃ (b : Fin 16) (w : Fin 512) (p : Fin 4096), i = ix3 b w p := ⟨i 0, i 1, i 2, by
    funext a
    match a with
    | ⟨0, _⟩ => rfl
    | ⟨1, _⟩ => rfl
    | ⟨2, _⟩ => rfl⟩
  obtain ⟨g, r, d, rfl⟩ : ∃ (g : Fin 2) (r : Fin 4) (d : Fin 64), w = ⟨64 * (4 * g + r) + d, by omega⟩ :=
    ⟨⟨w / 256, by omega⟩, ⟨w / 64 % 4, by omega⟩, ⟨w % 64, by omega⟩, Fin.ext (by
      show w.val = 64 * (4 * (w.val / 256) + w.val / 64 % 4) + w.val % 64; omega)⟩
  choose σ hσ using scoreAt_real L b ⟨p / 256, by omega⟩ ⟨4 * g + r, by omega⟩ ⟨p % 256, by omega⟩
  have ht : ∀ j : Fin 4352, scoreArr qt kc k b g r p j = ((σ (j / 256) ⟨j % 256, by omega⟩ : ℝ) : EReal) := fun j => by
    rw [← hσ]
    refine Eq.trans (congrArg _ (Fin.ext ?_)) (scoreAt_eq L b g r p ⟨j / 256, by omega⟩ ⟨j % 256, by omega⟩).symm
    show j.val = 256 * (j.val / 256) + j.val % 256
    omega
  rw [Cert.AttnRefIdeal.Chain.v35_apply qt kc vc k v b g r p _ ht d]
  have hout : outArr qt kc vc k v (ix3 b ⟨64 * (4 * g + r) + d, by omega⟩ p)
      = outAt (tileQ qt b ⟨p / 256, by omega⟩) (tileKc kc b) (tileVc vc b) (tileK k b) (tileV v b) ⟨4 * g + r, by omega⟩ d
          ⟨p % 256, by omega⟩ := by
    unfold outArr
    congr 1
    · exact Fin.ext (by show (64 * (4 * g.val + r.val) + d.val) / 64 = 4 * g.val + r.val; omega)
    · exact Fin.ext (by show (64 * (4 * g.val + r.val) + d.val) % 64 = d.val; omega)
  rw [hout]
  have hs : scoreAt (tileQ qt b ⟨p / 256, by omega⟩) (tileKc kc b) (tileK k b) ⟨4 * g + r, by omega⟩ ⟨p % 256, by omega⟩
      = fun c a => (σ c a : EReal) := by
    funext c a
    exact hσ c a
  have hg : groupOf ⟨4 * g + r, by omega⟩ = g := Fin.ext (by show (4 * g.val + r.val) / 4 = g.val; omega)
  unfold outAt
  rw [hs, hg, valueAt_one L, runAcc_div (by norm_num) σ _ 16]
  have split : ∀ {M : Type} [AddCommMonoid M] (F : ℕ → Fin 256 → M),
      ∑ c ∈ Finset.range (16 + 1), ∑ a, F c a = ∑ j : Fin 4352, F (j / 256) ⟨j % 256, by omega⟩ := by
    intro M _ F
    have := Fin.sum_univ_mul_divmod 17 256 (fun c a => F c ⟨a % 256, by omega⟩)
    rw [Finset.sum_range]
    refine Eq.trans ?_ (this.symm.trans ?_)
    · refine Finset.sum_congr rfl fun c _ => Finset.sum_congr rfl fun a _ => congrArg _ (Fin.ext ?_)
      show a.val = a.val % 256
      omega
    · refine Finset.sum_congr rfl fun j _ => congrArg _ (Fin.ext ?_)
      show j.val % 256 % 256 = j.val % 256
      omega
  rw [split, split]
  refine Finset.sum_congr rfl fun j _ => congrArg (· * _) ?_
  refine (valueAt_eq b g d ⟨j / 256, by omega⟩ ⟨j % 256, by omega⟩).trans (congrArg (fun j => valArr vc v b g j d) (Fin.ext ?_))
  show 256 * (j.val / 256) + j.val % 256 = j.val
  omega

end Cert.AttnEquation

end

end
-- ==== Proof.AttnClaim.lean ====
module

public import proofs.«01_k».proof.Defs
public import Idealize.ShloMosaic.Lib.Quiescent
public import proofs.«01_k».proof.Proof.Equation

@[expose] public section

/-! # The attention's algebraic claim: the kernel call and the reference end with the same array -/

noncomputable section

namespace Cert.AttnClaim

open Idealize Idealize.ShloMosaic Idealize.SL.Sem Cert.AttnIdeal

/-- The reference runs, keeps its arguments and, having no semaphores, ends with none raised. -/
theorem referenceFrame : Cert.quiescent_AttnRefIdeal (hAttnRefIdeal := Cert.AttnRefIdeal.Gen.facts) := fun m g _ =>
  (θ_run (Cert.AttnRefIdeal.defs (F := Ideal)) _ _).mono (fun r h => ⟨fun c => (h c).2, sem_eq_zero_of_no_sems (by decide) r.2⟩)
    (Cert.AttnRefIdeal.Value.run m g)

/-- From equal arguments with the stated layout, the attention call and the softmax attention of the reference both run and
    their results are equal. -/
theorem algebraic : Cert.algebraic_AttnIdeal_AttnRefIdeal_pre_attention_layout (hAttnIdeal := Cert.AttnIdeal.Gen.facts)
    (hAttnRefIdeal := Cert.AttnRefIdeal.Gen.facts) (hPre_attention_layout := Cert.Pre_attention_layout.Gen.facts) := by
  intro m g m' g' hpre hargs
  refine ⟨fun c => Chain.outArr (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)),
    (θ_run (defs (F := Ideal)) _ _).mono (fun r h c => ⟨(h c).1.trans (Chain.arrAt_eq m c), (h c).2⟩) (Value.run_blocks m g), ?_⟩
  refine (θ_run (Cert.AttnRefIdeal.defs (F := Ideal)) _ _).mono (fun r h c => ⟨(h c).1.trans ?_, (h c).2⟩)
    (Cert.AttnRefIdeal.Value.run m' g')
  obtain ⟨h0, h1, h2, h3, h4⟩ := hargs c
  rw [Cert.AttnRefIdeal.Read.val_main_v35_eq, h0, h1, h2, h3, h4]
  exact (Cert.AttnEquation.outArr_eq (Cert.Pre_attention_layout.Chain.layout _ _ _ _ _ (hpre c))).symm

end Cert.AttnClaim

end

end
-- ==== Proof.FfnChain.lean ====
module

public import proofs.«01_k».proof.Proof.Gen.FfnIdeal.Value

@[expose] public section

/-! # The body of the output projection and feed-forward call as a recursion over its chunks

The body takes the 2816 hidden units in eleven chunks of 256 and adds their parts one after another; here that is one
recursion. -/

noncomputable section

namespace Cert.FfnIdeal.Chain

open Cert.FfnIdeal Cert.FfnIdeal.Gen Idealize.ShloMosaic Idealize.ShloMosaic.TcCoe Idealize.SL.Sem

variable {F : FTy → Type} [FloatOps F]

/-- The rows after the first residual. -/
def residual (x0 : Vec F S1x512x1024 .f32) (x1 : Vec F S1x512x512 .bf16) (x2 x3 : Vec F S1x512x256 .bf16) (x4 : Vec F S1x1x1024 .f32)
    (x9 : Vec F S1024x1024 .bf16) : FVec F S512x1024 .f32 :=
  k0_pay2 (View.ld x1 r0_0) (View.ld x9 r0_1) (View.ld x2 r0_2) (View.ld x9 r0_3) (View.ld x3 r0_2) (View.ld x9 r0_4) (View.ld x0 r0_5)
    (View.ld x4 r0_6)

/-- The mean squares of rows, plus epsilon. -/
def meanSq (r : FVec F S512x1024 .f32) : FVec F S512x1 .f32 :=
  addf (divf (shapeCast S512x1 (multiReduction .add [1] S512 (mulf r r) 0x00000000#32 reduces_S512x1024_S512 (.inl rfl) rfl)
      shapeCasts_S512_S512x1) (broadcast S512x1 (Scalar.ofBits .f32 0x44800000#32)))
    (broadcast S512x1 (Scalar.ofBits .f32 0x358637BD#32))

/-- The modulated rows, from the rows after the first residual. -/
def modulated (r : FVec F S512x1024 .f32) (x5 x6 : Vec F S1x1x1024 .f32) (x8 : Vec F S1x1024 .f32) : FVec F S512x1024 .bf16 :=
  k0_pay4 r (meanSq r) (View.ld x8 r0_7) (View.ld x6 r0_6) (View.ld x5 r0_6)

/-- The rows times 256 columns of the first weights. -/
def columns (h : FVec F S512x1024 .bf16) (w : Vec F S1024x256 .bf16) : FVec F S512x256 .f32 :=
  matmul dot_S512x1024_S1024x256_S512x256_1_0_0_1_n_n none h (shapeCast S1024x256 w shapeCasts_S1024x256_S1024x256)
    (constant S512x256 .f32 0x00000000#32)

/-- The hidden units from the gate's and the other products. -/
def units (u w : FVec F S512x256 .f32) : FVec F S512x256 .bf16 :=
  truncf .bf16 (mulf (divf u (addf (broadcast S512x256 (Scalar.ofBits .f32 0x3F800000#32))
    (exp (subf (broadcast S512x256 (Scalar.ofBits .f32 0x00000000#32)) u)))) w) bitsLt_bf16_f32

/-- A chunk's part of the result. -/
def part (h : FVec F S512x1024 .bf16) (wg wu : Vec F S1024x256 .bf16) (wd : Vec F S256x1024 .bf16) : FVec F S512x1024 .f32 :=
  matmul dot_S512x256_S256x1024_S512x1024_1_0_0_1_n_n none (units (columns h wg) (columns h wu))
    (shapeCast S256x1024 wd shapeCasts_S256x1024_S256x1024) (constant S512x1024 .f32 0x00000000#32)

/-- The gate's columns of chunk `c`. -/
def rectG (c : ℕ) : Rect S1024x5632 :=
  Rect.unit (s := S1024x5632) ![0, 256 * (c % 11)] S1024x256.size (fun a => by
    match a with
    | ⟨0, _⟩ => show 0 + 1024 ≤ 1024; omega
    | ⟨1, _⟩ => show 256 * (c % 11) + 256 ≤ 5632; omega)

/-- The other columns of chunk `c`. -/
def rectU (c : ℕ) : Rect S1024x5632 :=
  Rect.unit (s := S1024x5632) ![0, 2816 + 256 * (c % 11)] S1024x256.size (fun a => by
    match a with
    | ⟨0, _⟩ => show 0 + 1024 ≤ 1024; omega
    | ⟨1, _⟩ => show 2816 + 256 * (c % 11) + 256 ≤ 5632; omega)

/-- The rows of the second weights of chunk `c`. -/
def rectD (c : ℕ) : Rect S2816x1024 :=
  Rect.unit (s := S2816x1024) ![256 * (c % 11), 0] S256x1024.size (fun a => by
    match a with
    | ⟨0, _⟩ => show 256 * (c % 11) + 256 ≤ 2816; omega
    | ⟨1, _⟩ => show 0 + 1024 ≤ 1024; omega)

/-- Chunk `c`'s part, from the whole weights. -/
def partAt (h : FVec F S512x1024 .bf16) (x10 : Vec F S1024x5632 .bf16) (x11 : Vec F S2816x1024 .bf16) (c : ℕ) : FVec F S512x1024 .f32 :=
  part h (show Vec F S1024x256 .bf16 from View.ld x10 (rectG c)) (show Vec F S1024x256 .bf16 from View.ld x10 (rectU c))
    (show Vec F S256x1024 .bf16 from View.ld x11 (rectD c))

/-- The sum of the first `n` chunks' parts. -/
def parts (h : FVec F S512x1024 .bf16) (x10 : Vec F S1024x5632 .bf16) (x11 : Vec F S2816x1024 .bf16) (n : ℕ) : FVec F S512x1024 .f32 :=
  Nat.rec (broadcast S512x1024 (Scalar.ofBits .f32 0x00000000#32)) (fun c a => addf a (partAt h x10 x11 c)) n

/-- The block after both residuals. -/
def result (r : FVec F S512x1024 .f32) (x5 x6 x7 : Vec F S1x1x1024 .f32) (x8 : Vec F S1x1024 .f32) (x10 : Vec F S1024x5632 .bf16)
    (x11 : Vec F S2816x1024 .bf16) : FVec F S1x512x1024 .f32 :=
  shapeCast S1x512x1024 (addf r (mulf (broadcastTo S512x1024 (shapeCast S1x1024 (show Vec F S1x1x1024 .f32 from View.ld x7 r0_6) shapeCasts_S1x1x1024_S1x1024)
    broadcasts_S1x1024_S512x1024) (parts (modulated r x5 x6 x8) x10 x11 11))) shapeCasts_S512x1024_S1x512x1024

/-- What the body leaves in its output block is the recursion's result. -/
theorem out_eq (x0 : Vec F S1x512x1024 .f32) (x1 : Vec F S1x512x512 .bf16) (x2 : Vec F S1x512x256 .bf16) (x3 : Vec F S1x512x256 .bf16)
    (x4 x5 x6 x7 : Vec F S1x1x1024 .f32) (x8 : Vec F S1x1024 .f32) (x9 : Vec F S1024x1024 .bf16) (x10 : Vec F S1024x5632 .bf16)
    (x11 : Vec F S2816x1024 .bf16) :
    out0_12 x0 x1 x2 x3 x4 x5 x6 x7 x8 x9 x10 x11
      = View.canon [⟨r0_5, result (residual x0 x1 x2 x3 x4 x9) x5 x6 x7 x8 x10 x11⟩] := by
  sl_kernel_rfl

end Cert.FfnIdeal.Chain

end

end
-- ==== Proof.FfnMath.lean ====
module

public import Idealize.ShloMosaic.Lib.IdealHost
public import Idealize.ShloMosaic.Lib.Pipeline.ValueKit
public import Idealize.ShloMosaic.PureOps.Ideal.Laws

@[expose] public section

/-! # One token's output projection and feed-forward part, as functions of extended reals

No program is mentioned here.  `x` is the token's row after the mixing residual, `g`, `sc`, `sh`, `ga` the gain, the
modulation and the gate, `wgu` and `wd` the weights of the feed-forward part. -/

noncomputable section

namespace Cert.FfnMath

open Idealize Idealize.ShloMosaic

/-- The gate's part of a hidden unit: `silu u * w`. -/
def gated (u w : EReal) : EReal := Ideal.div u (1 + Ideal.exp (-u)) * w

/-- The modulated row `rms_norm x * (1 + sc) + sh`. -/
def normed (x g sc sh : Fin 1024 → EReal) (j : Fin 1024) : EReal :=
  x j * Ideal.rsqrt (Ideal.div (∑ i, x i * x i) (Ideal.ofBits .f32 0x44800000#32) + Ideal.ofBits .f32 0x358637BD#32) * g j
    * (1 + sc j) + sh j

/-- Hidden unit `f` of the feed-forward part. -/
def hidden (h : Fin 1024 → EReal) (wgu : Fin 1024 → Fin 5632 → EReal) (f : Fin 2816) : EReal :=
  gated (∑ k, h k * wgu k ⟨f, by omega⟩) (∑ k, h k * wgu k ⟨2816 + f, by omega⟩)

/-- The feed-forward part of the row `h`. -/
def feed (h : Fin 1024 → EReal) (wgu : Fin 1024 → Fin 5632 → EReal) (wd : Fin 2816 → Fin 1024 → EReal) (j : Fin 1024) : EReal :=
  ∑ f, hidden h wgu f * wd f j

/-- Unit `a` of chunk `c` of the 2816 hidden units. -/
def unit (c : ℕ) (a : Fin 256) : Fin 2816 := ⟨256 * (c % 11) + a, by omega⟩

/-- The mixers' outputs times the output projection: the attention's 512 columns, the pooling's 256, the Fourier mixer's 256. -/
def mixed (a : Fin 512 → EReal) (p f : Fin 256 → EReal) (w : Fin 1024 → Fin 1024 → EReal) (j : Fin 1024) : EReal :=
  ∑ k, a k * w ⟨k, by omega⟩ j + ∑ k, p k * w ⟨512 + k, by omega⟩ j + ∑ k, f k * w ⟨768 + k, by omega⟩ j

/-- The row after both residuals. -/
def rowOut (x g sc sh ga : Fin 1024 → EReal) (wgu : Fin 1024 → Fin 5632 → EReal) (wd : Fin 2816 → Fin 1024 → EReal)
    (j : Fin 1024) : EReal :=
  x j + ga j * feed (normed x g sc sh) wgu wd j

/-- Eleven chunks of 256 units are the 2816 units. -/
theorem feed_chunks (h : Fin 1024 → EReal) (wgu : Fin 1024 → Fin 5632 → EReal) (wd : Fin 2816 → Fin 1024 → EReal) (j : Fin 1024) :
    ∑ c ∈ Finset.range 11, ∑ a : Fin 256, hidden h wgu (unit c a) * wd (unit c a) j = feed h wgu wd j := by
  have := Fin.sum_univ_mul_divmod 11 256 (fun c a => hidden h wgu (unit c ⟨a % 256, by omega⟩) * wd (unit c ⟨a % 256, by omega⟩) j)
  rw [Finset.sum_range]
  refine Eq.trans ?_ (this.symm.trans ?_)
  · refine Finset.sum_congr rfl fun c _ => Finset.sum_congr rfl fun a _ => ?_
    have e : (⟨a.val % 256, by omega⟩ : Fin 256) = a := Fin.ext (by show a.val % 256 = a.val; omega)
    simp only [e]
  · refine Finset.sum_congr rfl fun f _ => ?_
    have e : unit (f / 256) ⟨f % 256 % 256, by omega⟩ = f := Fin.ext (by
      show 256 * (f.val / 256 % 11) + f.val % 256 % 256 = f.val
      omega)
    rw [e]

/-- The three products are one product with the columns side by side. -/
theorem mixed_eq (a : Fin 512 → EReal) (p f : Fin 256 → EReal) (w : Fin 1024 → Fin 1024 → EReal) (j : Fin 1024) (y : Fin 1024 → EReal)
    (ha : ∀ k : Fin 512, y ⟨k, by omega⟩ = a k) (hp : ∀ k : Fin 256, y ⟨512 + k, by omega⟩ = p k)
    (hf : ∀ k : Fin 256, y ⟨768 + k, by omega⟩ = f k) : ∑ k, y k * w k j = mixed a p f w j := by
  have s₁ := Fin.sum_univ_add (a := 768) (b := 256) (fun k : Fin 1024 => y k * w k j)
  have s₂ := Fin.sum_univ_add (a := 512) (b := 256) (fun k : Fin 768 => y (Fin.castAdd 256 k) * w (Fin.castAdd 256 k) j)
  rw [mixed]
  refine s₁.trans (congrArg₂ (· + ·) (s₂.trans (congrArg₂ (· + ·) ?_ ?_)) ?_)
  · exact Finset.sum_congr rfl fun k _ => congrArg (· * _) (ha k)
  · exact Finset.sum_congr rfl fun k _ => congrArg (· * _) (hp k)
  · exact Finset.sum_congr rfl fun k _ => congrArg (· * _) (hf k)

/-- One plus an exponential is not zero. -/
theorem one_add_exp_ne_zero (x : EReal) : 1 + Ideal.exp x ≠ 0 := by
  have h : (0 : EReal) ≤ Ideal.exp x := by
    induction x with
    | bot => exact le_refl _
    | top => exact le_top
    | coe r => rw [Ideal.exp_coe]; exact_mod_cast (Real.exp_pos r).le
  exact ne_of_gt (lt_of_lt_of_le zero_lt_one (le_add_of_nonneg_right h))

/-- `silu` as the quotient and as the product with the logistic function agree, at the infinities too. -/
theorem gated_eq (u w : EReal) : u * Ideal.div 1 (1 + Ideal.exp (-u)) * w = gated u w := by
  rw [gated, Ideal.div, Ideal.div, if_neg (one_add_exp_ne_zero _), if_neg (one_add_exp_ne_zero _), one_mul]

end Cert.FfnMath

end

end
-- ==== Proof.FfnBlock.lean ====
module

public import proofs.«01_k».proof.Proof.FfnChain
public import proofs.«01_k».proof.Proof.FfnMath
public import Idealize.ShloMosaic.Lib.Pipeline.ValueKit
public import Idealize.ShloMosaic.Lib.Pointwise

@[expose] public section

/-! # The output projection and feed-forward call's output block, element by element -/

noncomputable section

namespace Cert.FfnIdeal.Chain

open Cert.FfnIdeal Cert.FfnIdeal.Gen Cert.FfnMath Idealize Idealize.ShloMosaic

/-! ## Where the loads lie -/

variable (x0 : Vec Ideal S1x512x1024 .f32) (x1 : Vec Ideal S1x512x512 .bf16) (x2 x3 : Vec Ideal S1x512x256 .bf16)
  (x4 x5 x6 x7 : Vec Ideal S1x1x1024 .f32) (x8 : Vec Ideal S1x1024 .f32) (x9 : Vec Ideal S1024x1024 .bf16)
  (x10 : Vec Ideal S1024x5632 .bf16) (x11 : Vec Ideal S2816x1024 .bf16)

theorem ld_a (k i : Fin 512) : View.ld x1 r0_0 (ix3 0 k i) = x1 (ix3 0 k i) := by
  refine congrArg x1 (funext fun e => ?_)
  match e with
  | ⟨0, _⟩ => exact Fin.ext (by show 0 + 1 * 0 = 0; omega)
  | ⟨1, _⟩ => exact Fin.ext (by show 0 + 1 * k.val = k.val; omega)
  | ⟨2, _⟩ => exact Fin.ext (by show 0 + 1 * i.val = i.val; omega)

theorem ld_p (i : Fin 512) (k : Fin 256) : View.ld x2 r0_2 (ix3 0 i k) = x2 (ix3 0 i k) := by
  refine congrArg x2 (funext fun e => ?_)
  match e with
  | ⟨0, _⟩ => exact Fin.ext (by show 0 + 1 * 0 = 0; omega)
  | ⟨1, _⟩ => exact Fin.ext (by show 0 + 1 * i.val = i.val; omega)
  | ⟨2, _⟩ => exact Fin.ext (by show 0 + 1 * k.val = k.val; omega)

theorem ld_x (i : Fin 512) (j : Fin 1024) : View.ld x0 r0_5 (ix3 0 i j) = x0 (ix3 0 i j) := by
  refine congrArg x0 (funext fun e => ?_)
  match e with
  | ⟨0, _⟩ => exact Fin.ext (by show 0 + 1 * 0 = 0; omega)
  | ⟨1, _⟩ => exact Fin.ext (by show 0 + 1 * i.val = i.val; omega)
  | ⟨2, _⟩ => exact Fin.ext (by show 0 + 1 * j.val = j.val; omega)

theorem ld_row (j : Fin 1024) : View.ld x4 r0_6 (ix3 0 0 j) = x4 (ix3 0 0 j) := by
  refine congrArg x4 (funext fun e => ?_)
  match e with
  | ⟨0, _⟩ => exact Fin.ext (by show 0 + 1 * 0 = 0; omega)
  | ⟨1, _⟩ => exact Fin.ext (by show 0 + 1 * 0 = 0; omega)
  | ⟨2, _⟩ => exact Fin.ext (by show 0 + 1 * j.val = j.val; omega)

theorem ld_gain (j : Fin 1024) : View.ld x8 r0_7 (ix2 0 j) = x8 (ix2 0 j) := by
  refine congrArg x8 (funext fun e => ?_)
  match e with
  | ⟨0, _⟩ => exact Fin.ext (by show 0 + 1 * 0 = 0; omega)
  | ⟨1, _⟩ => exact Fin.ext (by show 0 + 1 * j.val = j.val; omega)

theorem ld_wa (k : Fin 512) (j : Fin 1024) : View.ld x9 r0_1 (ix2 k j) = x9 (ix2 ⟨k, by omega⟩ j) := by
  refine congrArg x9 (funext fun e => ?_)
  match e with
  | ⟨0, _⟩ => exact Fin.ext (by show 0 + 1 * k.val = k.val; omega)
  | ⟨1, _⟩ => exact Fin.ext (by show 0 + 1 * j.val = j.val; omega)

theorem ld_wp (k : Fin 256) (j : Fin 1024) : View.ld x9 r0_3 (ix2 k j) = x9 (ix2 ⟨512 + k, by omega⟩ j) := by
  refine congrArg x9 (funext fun e => ?_)
  match e with
  | ⟨0, _⟩ => exact Fin.ext (by show 512 + 1 * k.val = 512 + k.val; omega)
  | ⟨1, _⟩ => exact Fin.ext (by show 0 + 1 * j.val = j.val; omega)

theorem ld_wf (k : Fin 256) (j : Fin 1024) : View.ld x9 r0_4 (ix2 k j) = x9 (ix2 ⟨768 + k, by omega⟩ j) := by
  refine congrArg x9 (funext fun e => ?_)
  match e with
  | ⟨0, _⟩ => exact Fin.ext (by show 768 + 1 * k.val = 768 + k.val; omega)
  | ⟨1, _⟩ => exact Fin.ext (by show 0 + 1 * j.val = j.val; omega)

theorem ld_wg (c : ℕ) (k : Fin 1024) (a : Fin 256) :
    (show Vec Ideal S1024x256 .bf16 from View.ld x10 (rectG c)) (ix2 k a) = x10 (ix2 k ⟨unit c a, by have := (unit c a).isLt; omega⟩) := by
  refine congrArg x10 (funext fun e => ?_)
  match e with
  | ⟨0, _⟩ => exact Fin.ext (by show 0 + 1 * k.val = k.val; omega)
  | ⟨1, _⟩ => exact Fin.ext (by show 256 * (c % 11) + 1 * a.val = 256 * (c % 11) + a.val; omega)

theorem ld_wu (c : ℕ) (k : Fin 1024) (a : Fin 256) :
    (show Vec Ideal S1024x256 .bf16 from View.ld x10 (rectU c)) (ix2 k a)
      = x10 (ix2 k ⟨2816 + unit c a, by have := (unit c a).isLt; omega⟩) := by
  refine congrArg x10 (funext fun e => ?_)
  match e with
  | ⟨0, _⟩ => exact Fin.ext (by show 0 + 1 * k.val = k.val; omega)
  | ⟨1, _⟩ => exact Fin.ext (by show 2816 + 256 * (c % 11) + 1 * a.val = 2816 + (256 * (c % 11) + a.val); omega)

theorem ld_wd (c : ℕ) (a : Fin 256) (j : Fin 1024) :
    (show Vec Ideal S256x1024 .bf16 from View.ld x11 (rectD c)) (ix2 a j) = x11 (ix2 (unit c a) j) := by
  refine congrArg x11 (funext fun e => ?_)
  match e with
  | ⟨0, _⟩ => exact Fin.ext (by show 256 * (c % 11) + 1 * a.val = 256 * (c % 11) + a.val; omega)
  | ⟨1, _⟩ => exact Fin.ext (by show 0 + 1 * j.val = j.val; omega)

/-! ## The stages -/

/-- A token's row after the first residual. -/
theorem residual_apply (i : Fin 512) (j : Fin 1024) :
    residual x0 x1 x2 x3 x4 x9 (ix2 i j)
      = x0 (ix3 0 i j) + x4 (ix3 0 0 j) * mixed (fun k => x1 (ix3 0 k i)) (fun k => x2 (ix3 0 i k)) (fun k => x3 (ix3 0 i k))
          (fun k j => x9 (ix2 k j)) j := by
  unfold residual k0_pay2 mixed
  pointwise

theorem meanSq_apply (r : FVec Ideal S512x1024 .f32) (i : Fin 512) :
    meanSq r (ix2 i 0) = Ideal.div (∑ k, r (ix2 i k) * r (ix2 i k)) (Ideal.ofBits .f32 0x44800000#32)
      + Ideal.ofBits .f32 0x358637BD#32 := by
  unfold meanSq
  pointwise

/-- A token's modulated row. -/
theorem modulated_apply (r : FVec Ideal S512x1024 .f32) (i : Fin 512) (j : Fin 1024) :
    modulated r x5 x6 x8 (ix2 i j) = normed (fun k => r (ix2 i k)) (fun k => x8 (ix2 0 k)) (fun k => x6 (ix3 0 0 k))
      (fun k => x5 (ix3 0 0 k)) j := by
  unfold modulated k0_pay4 normed
  pointwise
  simp only [ld_gain, ld_row, meanSq_apply]

theorem columns_apply (h : FVec Ideal S512x1024 .bf16) (w : Vec Ideal S1024x256 .bf16) (i : Fin 512) (a : Fin 256) :
    columns h w (ix2 i a) = ∑ k : Fin 1024, h (ix2 i k) * w (ix2 k a) := by
  unfold columns
  pointwise

theorem units_apply (u w : FVec Ideal S512x256 .f32) (i : Fin 512) (a : Fin 256) :
    units u w (ix2 i a) = gated (u (ix2 i a)) (w (ix2 i a)) := by
  unfold units gated
  pointwise
  rw [zero_sub]

theorem part_apply (h : FVec Ideal S512x1024 .bf16) (wg wu : Vec Ideal S1024x256 .bf16) (wd : Vec Ideal S256x1024 .bf16) (i : Fin 512)
    (j : Fin 1024) : part h wg wu wd (ix2 i j) = ∑ a : Fin 256,
      gated (∑ k : Fin 1024, h (ix2 i k) * wg (ix2 k a)) (∑ k : Fin 1024, h (ix2 i k) * wu (ix2 k a)) * wd (ix2 a j) := by
  unfold part
  pointwise
  simp only [units_apply, columns_apply]

theorem partAt_apply (h : FVec Ideal S512x1024 .bf16) (c : ℕ) (i : Fin 512) (j : Fin 1024) :
    partAt h x10 x11 c (ix2 i j) = ∑ a : Fin 256, hidden (fun k => h (ix2 i k)) (fun k f => x10 (ix2 k f)) (unit c a)
      * x11 (ix2 (unit c a) j) := by
  unfold partAt FfnMath.hidden
  rw [part_apply]
  refine Finset.sum_congr rfl fun a _ => congrArg₂ (· * ·) (congrArg₂ gated ?_ ?_) (ld_wd x11 c a j)
  · exact Finset.sum_congr rfl fun k _ => congrArg _ (ld_wg x10 c k a)
  · exact Finset.sum_congr rfl fun k _ => congrArg _ (ld_wu x10 c k a)

theorem parts_apply (h : FVec Ideal S512x1024 .bf16) (i : Fin 512) (j : Fin 1024) (n : ℕ) :
    parts h x10 x11 n (ix2 i j) = ∑ c ∈ Finset.range n, ∑ a : Fin 256,
      hidden (fun k => h (ix2 i k)) (fun k f => x10 (ix2 k f)) (unit c a) * x11 (ix2 (unit c a) j) := by
  induction n with
  | zero => exact Ideal.ofBits_zero_f32
  | succ n ih =>
    rw [Finset.sum_range_succ, ← ih, ← partAt_apply]
    rfl

/-- The body's output block at token `i`. -/
theorem out_apply (i : Fin 512) (j : Fin 1024) :
    out0_12 x0 x1 x2 x3 x4 x5 x6 x7 x8 x9 x10 x11 (ix3 0 i j)
      = rowOut (fun j => x0 (ix3 0 i j) + x4 (ix3 0 0 j) * mixed (fun k => x1 (ix3 0 k i)) (fun k => x2 (ix3 0 i k))
            (fun k => x3 (ix3 0 i k)) (fun k j => x9 (ix2 k j)) j)
          (fun k => x8 (ix2 0 k)) (fun k => x6 (ix3 0 0 k)) (fun k => x5 (ix3 0 0 k)) (fun k => x7 (ix3 0 0 k))
          (fun k f => x10 (ix2 k f)) (fun f j => x11 (ix2 f j)) j := by
  rw [out_eq]
  refine (congrFun (View.canon_cons_unit_lit (S := S1x512x1024) _ _ _ (by decide)) _).trans ?_
  unfold result rowOut
  pointwise
  simp only [parts_apply, modulated_apply, residual_apply, ld_row]
  rw [feed_chunks _ _ (fun f j => x11 (ix2 f j))]

end Cert.FfnIdeal.Chain

end

end
-- ==== Proof.FfnArray.lean ====
module

public import proofs.«01_k».proof.Proof.FfnBlock
public import proofs.«01_k».proof.Proof.Gen.FfnIdeal.Value
public import Idealize.ShloMosaic.Lib.Pipeline.Covers

@[expose] public section

/-! # What the output projection and feed-forward call's output array holds after the run -/

noncomputable section

namespace Cert.FfnIdeal.Chain

open Cert.FfnIdeal Cert.FfnIdeal.Gen Cert.FfnMath Idealize Idealize.ShloMosaic Idealize.ShloMosaic.TcCoe

/-- Tile `q` of batch `b` of the tokens' rows. -/
def tileX (x : Vec Ideal S16x4096x1024 .f32) (b : Fin 16) (q : Fin 8) : Vec Ideal S1x512x1024 .f32 :=
  fun y => x (ix3 b ⟨q * 512 + (y 1).val, by have := (y 1).isLt; change _ < 512 at this; omega⟩ (y 2))

/-- Tile `q` of batch `b` of the attention's output, whose columns are the tokens. -/
def tileA (a : Vec Ideal S16x512x4096 .bf16) (b : Fin 16) (q : Fin 8) : Vec Ideal S1x512x512 .bf16 :=
  fun y => a (ix3 b (y 1) ⟨q * 512 + (y 2).val, by have := (y 2).isLt; change _ < 512 at this; omega⟩)

/-- Tile `q` of batch `b` of the pooling's or the Fourier mixer's output. -/
def tileP (p : Vec Ideal S16x4096x256 .bf16) (b : Fin 16) (q : Fin 8) : Vec Ideal S1x512x256 .bf16 :=
  fun y => p (ix3 b ⟨q * 512 + (y 1).val, by have := (y 1).isLt; change _ < 512 at this; omega⟩ (y 2))

/-- Batch `b`'s modulation vector. -/
def tileM (v : Vec Ideal S16x1x1024 .f32) (b : Fin 16) : Vec Ideal S1x1x1024 .f32 := fun y => v (ix3 b (y 1) (y 2))

/-- The gain as a row. -/
def rowG (g : Vec Ideal S1024 .f32) : Vec Ideal S1x1024 .f32 := fun y => g (ix1 (y 1))

/-- The row of token `p` of batch `b` after the first residual. -/
def resRow (x0 : Vec Ideal S16x4096x1024 .f32) (x1 : Vec Ideal S16x512x4096 .bf16) (x2 x3 : Vec Ideal S16x4096x256 .bf16)
    (x4 : Vec Ideal S16x1x1024 .f32) (x9 : Vec Ideal S1024x1024 .f32) (b : Fin 16) (p : Fin 4096) (j : Fin 1024) : EReal :=
  x0 (ix3 b p j) + x4 (ix3 b 0 j) * mixed (fun k => x1 (ix3 b k p)) (fun k => x2 (ix3 b p k)) (fun k => x3 (ix3 b p k))
    (fun k j => x9 (ix2 k j)) j

/-- The whole output array. -/
def outArr (x0 : Vec Ideal S16x4096x1024 .f32) (x1 : Vec Ideal S16x512x4096 .bf16) (x2 x3 : Vec Ideal S16x4096x256 .bf16)
    (x4 x5 x6 x7 : Vec Ideal S16x1x1024 .f32) (x8 : Vec Ideal S1024 .f32) (x9 : Vec Ideal S1024x1024 .f32)
    (x10 : Vec Ideal S1024x5632 .f32) (x11 : Vec Ideal S2816x1024 .f32) : Vec Ideal S16x4096x1024 .f32 := fun i =>
  rowOut (resRow x0 x1 x2 x3 x4 x9 (i 0) (i 1)) (fun k => x8 (ix1 k)) (fun k => x6 (ix3 (i 0) 0 k)) (fun k => x5 (ix3 (i 0) 0 k))
    (fun k => x7 (ix3 (i 0) 0 k)) (fun k f => x10 (ix2 k f)) (fun f j => x11 (ix2 f j)) (i 2)

variable (m : (ℓ : Loc nD τ sig) → Buf (Elt Ideal) ℓ)

/-! ## What the host operations leave -/

theorem V_v0 (c : Dev nD) : V m c main_v0 = (m ((c : Thread nD τ).loc main_arg9) : Vec Ideal S1024x1024 .f32) := by
  unfold V
  after_results
  rfl

theorem V_v1 (c : Dev nD) : V m c main_v1 = (m ((c : Thread nD τ).loc main_arg10) : Vec Ideal S1024x5632 .f32) := by
  unfold V
  after_results
  rfl

theorem V_v2 (c : Dev nD) : V m c main_v2 = (m ((c : Thread nD τ).loc main_arg11) : Vec Ideal S2816x1024 .f32) := by
  unfold V
  after_results
  rfl

theorem V_v3 (c : Dev nD) : V m c main_v3 = rowG (m ((c : Thread nD τ).loc main_arg8)) := by
  unfold V
  after_results
  funext y
  have hy : (y : S1x1024.Idx) = ix2 0 (y 1) := by
    funext a
    match a with
    | ⟨0, _⟩ => exact Fin.ext (by have := (y 0).isLt; change _ < 1 at this; show (y 0).val = 0; omega)
    | ⟨1, _⟩ => rfl
  show shapeCast S1x1024 (m ((c : Thread nD τ).loc main_arg8) : Vec Ideal S1024 .f32) shapeCasts_S1024_S1x1024 y = _
  rw [hy]
  pointwise
  rfl

/-! ## The blocks are tiles of the arguments -/

theorem index0 (t : Fin cfg0.N) : win0_0.index t = ![(grid0.coords t 0).val, (grid0.coords t 1).val, 0] := by
  revert t; decide +kernel
theorem index1 (t : Fin cfg0.N) : win0_1.index t = ![(grid0.coords t 0).val, 0, (grid0.coords t 1).val] := by
  revert t; decide +kernel
theorem index2 (t : Fin cfg0.N) : win0_2.index t = ![(grid0.coords t 0).val, (grid0.coords t 1).val, 0] := by
  revert t; decide +kernel
theorem index3 (t : Fin cfg0.N) : win0_3.index t = ![(grid0.coords t 0).val, (grid0.coords t 1).val, 0] := by
  revert t; decide +kernel
theorem index4 (t : Fin cfg0.N) : win0_4.index t = ![(grid0.coords t 0).val, 0, 0] := by
  revert t; decide +kernel
theorem index5 (t : Fin cfg0.N) : win0_5.index t = ![(grid0.coords t 0).val, 0, 0] := by
  revert t; decide +kernel
theorem index6 (t : Fin cfg0.N) : win0_6.index t = ![(grid0.coords t 0).val, 0, 0] := by
  revert t; decide +kernel
theorem index7 (t : Fin cfg0.N) : win0_7.index t = ![(grid0.coords t 0).val, 0, 0] := by
  revert t; decide +kernel
theorem index8 (t : Fin cfg0.N) : win0_8.index t = ![0, 0] := by
  revert t; decide +kernel
theorem index9 (t : Fin cfg0.N) : win0_9.index t = ![0, 0] := by
  revert t; decide +kernel
theorem index10 (t : Fin cfg0.N) : win0_10.index t = ![0, 0] := by
  revert t; decide +kernel
theorem index11 (t : Fin cfg0.N) : win0_11.index t = ![0, 0] := by
  revert t; decide +kernel
theorem index12 (t : Fin cfg0.N) : win0_12.index t = ![(grid0.coords t 0).val, (grid0.coords t 1).val, 0] := by
  revert t; decide +kernel

theorem block0 (c : Dev nD) (t : Fin cfg0.N) :
    (iblk m c 0 t : Vec Ideal S1x512x1024 .f32) = tileX (m ((c : Thread nD τ).loc main_arg0)) (grid0.coords t 0) (grid0.coords t 1) := by
  have e := V_main_arg0 m c
  funext y
  unfold tileX
  rw [← e]
  blk_ext [iblk, index0 t]

theorem block1 (c : Dev nD) (t : Fin cfg0.N) :
    (iblk m c 1 t : Vec Ideal S1x512x512 .bf16) = tileA (m ((c : Thread nD τ).loc main_arg1)) (grid0.coords t 0) (grid0.coords t 1) := by
  have e := V_main_arg1 m c
  funext y
  unfold tileA
  rw [← e]
  blk_ext [iblk, index1 t]

theorem block2 (c : Dev nD) (t : Fin cfg0.N) :
    (iblk m c 2 t : Vec Ideal S1x512x256 .bf16) = tileP (m ((c : Thread nD τ).loc main_arg2)) (grid0.coords t 0) (grid0.coords t 1) := by
  have e := V_main_arg2 m c
  funext y
  unfold tileP
  rw [← e]
  blk_ext [iblk, index2 t]

theorem block3 (c : Dev nD) (t : Fin cfg0.N) :
    (iblk m c 3 t : Vec Ideal S1x512x256 .bf16) = tileP (m ((c : Thread nD τ).loc main_arg3)) (grid0.coords t 0) (grid0.coords t 1) := by
  have e := V_main_arg3 m c
  funext y
  unfold tileP
  rw [← e]
  blk_ext [iblk, index3 t]

theorem block4 (c : Dev nD) (t : Fin cfg0.N) :
    (iblk m c 4 t : Vec Ideal S1x1x1024 .f32) = tileM (m ((c : Thread nD τ).loc main_arg4)) (grid0.coords t 0) := by
  have e := V_main_arg4 m c
  funext y
  unfold tileM
  rw [← e]
  blk_ext [iblk, index4 t]

theorem block5 (c : Dev nD) (t : Fin cfg0.N) :
    (iblk m c 5 t : Vec Ideal S1x1x1024 .f32) = tileM (m ((c : Thread nD τ).loc main_arg5)) (grid0.coords t 0) := by
  have e := V_main_arg5 m c
  funext y
  unfold tileM
  rw [← e]
  blk_ext [iblk, index5 t]

theorem block6 (c : Dev nD) (t : Fin cfg0.N) :
    (iblk m c 6 t : Vec Ideal S1x1x1024 .f32) = tileM (m ((c : Thread nD τ).loc main_arg6)) (grid0.coords t 0) := by
  have e := V_main_arg6 m c
  funext y
  unfold tileM
  rw [← e]
  blk_ext [iblk, index6 t]

theorem block7 (c : Dev nD) (t : Fin cfg0.N) :
    (iblk m c 7 t : Vec Ideal S1x1x1024 .f32) = tileM (m ((c : Thread nD τ).loc main_arg7)) (grid0.coords t 0) := by
  have e := V_main_arg7 m c
  funext y
  unfold tileM
  rw [← e]
  blk_ext [iblk, index7 t]

theorem block8 (c : Dev nD) (t : Fin cfg0.N) : (iblk m c 8 t : Vec Ideal S1x1024 .f32) = rowG (m ((c : Thread nD τ).loc main_arg8)) := by
  rw [← V_v3 m c]
  funext y
  blk_ext [iblk, index8 t]

theorem block9 (c : Dev nD) (t : Fin cfg0.N) : (iblk m c 9 t : Vec Ideal S1024x1024 .bf16) = (m ((c : Thread nD τ).loc main_arg9) : Vec Ideal S1024x1024 .f32) := by
  rw [← V_v0 m c]
  funext y
  blk_ext [iblk, index9 t]

theorem block10 (c : Dev nD) (t : Fin cfg0.N) : (iblk m c 10 t : Vec Ideal S1024x5632 .bf16) = (m ((c : Thread nD τ).loc main_arg10) : Vec Ideal S1024x5632 .f32) := by
  rw [← V_v1 m c]
  funext y
  blk_ext [iblk, index10 t]

theorem block11 (c : Dev nD) (t : Fin cfg0.N) : (iblk m c 11 t : Vec Ideal S2816x1024 .bf16) = (m ((c : Thread nD τ).loc main_arg11) : Vec Ideal S2816x1024 .f32) := by
  rw [← V_v2 m c]
  funext y
  blk_ext [iblk, index11 t]

/-- Every block of the output is written. -/
theorem covers12 : (cfg0.win 12).Covers :=
  (cfg0.win 12).covers_of_indexMap_surj rfl (by decide) fun β =>
    ⟨fun a => match a with
      | ⟨0, _⟩ => ⟨(β ⟨0, by decide⟩).val, lt_of_lt_of_eq (β ⟨0, by decide⟩).isLt (by decide : (cfg0.win 12).nblk ⟨0, by decide⟩ = 16)⟩
      | ⟨1, _⟩ => ⟨(β ⟨1, by decide⟩).val, lt_of_lt_of_eq (β ⟨1, by decide⟩).isLt (by decide : (cfg0.win 12).nblk ⟨1, by decide⟩ = 8)⟩,
    fun a => by
      match a with
      | ⟨0, _⟩ =>
        have := lt_of_lt_of_eq (β ⟨0, by decide⟩).isLt (by decide : (cfg0.win 12).nblk ⟨0, by decide⟩ = 16)
        show (BitVec.ofNat 32 (β ⟨0, by decide⟩).val).toNat = _
        rw [BitVec.toNat_ofNat]; omega
      | ⟨1, _⟩ =>
        have := lt_of_lt_of_eq (β ⟨1, by decide⟩).isLt (by decide : (cfg0.win 12).nblk ⟨1, by decide⟩ = 8)
        show (BitVec.ofNat 32 (β ⟨1, by decide⟩).val).toNat = _
        rw [BitVec.toNat_ofNat]; omega
      | ⟨2, _⟩ =>
        have := lt_of_lt_of_eq (β ⟨2, by decide⟩).isLt (by decide : (cfg0.win 12).nblk ⟨2, by decide⟩ = 1)
        show 0 = _
        omega⟩

/-- After the run the output array is `outArr` of the arguments. -/
theorem arrAt_eq (c : Dev nD) : (dats m 0 c).arrAt 12 cfg0.N
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 12 _ covers12 fun t hf y => ?_
  blk_simp
  rw [after0_12, block0, block1, block2, block3, block4, block5, block6, block7, block8, block9, block10, block11]
  have h1 : (y 1).val < 512 := (y 1).isLt
  have h2 : (y 2).val < 1024 := (y 2).isLt
  have h8 : (grid0.coords t 1).val < 8 := (grid0.coords t 1).isLt
  have e : (((cfg0.win 12).blk t).view.emb y : S16x4096x1024.Idx)
      = ix3 (grid0.coords t 0) ⟨(grid0.coords t 1).val * 512 + (y 1).val, by omega⟩ ⟨(y 2).val, h2⟩ := by
    funext a
    match a with
    | ⟨0, _⟩ => exact Fin.ext (by blk_simp [index12 t])
    | ⟨1, _⟩ => exact Fin.ext (by blk_simp [index12 t]; rfl)
    | ⟨2, _⟩ => exact Fin.ext (by blk_simp [index12 t]; rfl)
  have hy : (y : S1x512x1024.Idx) = ix3 0 ⟨(y 1).val, h1⟩ ⟨(y 2).val, h2⟩ := by
    funext a
    match a with
    | ⟨0, _⟩ => exact Fin.ext (by have := (y 0).isLt; change _ < 1 at this; show (y 0).val = 0; omega)
    | ⟨1, _⟩ => rfl
    | ⟨2, _⟩ => rfl
  refine (congrArg _ hy).trans ((out_apply _ _ _ _ _ _ _ _ _ _ _ _ _ _).trans ?_)
  refine Eq.trans ?_ (congrArg _ e).symm
  rfl

end Cert.FfnIdeal.Chain

end

end
-- ==== Proof.FfnReference.lean ====
module

public import proofs.«01_k».proof.Proof.FfnMath
public import proofs.«01_k».proof.Proof.Gen.FfnRefIdeal.Read
public import Idealize.ShloMosaic.Lib.Pipeline.ValueKit
public import Idealize.ShloMosaic.Lib.Pointwise

@[expose] public section

/-! # The reference output projection and feed-forward part, element by element -/

noncomputable section

namespace Cert.FfnRefIdeal.Chain

open Cert.FfnRefIdeal Cert.FfnRefIdeal.Gen Cert.FfnRefIdeal.Read Cert.FfnMath Idealize Idealize.ShloMosaic

variable (x0 : Vec Ideal S16x4096x1024 .f32) (x1 : Vec Ideal S16x512x4096 .bf16) (x2 x3 : Vec Ideal S16x4096x256 .bf16)
  (x4 x5 x6 x7 : Vec Ideal S16x1x1024 .f32) (x8 : Vec Ideal S1024 .f32) (x9 : Vec Ideal S1024x1024 .f32)
  (x10 : Vec Ideal S1024x5632 .f32) (x11 : Vec Ideal S2816x1024 .f32)

/-- Token `p`'s row after the first residual. -/
def resRow (b : Fin 16) (p : Fin 4096) (j : Fin 1024) : EReal :=
  x0 (ix3 b p j) + x4 (ix3 b 0 j) * mixed (fun k => x1 (ix3 b k p)) (fun k => x2 (ix3 b p k)) (fun k => x3 (ix3 b p k))
    (fun k j => x9 (ix2 k j)) j

/-- Token `p`'s modulated row. -/
def modRow (b : Fin 16) (p : Fin 4096) : Fin 1024 → EReal :=
  normed (resRow x0 x1 x2 x3 x4 x9 b p) (fun k => x8 (ix1 k)) (fun k => x6 (ix3 b 0 k)) (fun k => x5 (ix3 b 0 k))

theorem v4_apply_a (b : Fin 16) (p : Fin 4096) (k : Fin 512) :
    val_main_v4 (F := Ideal) x1 x2 x3 (ix3 b p ⟨k, by omega⟩) = x1 (ix3 b k p) := by
  unfold val_main_v4
  refine (concatenate_apply_piece (t := S16x4096x1024) 2 [⟨S16x4096x512, val_main_v1 (F := Ideal) x1⟩, ⟨S16x4096x256, val_main_v2 (F := Ideal) x2⟩,
    ⟨S16x4096x256, val_main_v3 (F := Ideal) x3⟩] _ _ 0 (show 0 < 3 by decide) S16x4096x512 _ rfl rfl 0 rfl (ix3 b p k) (fun a ha => ?_)
    ?_).trans ?_
  · match a with
    | ⟨0, _⟩ => rfl
    | ⟨1, _⟩ => rfl
    | ⟨2, _⟩ => exact absurd rfl ha
  · show 0 + k.val = k.val
    omega
  · rw [val_main_v1_apply]
    show x1 _ = _
    refine congrArg _ ?_
    blk_ext [idx_main_v1]

theorem v4_apply_p (b : Fin 16) (p : Fin 4096) (k : Fin 256) :
    val_main_v4 (F := Ideal) x1 x2 x3 (ix3 b p ⟨512 + k, by omega⟩) = x2 (ix3 b p k) := by
  unfold val_main_v4
  refine (concatenate_apply_piece (t := S16x4096x1024) 2 [⟨S16x4096x512, val_main_v1 (F := Ideal) x1⟩, ⟨S16x4096x256, val_main_v2 (F := Ideal) x2⟩,
    ⟨S16x4096x256, val_main_v3 (F := Ideal) x3⟩] _ _ 1 (show 1 < 3 by decide) S16x4096x256 _ rfl rfl 512 rfl (ix3 b p k)
    (fun a ha => ?_) ?_).trans ?_
  · match a with
    | ⟨0, _⟩ => rfl
    | ⟨1, _⟩ => rfl
    | ⟨2, _⟩ => exact absurd rfl ha
  · rfl
  · rfl

theorem v4_apply_f (b : Fin 16) (p : Fin 4096) (k : Fin 256) :
    val_main_v4 (F := Ideal) x1 x2 x3 (ix3 b p ⟨768 + k, by omega⟩) = x3 (ix3 b p k) := by
  unfold val_main_v4
  refine (concatenate_apply_piece (t := S16x4096x1024) 2 [⟨S16x4096x512, val_main_v1 (F := Ideal) x1⟩, ⟨S16x4096x256, val_main_v2 (F := Ideal) x2⟩,
    ⟨S16x4096x256, val_main_v3 (F := Ideal) x3⟩] _ _ 2 (show 2 < 3 by decide) S16x4096x256 _ rfl rfl 768 rfl (ix3 b p k)
    (fun a ha => ?_) ?_).trans ?_
  · match a with
    | ⟨0, _⟩ => rfl
    | ⟨1, _⟩ => rfl
    | ⟨2, _⟩ => exact absurd rfl ha
  · rfl
  · rfl

/-- The output projection of the three mixers' outputs side by side. -/
theorem v5_apply (b : Fin 16) (p : Fin 4096) (j : Fin 1024) :
    val_main_v5 (F := Ideal) x1 x2 x3 x9 (ix3 b p j)
      = mixed (fun k => x1 (ix3 b k p)) (fun k => x2 (ix3 b p k)) (fun k => x3 (ix3 b p k)) (fun k j => x9 (ix2 k j)) j := by
  rw [val_main_v5_apply]
  refine Eq.trans (Finset.sum_congr rfl fun k _ => ?_) (mixed_eq _ _ _ (fun k j => x9 (ix2 k j)) j
    (fun k => val_main_v4 (F := Ideal) x1 x2 x3 (ix3 b p k)) (v4_apply_a x1 x2 x3 b p) (v4_apply_p x1 x2 x3 b p)
    (v4_apply_f x1 x2 x3 b p))
  refine congrArg₂ (· * ·) (congrArg _ ?_) (congrArg _ ?_)
  · blk_ext [lidx_main_v5]
  · blk_ext [ridx_main_v5]

theorem v8_apply (b : Fin 16) (p : Fin 4096) (j : Fin 1024) :
    val_main_v8 (F := Ideal) x0 x1 x2 x3 x4 x9 (ix3 b p j) = resRow x0 x1 x2 x3 x4 x9 b p j := by
  rw [val_main_v8_apply, val_main_v7_apply, v5_apply, val_main_v6_apply]
  have e : idx_main_v6 (ix3 b p j) = ix3 b 0 j := by blk_ext [idx_main_v6]
  rw [e]
  rfl

theorem v16_apply (b : Fin 16) (p : Fin 4096) :
    val_main_v16 (F := Ideal) x0 x1 x2 x3 x4 x9 (ix3 b p 0)
      = Ideal.rsqrt (Ideal.div (∑ k, resRow x0 x1 x2 x3 x4 x9 b p k * resRow x0 x1 x2 x3 x4 x9 b p k) (Ideal.ofBits .f32 0x44800000#32)
          + Ideal.ofBits .f32 0x358637BD#32) := by
  rw [val_main_v16_apply, val_main_v15_apply, val_main_v13_apply, val_main_v11_apply, val_main_v10_apply]
  have e : ∀ k, val_main_v9 (F := Ideal) x0 x1 x2 x3 x4 x9 (idx_main_v10 (idx_main_v11 (ix3 b p 0)) k)
      = resRow x0 x1 x2 x3 x4 x9 b p k * resRow x0 x1 x2 x3 x4 x9 b p k := fun k => by
    have ei : idx_main_v10 (idx_main_v11 (ix3 b p 0)) k = ix3 b p k := by blk_ext [idx_main_v10, idx_main_v11]
    rw [ei, val_main_v9_apply, v8_apply]
    rfl
  have z : val_main_cst (F := Ideal) (Shape.Idx.first h_S_) = 0 := Ideal.ofBits_zero_f32
  simp only [e, z, zero_add]
  rfl

/-- A token's modulated row in the reference. -/
theorem v27_apply (b : Fin 16) (p : Fin 4096) (j : Fin 1024) :
    val_main_v27 (F := Ideal) x0 x1 x2 x3 x4 x5 x6 x8 x9 (ix3 b p j) = modRow x0 x1 x2 x3 x4 x5 x6 x8 x9 b p j := by
  have e17 : idx_main_v17 (ix3 b p j) = ix3 b p 0 := by blk_ext [idx_main_v17]
  have e20 : idx_main_v19 (idx_main_v20 (ix3 b p j)) = ix1 j := by blk_ext [idx_main_v19, idx_main_v20]
  have e24 : idx_main_v24 (ix3 b p j) = ix3 b 0 j := by blk_ext [idx_main_v24]
  have e26 : idx_main_v26 (ix3 b p j) = ix3 b 0 j := by blk_ext [idx_main_v26]
  have one : val_main_v22 (F := Ideal) (ix3 b 0 j) = 1 := Ideal.ofBits_one_f32
  rw [val_main_v27_apply, val_main_v25_apply, val_main_v21_apply, val_main_v18_apply, v8_apply, val_main_v17_apply, e17, v16_apply,
    val_main_v20_apply, val_main_v19_apply, e20, val_main_v24_apply, e24, val_main_v23_apply, one, val_main_v26_apply, e26]
  rfl

theorem v28_apply (b : Fin 16) (p : Fin 4096) (f : Fin 5632) :
    val_main_v28 (F := Ideal) x0 x1 x2 x3 x4 x5 x6 x8 x9 x10 (ix3 b p f)
      = ∑ k, modRow x0 x1 x2 x3 x4 x5 x6 x8 x9 b p k * x10 (ix2 k f) := by
  rw [val_main_v28_apply]
  refine Finset.sum_congr rfl fun k _ => ?_
  rw [← v27_apply]
  refine congrArg₂ (· * ·) (congrArg _ ?_) (congrArg _ ?_)
  · blk_ext [lidx_main_v28]
  · blk_ext [ridx_main_v28]

/-- A hidden unit in the reference. -/
theorem v32_apply (b : Fin 16) (p : Fin 4096) (f : Fin 2816) :
    val_main_v32 (F := Ideal) x0 x1 x2 x3 x4 x5 x6 x8 x9 x10 (ix3 b p f)
      = FfnMath.hidden (modRow x0 x1 x2 x3 x4 x5 x6 x8 x9 b p) (fun k f => x10 (ix2 k f)) f := by
  have e29 : idx_main_v29 (ix3 b p f) = ix3 b p ⟨f, by omega⟩ := by blk_ext [idx_main_v29]
  have e30 : idx_main_v30 (ix3 b p f) = ix3 b p ⟨2816 + f, by omega⟩ := by blk_ext [idx_main_v30]
  have one₂ : val_main_call0_v2 (F := Ideal) (ix3 b p f) = 1 := Ideal.ofBits_one_f32
  have one₄ : val_main_call0_v4 (F := Ideal) (ix3 b p f) = 1 := Ideal.ofBits_one_f32
  rw [val_main_v32_apply, val_main_v31_apply, val_main_call0_v5_apply, val_main_call0_v3_apply, val_main_call0_v1_apply,
    val_main_call0_v0_apply, one₂, one₄, val_main_v29_apply, val_main_v30_apply, e29, e30, v28_apply, v28_apply, FfnMath.hidden]
  exact gated_eq _ _

/-- The reference's result at token `p`. -/
theorem v36_apply (b : Fin 16) (p : Fin 4096) (j : Fin 1024) :
    val_main_v36 (F := Ideal) x0 x1 x2 x3 x4 x5 x6 x7 x8 x9 x10 x11 (ix3 b p j)
      = rowOut (resRow x0 x1 x2 x3 x4 x9 b p) (fun k => x8 (ix1 k)) (fun k => x6 (ix3 b 0 k)) (fun k => x5 (ix3 b 0 k))
          (fun k => x7 (ix3 b 0 k)) (fun k f => x10 (ix2 k f)) (fun f j => x11 (ix2 f j)) j := by
  have e34 : idx_main_v34 (ix3 b p j) = ix3 b 0 j := by blk_ext [idx_main_v34]
  have feeds : val_main_v33 (F := Ideal) x0 x1 x2 x3 x4 x5 x6 x8 x9 x10 x11 (ix3 b p j)
      = feed (modRow x0 x1 x2 x3 x4 x5 x6 x8 x9 b p) (fun k f => x10 (ix2 k f)) (fun f j => x11 (ix2 f j)) j := by
    rw [val_main_v33_apply, feed]
    refine Finset.sum_congr rfl fun f _ => ?_
    rw [← v32_apply]
    refine congrArg₂ (· * ·) (congrArg _ ?_) (congrArg _ ?_)
    · blk_ext [lidx_main_v33]
    · blk_ext [ridx_main_v33]
  rw [val_main_v36_apply, val_main_v35_apply, v8_apply, feeds, val_main_v34_apply, e34]
  rfl

end Cert.FfnRefIdeal.Chain

end

end
-- ==== Proof.FfnClaim.lean ====
module

public import proofs.«01_k».proof.Defs
public import Idealize.ShloMosaic.Lib.Quiescent
public import proofs.«01_k».proof.Proof.Gen.FfnRefIdeal.Run
public import proofs.«01_k».proof.Proof.FfnArray
public import proofs.«01_k».proof.Proof.FfnReference

@[expose] public section

/-! # The output projection's and feed-forward part's algebraic claim: the kernel call and the reference end with the same array -/

noncomputable section

namespace Cert.FfnClaim

open Idealize Idealize.ShloMosaic Idealize.SL.Sem Cert.FfnIdeal

/-- The reference runs, keeps its arguments and, having no semaphores, ends with none raised. -/
theorem referenceFrame : Cert.quiescent_FfnRefIdeal (hFfnRefIdeal := Cert.FfnRefIdeal.Gen.facts) := fun m g _ =>
  (θ_run (Cert.FfnRefIdeal.defs (F := Ideal)) _ _).mono (fun r h => ⟨fun c => (h c).2, sem_eq_zero_of_no_sems (by decide) r.2⟩)
    (Cert.FfnRefIdeal.Value.run m g)

/-- The array the call leaves is the reference's. -/
theorem outArr_eq (x0 : Vec Ideal S16x4096x1024 .f32) (x1 : Vec Ideal S16x512x4096 .bf16) (x2 x3 : Vec Ideal S16x4096x256 .bf16)
    (x4 x5 x6 x7 : Vec Ideal S16x1x1024 .f32) (x8 : Vec Ideal S1024 .f32) (x9 : Vec Ideal S1024x1024 .f32)
    (x10 : Vec Ideal S1024x5632 .f32) (x11 : Vec Ideal S2816x1024 .f32) :
    Cert.FfnRefIdeal.Read.val_main_v36 (F := Ideal) x0 x1 x2 x3 x4 x5 x6 x7 x8 x9 x10 x11
      = Chain.outArr x0 x1 x2 x3 x4 x5 x6 x7 x8 x9 x10 x11 := by
  funext i
  have hi : i = ix3 (i 0) (i 1) (i 2) := by
    funext a
    match a with
    | ⟨0, _⟩ => rfl
    | ⟨1, _⟩ => rfl
    | ⟨2, _⟩ => rfl
  exact (congrArg _ hi).trans (Cert.FfnRefIdeal.Chain.v36_apply x0 x1 x2 x3 x4 x5 x6 x7 x8 x9 x10 x11 (i 0) (i 1) (i 2))

/-- From equal arguments the call and the reference both run and their results are equal. -/
theorem algebraic : Cert.algebraic_FfnIdeal_FfnRefIdeal (hFfnIdeal := Cert.FfnIdeal.Gen.facts)
    (hFfnRefIdeal := Cert.FfnRefIdeal.Gen.facts) := by
  intro m g m' g' _ hargs
  refine ⟨_, (θ_run (defs (F := Ideal)) _ _).mono (fun r h c => ⟨(h c).1.trans (Chain.arrAt_eq m c), (h c).2⟩)
    (Value.run_blocks m g), ?_⟩
  refine (θ_run (Cert.FfnRefIdeal.defs (F := Ideal)) _ _).mono (fun r h c => ⟨(h c).1.trans ?_, (h c).2⟩)
    (Cert.FfnRefIdeal.Value.run m' g')
  obtain ⟨h0, h1, h2, h3, h4, h5, h6, h7, h8, h9, h10, h11⟩ := hargs c
  rw [Cert.FfnRefIdeal.Read.val_main_v36_eq, h0, h1, h2, h3, h4, h5, h6, h7, h8, h9, h10, h11]
  exact outArr_eq _ _ _ _ _ _ _ _ _ _ _ _

end Cert.FfnClaim

end

end
-- ==== Proof.InProjMath.lean ====
module

public import proofs.«01_k».proof.Proof.FfnMath

@[expose] public section

/-! # One token's input projection, as functions of extended reals

No program is mentioned here.  `y` is one head's part of a projected token, `c` and `s` are the cosines and sines of its
position: two segments of sixteen frequencies, each turning one half of a segment of 32 lanes against the other. -/

noncomputable section

namespace Cert.InProjMath

open Idealize Idealize.ShloMosaic

/-- The softmax's factor, `64 ^ (-1/2) * log2 e`, as a single precision number. -/
def scale : EReal := Ideal.ofBits .f32 0x3E38AA3B#32

/-- The sixty-fourth part. -/
def part : EReal := Ideal.ofBits .f32 0x3C800000#32

/-- The number added to a mean of squares. -/
def eps : EReal := Ideal.ofBits .f32 0x358637BD#32

/-- A head's lanes over the root of their mean square. -/
def unitRow (y : Fin 64 → EReal) (d : Fin 64) : EReal :=
  y d * Ideal.rsqrt (Ideal.div (∑ i, y i * y i) (Ideal.ofBits .f32 0x42800000#32) + eps)

/-- A lane of the first half of segment `a`, turned. -/
def low (y : Fin 64 → EReal) (c s : Fin 2 → Fin 16 → EReal) (a : Fin 2) (f : Fin 16) : EReal :=
  y ⟨32 * a + f, by omega⟩ * c a f - y ⟨32 * a + 16 + f, by omega⟩ * s a f

/-- A lane of the second half of segment `a`, turned. -/
def high (y : Fin 64 → EReal) (c s : Fin 2 → Fin 16 → EReal) (a : Fin 2) (f : Fin 16) : EReal :=
  y ⟨32 * a + 16 + f, by omega⟩ * c a f + y ⟨32 * a + f, by omega⟩ * s a f

/-- A head's lanes, turned. -/
def turned (y : Fin 64 → EReal) (c s : Fin 2 → Fin 16 → EReal) (d : Fin 64) : EReal :=
  if d.val % 32 < 16 then low y c s ⟨d / 32, by omega⟩ ⟨d % 16, by omega⟩ else high y c s ⟨d / 32, by omega⟩ ⟨d % 16, by omega⟩

/-- A head's lanes, normalized, with their gain, and turned. -/
def head (y gain : Fin 64 → EReal) (c s : Fin 2 → Fin 16 → EReal) : Fin 64 → EReal :=
  turned (fun d => unitRow y d * gain d) c s

/-- A lane is one of a segment's first half or one of its second half. -/
theorem lane_cases {P : Fin 64 → Prop} (h₁ : ∀ (a : Fin 2) (f : Fin 16), P ⟨32 * a + f, by omega⟩)
    (h₂ : ∀ (a : Fin 2) (f : Fin 16), P ⟨32 * a + 16 + f, by omega⟩) (d : Fin 64) : P d := by
  by_cases h : d.val % 32 < 16
  · have e : d = ⟨32 * (⟨d / 32, by omega⟩ : Fin 2).val + (⟨d % 16, by omega⟩ : Fin 16).val, by show 32 * (d.val / 32) + d.val % 16 < 64; omega⟩ :=
      Fin.ext (by show d.val = 32 * (d.val / 32) + d.val % 16; omega)
    rw [e]
    exact h₁ _ _
  · have e : d = ⟨32 * (⟨d / 32, by omega⟩ : Fin 2).val + 16 + (⟨d % 16, by omega⟩ : Fin 16).val, by show 32 * (d.val / 32) + 16 + d.val % 16 < 64; omega⟩ :=
      Fin.ext (by show d.val = 32 * (d.val / 32) + 16 + d.val % 16; omega)
    rw [e]
    exact h₂ _ _

theorem turned_low (y : Fin 64 → EReal) (c s : Fin 2 → Fin 16 → EReal) (a : Fin 2) (f : Fin 16) :
    turned y c s ⟨32 * a + f, by omega⟩ = low y c s a f := by
  rw [turned, if_pos (by show (32 * a.val + f.val) % 32 < 16; omega)]
  exact congrArg₂ (low y c s) (Fin.ext (by show (32 * a.val + f.val) / 32 = a.val; omega))
    (Fin.ext (by show (32 * a.val + f.val) % 16 = f.val; omega))

theorem turned_high (y : Fin 64 → EReal) (c s : Fin 2 → Fin 16 → EReal) (a : Fin 2) (f : Fin 16) :
    turned y c s ⟨32 * a + 16 + f, by omega⟩ = high y c s a f := by
  rw [turned, if_neg (by show ¬ (32 * a.val + 16 + f.val) % 32 < 16; omega)]
  exact congrArg₂ (high y c s) (Fin.ext (by show (32 * a.val + 16 + f.val) / 32 = a.val; omega))
    (Fin.ext (by show (32 * a.val + 16 + f.val) % 16 = f.val; omega))

/-- Dividing by 64 is multiplying by its inverse. -/
theorem div_64 (x : EReal) : Ideal.div x (Ideal.ofBits .f32 0x42800000#32) = x * part := by
  have h₁ : Ideal.ofBits .f32 0x42800000#32 = ((64 : ℝ) : EReal) := by
    simp [Ideal.ofBits, Ideal.ieee, -EReal.coe_mul]; norm_num
  have h₂ : part = (((64 : ℝ)⁻¹ : ℝ) : EReal) := by
    rw [part]
    simp [Ideal.ofBits, Ideal.ieee, -EReal.coe_mul]; norm_num
  rw [Ideal.div, h₁, h₂, if_neg (by exact_mod_cast (by norm_num : (64 : ℝ) ≠ 0)), EReal.coe_inv]

/-- A sum of sixty-fourth parts. -/
theorem sum_part (x : Fin 64 → EReal) : ∑ i, x i * part = (∑ i, x i) * part := by
  have hp : 0 ≤ part ∧ part ≠ ⊤ := by
    have h : part = (((64 : ℝ)⁻¹ : ℝ) : EReal) := by
      rw [part]
      simp [Ideal.ofBits, Ideal.ieee, -EReal.coe_mul]; norm_num
    rw [h]
    exact ⟨by exact_mod_cast (by norm_num : (0 : ℝ) ≤ 64⁻¹), EReal.coe_ne_top _⟩
  refine Finset.sum_hom_rel (r := fun a b => a = b * part) (zero_mul _).symm fun i b c h => ?_
  rw [h, EReal.right_distrib_of_nonneg_of_ne_top hp.1 hp.2]

theorem scale_pos : 0 ≤ scale ∧ scale ≠ ⊤ := by
  have h : ∃ r : ℝ, 0 ≤ r ∧ scale = (r : EReal) := by
    refine ⟨12102203 / 2 ^ 26, by positivity, ?_⟩
    rw [scale]
    simp [Ideal.ofBits, Ideal.ieee, -EReal.coe_mul]; norm_num
  obtain ⟨r, h₀, h⟩ := h
  rw [h]
  exact ⟨by exact_mod_cast h₀, EReal.coe_ne_top r⟩

/-- A difference of turned lanes with the factor within the products. -/
theorem scale_sub (x g c y g' s : EReal) : x * (g * scale * c) - y * (g' * scale * s) = (x * g * c - y * g' * s) * scale := by
  rw [sub_eq_add_neg, sub_eq_add_neg, EReal.right_distrib_of_nonneg_of_ne_top scale_pos.1 scale_pos.2, EReal.neg_mul]
  exact congrArg₂ (· + ·) (by ac_rfl) (congrArg (- ·) (by ac_rfl))

/-- A sum of turned lanes with the factor within the products. -/
theorem scale_add (x g c y g' s : EReal) : x * (g * scale * c) + y * (g' * scale * s) = (x * g * c + y * g' * s) * scale := by
  rw [EReal.right_distrib_of_nonneg_of_ne_top scale_pos.1 scale_pos.2]
  congr 1 <;> ac_rfl

/-- A sum over several blocks of 64 in which only block `h` has a part. -/
theorem sum_own (n : ℕ) (x : Fin (n * 64) → EReal) (w : Fin 64 → EReal) (h : Fin n) :
    ∑ i : Fin (n * 64), x i * ((if i.val / 64 = h.val then (1 : EReal) else 0) * w ⟨i % 64, by omega⟩)
      = ∑ i : Fin 64, x ⟨h * 64 + i, by omega⟩ * w i := by
  have key := Fin.sum_univ_mul_divmod n 64 (fun a b => (if hm : a * 64 + b < n * 64 then x ⟨a * 64 + b, hm⟩ else 0)
    * ((if a = h.val then (1 : EReal) else 0) * w ⟨b % 64, by omega⟩))
  refine Eq.trans (Finset.sum_congr rfl fun i _ => ?_) (key.trans ?_)
  · have e : i.val / 64 * 64 + i.val % 64 = i.val := by omega
    simp only [e, i.isLt, dif_pos, Nat.mod_mod]
  · rw [Finset.sum_eq_single h]
    · refine Finset.sum_congr rfl fun i _ => ?_
      rw [dif_pos (by omega), if_pos rfl, one_mul]
      exact congrArg _ (congrArg w (Fin.ext (by show i.val % 64 = i.val; omega)))
    · intro a _ ha
      refine Finset.sum_eq_zero fun i _ => ?_
      rw [if_neg (fun e => ha (Fin.ext e)), zero_mul, mul_zero]
    · exact fun hh => absurd (Finset.mem_univ h) hh

end Cert.InProjMath

end

end
-- ==== Proof.InProjChain.lean ====
module

public import proofs.«01_k».proof.Proof.Gen.InProjIdeal.Value

@[expose] public section

/-! # What the input projection's body stores, as recursions over its stores

A block of 1024 tokens is worked on in four subtiles of 256.  For each subtile the body projects the modulated tokens
twice — once with the channels as rows, for the queries and the values, once with the tokens as rows, for the keys and
the rest — and stores the eight heads' queries, the two groups' values, the keys, the columns of the pooling mixer and
the Fourier mixer's columns.  The latter pass through a scratch array, which is read at every second row.  The body
writes these stores one after another; here each array has one recursion. -/

noncomputable section

namespace Cert.InProjIdeal.Chain

open Cert.InProjIdeal Cert.InProjIdeal.Gen Idealize.ShloMosaic Idealize.ShloMosaic.TcCoe Idealize.SL.Sem

variable {F : FTy → Type} [FloatOps F]

/-! ## What is stored -/

/-- The queries of head `h`, from the projected channels. -/
def qPart (z : FVec F S640x256 .f32) (h : ℕ) : FVec F S64x256 .f32 :=
  extractStridedSlice S64x256 ![64 * (h % 8), 0] z ⟨rfl, fun a => by
    match a with
    | ⟨0, _⟩ => show 64 * (h % 8) + 64 ≤ 640; omega
    | ⟨1, _⟩ => show 0 + 256 ≤ 256; omega⟩

/-- The normalized and turned queries of a head, from its part of the projection and the table of factors. -/
def qRows (tab : Vec F S128x256 .f32) (p : FVec F S64x256 .f32) : FVec F S1x1x1x64x256 .bf16 :=
  k0_pay13 (k0_pay10 tab) p
    (shapeCast S1x256 (multiReduction .add [0] S256 (mulf p p) 0x00000000#32 reduces_S64x256_S256 (.inl rfl) rfl) shapeCasts_S256_S1x256)
    (Scalar.ofBits .f32 0x3C800000#32)

/-- The values of group `g`, from the projected channels. -/
def vRows (z : FVec F S640x256 .f32) (g : ℕ) : FVec F S1x1x1x64x256 .bf16 :=
  shapeCast S1x1x1x64x256 (extractStridedSlice S64x256 ![64 * (g % 2), 0] (k0_pay43 z) ⟨rfl, fun a => by
    match a with
    | ⟨0, _⟩ => show 64 * (g % 2) + 64 ≤ 128; omega
    | ⟨1, _⟩ => show 0 + 256 ≤ 256; omega⟩) shapeCasts_S64x256_S1x1x1x64x256

/-- The normalized and turned keys, from the projected tokens and the two tables of factors. -/
def kRows (r : FVec F S256x640 .f32) (hm : Vec F S128x128 .bf16) (kg : Vec F S1x128 .f32) (tc ts : Vec F S256x128 .f32) :
    FVec F S1x256x128 .bf16 :=
  k0_pay50 (k0_pay49 r hm kg) (iota .tc S256x128 32 [1] iota_S256x128_d1_w32) 32#32 tc ts

/-- Chunk `ch` of the Fourier mixer's columns, from the projected tokens and the mixer's weights. -/
def fPart (r : FVec F S256x640 .f32) (ab : Vec F S256x512 .bf16) (ch : ℕ) : FVec F S1x256x128 .f32 :=
  shapeCast S1x256x128 (extractStridedSlice S256x128 ![0, 128 * (ch % 4)] (k0_pay53 (k0_pay52 r) ab) ⟨rfl, fun a => by
    match a with
    | ⟨0, _⟩ => show 0 + 256 ≤ 256; omega
    | ⟨1, _⟩ => show 128 * (ch % 4) + 128 ≤ 512; omega⟩) shapeCasts_S256x128_S1x256x128

/-! ## Where it is stored -/

/-- Half `u` of head `h`'s queries of subtile `j`. -/
def rectQ (j h u : ℕ) : Rect S1x4x8x128x256 :=
  Rect.unit (s := S1x4x8x128x256) ![0, j % 4, h % 8, 64 * (u % 2), 0] S1x1x1x64x256.size (fun a => by
    match a with
    | ⟨0, _⟩ => show 0 + 1 ≤ 1; omega
    | ⟨1, _⟩ => show j % 4 + 1 ≤ 4; omega
    | ⟨2, _⟩ => show h % 8 + 1 ≤ 8; omega
    | ⟨3, _⟩ => show 64 * (u % 2) + 64 ≤ 128; omega
    | ⟨4, _⟩ => show 0 + 256 ≤ 256; omega)

/-- Group `g`'s values of subtile `j`. -/
def rectV (j g : ℕ) : Rect S1x2x4x80x256 :=
  Rect.unit (s := S1x2x4x80x256) ![0, g % 2, j % 4, 0, 0] S1x1x1x64x256.size (fun a => by
    match a with
    | ⟨0, _⟩ => show 0 + 1 ≤ 1; omega
    | ⟨1, _⟩ => show g % 2 + 1 ≤ 2; omega
    | ⟨2, _⟩ => show j % 4 + 1 ≤ 4; omega
    | ⟨3, _⟩ => show 0 + 64 ≤ 80; omega
    | ⟨4, _⟩ => show 0 + 256 ≤ 256; omega)

/-- The rows of ones under group `g`'s values of subtile `j`. -/
def rectO (j g : ℕ) : Rect S1x2x4x80x256 :=
  Rect.unit (s := S1x2x4x80x256) ![0, g % 2, j % 4, 64, 0] S1x1x1x16x256.size (fun a => by
    match a with
    | ⟨0, _⟩ => show 0 + 1 ≤ 1; omega
    | ⟨1, _⟩ => show g % 2 + 1 ≤ 2; omega
    | ⟨2, _⟩ => show j % 4 + 1 ≤ 4; omega
    | ⟨3, _⟩ => show 64 + 16 ≤ 80; omega
    | ⟨4, _⟩ => show 0 + 256 ≤ 256; omega)

/-- The keys of subtile `j`. -/
def rectK (j : ℕ) : Rect S1x1024x128 :=
  Rect.unit (s := S1x1024x128) ![0, 256 * (j % 4), 0] S1x256x128.size (fun a => by
    match a with
    | ⟨0, _⟩ => show 0 + 1 ≤ 1; omega
    | ⟨1, _⟩ => show 256 * (j % 4) + 256 ≤ 1024; omega
    | ⟨2, _⟩ => show 0 + 128 ≤ 128; omega)

/-- The pooling mixer's columns of subtile `j`. -/
def rectU (j : ℕ) : Rect S1x1024x256 :=
  Rect.unit (s := S1x1024x256) ![0, 256 * (j % 4), 0] S1x256x256.size (fun a => by
    match a with
    | ⟨0, _⟩ => show 0 + 1 ≤ 1; omega
    | ⟨1, _⟩ => show 256 * (j % 4) + 256 ≤ 1024; omega
    | ⟨2, _⟩ => show 0 + 256 ≤ 256; omega)

/-- Chunk `ch` of the scratch array. -/
def rectS (ch : ℕ) : Rect S4x256x128 :=
  Rect.unit (s := S4x256x128) ![ch % 4, 0, 0] S1x256x128.size (fun a => by
    match a with
    | ⟨0, _⟩ => show ch % 4 + 1 ≤ 4; omega
    | ⟨1, _⟩ => show 0 + 256 ≤ 256; omega
    | ⟨2, _⟩ => show 0 + 128 ≤ 128; omega)

/-- The rows of parity `p` of chunk `ch` of the scratch array. -/
def everySecond (p ch : ℕ) : LoadRect S4x256x128 :=
  ⟨![ch % 4, p % 2, 0], S1x128x128.size, ![1, 2, 1], fun a => by
    match a with
    | ⟨0, _⟩ => show 1 = 0 ∨ ch % 4 + 1 * (1 - 1) < 4; omega
    | ⟨1, _⟩ => show 128 = 0 ∨ p % 2 + 2 * (128 - 1) < 256; omega
    | ⟨2, _⟩ => show 128 = 0 ∨ 0 + 1 * (128 - 1) < 128; omega⟩

/-- Where the rows of parity `p` of chunk `ch` of subtile `j` go. -/
def rectF (j p ch : ℕ) : Rect S1x2x2x512x256 :=
  Rect.unit (s := S1x2x2x512x256) ![0, p % 2, ch % 4 / 2, 128 * (j % 4), 128 * (ch % 2)] S1x1x1x128x128.size (fun a => by
    match a with
    | ⟨0, _⟩ => show 0 + 1 ≤ 1; omega
    | ⟨1, _⟩ => show p % 2 + 1 ≤ 2; omega
    | ⟨2, _⟩ => show ch % 4 / 2 + 1 ≤ 2; omega
    | ⟨3, _⟩ => show 128 * (j % 4) + 128 ≤ 512; omega
    | ⟨4, _⟩ => show 128 * (ch % 2) + 128 ≤ 256; omega)

/-! ## The recursions -/

section
variable (zt : ℕ → FVec F S640x256 .f32) (zr : ℕ → FVec F S256x640 .f32) (tab : ℕ → Vec F S128x256 .f32)
variable (hm : Vec F S128x128 .bf16) (kg : Vec F S1x128 .f32) (tc ts : ℕ → Vec F S256x128 .f32) (ab : Vec F S256x512 .bf16)

/-- The stores of the queries, the last first: for each subtile and head its half of the rows, then zeros in the other. -/
def listQ (n : ℕ) : List (View.Piece (Elt F) S1x4x8x128x256 .bf16) :=
  Nat.rec [] (fun i L => ⟨rectQ (i / 8) i (1 - i % 8 / 4), k0_pay14⟩
    :: ⟨rectQ (i / 8) i (i % 8 / 4), qRows (tab (i / 8)) (qPart (zt (i / 8)) i)⟩ :: L) n

/-- The stores of the values, the last first: for each subtile and group its rows, then the rows of ones. -/
def listV (n : ℕ) : List (View.Piece (Elt F) S1x2x4x80x256 .bf16) :=
  Nat.rec [] (fun i L => ⟨rectO (i / 2) i, k0_pay46⟩ :: ⟨rectV (i / 2) i, vRows (zt (i / 2)) i⟩ :: L) n

/-- The stores of the keys, the last first. -/
def listK (n : ℕ) : List (View.Piece (Elt F) S1x1024x128 .bf16) :=
  Nat.rec [] (fun j L => ⟨rectK j, kRows (zr j) hm kg (tc j) (ts j)⟩ :: L) n

/-- The stores of the pooling mixer's columns, the last first. -/
def listU (n : ℕ) : List (View.Piece (Elt F) S1x1024x256 .f32) :=
  Nat.rec [] (fun j L => ⟨rectU j, k0_pay51 (zr j)⟩ :: L) n

/-- The stores into the scratch array, the last first. -/
def listS (n : ℕ) : List (View.Piece (Elt F) S4x256x128 .f32) :=
  Nat.rec [] (fun i L => ⟨rectS i, fPart (zr (i / 4)) ab i⟩ :: L) n

/-- The stores of the Fourier mixer's columns, the last first: for each subtile, parity and chunk the rows read back. -/
def listF (vs : View sig .tc .vmem S4x256x128 .f32) (n : ℕ) : List (View.Piece (Elt F) S1x2x2x512x256 .bf16) :=
  Nat.rec [] (fun i L => ⟨rectF (i / 8) (i / 4) i,
    k0_pay58 (vs.readCov (listS zr ab (4 * (i / 8) + 4)) (everySecond (i / 4) i))⟩ :: L) n

end

/-! ## The body's own -/

/-- Subtile `j`'s tokens. -/
def tokens (v : View sig .tc .vmem S1x1024x1024 .f32) (y : v.ty.Contents (Elt F)) (j : ℕ) : Vec F S1x256x1024 .f32 :=
  v.readAt (Elt F) (Rect.unit (s := S1x1024x1024) ![0, 256 * (j % 4), 0] S1x256x1024.size (fun a => by
    match a with
    | ⟨0, _⟩ => show 0 + 1 ≤ 1; omega
    | ⟨1, _⟩ => show 256 * (j % 4) + 256 ≤ 1024; omega
    | ⟨2, _⟩ => show 0 + 1024 ≤ 1024; omega)).toLoadRect y

/-- Subtile `j`'s columns of the queries' table. -/
def tableQ (v : View sig .tc .vmem S128x1024 .f32) (y : v.ty.Contents (Elt F)) (j : ℕ) : Vec F S128x256 .f32 :=
  v.readAt (Elt F) (Rect.unit (s := S128x1024) ![0, 256 * (j % 4)] S128x256.size (fun a => by
    match a with
    | ⟨0, _⟩ => show 0 + 128 ≤ 128; omega
    | ⟨1, _⟩ => show 256 * (j % 4) + 256 ≤ 1024; omega)).toLoadRect y

/-- Subtile `j`'s rows of one of the keys' tables. -/
def tableK (v : View sig .tc .vmem S1024x128 .f32) (y : v.ty.Contents (Elt F)) (j : ℕ) : Vec F S256x128 .f32 :=
  v.readAt (Elt F) (Rect.unit (s := S1024x128) ![256 * (j % 4), 0] S256x128.size (fun a => by
    match a with
    | ⟨0, _⟩ => show 256 * (j % 4) + 256 ≤ 1024; omega
    | ⟨1, _⟩ => show 0 + 128 ≤ 128; omega)).toLoadRect y

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S640x1024 .bf16) (harg6 : arg6.IsWhole) (arg7 : Memref sig .tc .vmem S1024x640 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S256x512 .bf16) (harg13 : arg13.IsWhole) (arg14 : Memref sig .tc .vmem S1x4x8x128x256 .bf16) (harg14 : arg14.IsWhole) (arg15 : Memref sig .tc .vmem S1x1024x128 .bf16) (harg15 : arg15.IsWhole) (arg16 : Memref sig .tc .vmem S1x2x4x80x256 .bf16) (harg16 : arg16.IsWhole) (arg17 : Memref sig .tc .vmem S1x1024x256 .f32) (harg17 : arg17.IsWhole) (arg18 : Memref sig .tc .vmem S1x2x2x512x256 .bf16) (harg18 : arg18.IsWhole) (arg19 : Memref sig .tc .vmem S4x256x128 .f32) (harg19 : arg19.IsWhole)
    (x0 : Vec F S1x1024x1024 .f32) (x1 : Vec F S1x1x1024 .f32) (x2 : Vec F S1x1x1024 .f32) (x3 : Vec F S1x1024 .f32) (x4 : Vec F S640x1024 .bf16) (x5 : Vec F S1024x640 .bf16) (x6 : Vec F S128x128 .bf16) (x7 : Vec F S1x128 .f32) (x8 : Vec F S128x1024 .f32) (x9 : Vec F S1024x128 .f32) (x10 : Vec F S1024x128 .f32) (x11 : Vec F S256x512 .bf16)

/-- Subtile `j`'s projection with the channels as rows. -/
abbrev bodyT (j : ℕ) : FVec F S640x256 .f32 :=
  k0_pay5 (tokens arg2.view (harg2.unread x0) j)
    (arg5.view.readAt (Elt F) (Rect.unit (s := S1x1024) ![0, 0] S1x1024.size inb_S1x1024_S1x1024_0_0).toLoadRect (harg5.unread x3))
    (arg4.view.readAt (Elt F) (Rect.unit (s := S1x1x1024) ![0, 0, 0] S1x1x1024.size inb_S1x1x1024_S1x1x1024_0_0_0).toLoadRect (harg4.unread x2))
    (arg3.view.readAt (Elt F) (Rect.unit (s := S1x1x1024) ![0, 0, 0] S1x1x1024.size inb_S1x1x1024_S1x1x1024_0_0_0).toLoadRect (harg3.unread x1))
    (arg6.view.readAt (Elt F) (Rect.unit (s := S640x1024) ![0, 0] S640x1024.size inb_S640x1024_S640x1024_0_0).toLoadRect (harg6.unread x4))

/-- Subtile `j`'s projection with the tokens as rows. -/
abbrev bodyR (j : ℕ) : FVec F S256x640 .f32 :=
  k0_pay6 (tokens arg2.view (harg2.unread x0) j)
    (arg5.view.readAt (Elt F) (Rect.unit (s := S1x1024) ![0, 0] S1x1024.size inb_S1x1024_S1x1024_0_0).toLoadRect (harg5.unread x3))
    (arg4.view.readAt (Elt F) (Rect.unit (s := S1x1x1024) ![0, 0, 0] S1x1x1024.size inb_S1x1x1024_S1x1x1024_0_0_0).toLoadRect (harg4.unread x2))
    (arg3.view.readAt (Elt F) (Rect.unit (s := S1x1x1024) ![0, 0, 0] S1x1x1024.size inb_S1x1x1024_S1x1x1024_0_0_0).toLoadRect (harg3.unread x1))
    (arg7.view.readAt (Elt F) (Rect.unit (s := S1024x640) ![0, 0] S1024x640.size inb_S1024x640_S1024x640_0_0).toLoadRect (harg7.unread x5))

/-- The Fourier mixer's weights. -/
abbrev bodyAb : Vec F S256x512 .bf16 :=
  arg13.view.readAt (Elt F) (Rect.unit (s := S256x512) ![0, 0] S256x512.size inb_S256x512_S256x512_0_0).toLoadRect (harg13.unread x11)

/-- The body's stores of the queries are the recursion's. -/
theorem queries_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).1
      = listQ (bodyT arg2 harg2 arg3 harg3 arg4 harg4 arg5 harg5 arg6 harg6 x0 x1 x2 x3 x4) (tableQ arg10.view (harg10.unread x8)) 32 := by
  sl_kernel_rfl

/-- The body's stores of the keys are the recursion's. -/
theorem keys_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).2.1
      = listK (bodyR arg2 harg2 arg3 harg3 arg4 harg4 arg5 harg5 arg7 harg7 x0 x1 x2 x3 x5)
        (arg8.view.readAt (Elt F) (Rect.unit (s := S128x128) ![0, 0] S128x128.size inb_S128x128_S128x128_0_0).toLoadRect (harg8.unread x6))
        (arg9.view.readAt (Elt F) (Rect.unit (s := S1x128) ![0, 0] S1x128.size inb_S1x128_S1x128_0_0).toLoadRect (harg9.unread x7))
        (tableK arg11.view (harg11.unread x9)) (tableK arg12.view (harg12.unread x10)) 4 := by
  sl_kernel_rfl

/-- The body's stores of the values are the recursion's. -/
theorem values_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).2.2.1
      = listV (bodyT arg2 harg2 arg3 harg3 arg4 harg4 arg5 harg5 arg6 harg6 x0 x1 x2 x3 x4) 8 := by
  sl_kernel_rfl

/-- The body's stores of the pooling mixer's columns are the recursion's. -/
theorem pools_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).2.2.2.1
      = listU (bodyR arg2 harg2 arg3 harg3 arg4 harg4 arg5 harg5 arg7 harg7 x0 x1 x2 x3 x5) 4 := by
  sl_kernel_rfl

/-- The body's stores of the Fourier mixer's columns are the recursion's. -/
theorem fouriers_eq :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11).2.2.2.2.1
      = listF (bodyR arg2 harg2 arg3 harg3 arg4 harg4 arg5 harg5 arg7 harg7 x0 x1 x2 x3 x5) (bodyAb arg13 harg13 x11) arg19.view 32 := by
  sl_kernel_rfl

end Cert.InProjIdeal.Chain

end

end
-- ==== Proof.InProjStep.lean ====
module

public import proofs.«01_k».proof.Proof.InProjMath
public import proofs.«01_k».proof.Proof.InProjChain
public import Idealize.ShloMosaic.Lib.Pointwise

@[expose] public section

/-! # What the input projection's body stores, element by element -/

noncomputable section

namespace Cert.InProjIdeal.Chain

open Cert.InProjIdeal Cert.InProjIdeal.Gen Cert.InProjMath Idealize Idealize.ShloMosaic Idealize.ShloMosaic.TcCoe

/-- The modulated tokens. -/
theorem hidden_apply (x : Vec Ideal S1x256x1024 .f32) (g : Vec Ideal S1x1024 .f32) (sc sh : Vec Ideal S1x1x1024 .f32) (p : Fin 256)
    (k : Fin 1024) :
    k0_pay4 x g sc sh (ix2 p k) = FfnMath.normed (fun k => x (ix3 0 p k)) (fun k => g (ix2 0 k)) (fun k => sc (ix3 0 0 k))
      (fun k => sh (ix3 0 0 k)) k := by
  unfold k0_pay4
  pointwise
  rfl

/-- The projection with the channels as rows. -/
theorem channels_apply (x : Vec Ideal S1x256x1024 .f32) (g : Vec Ideal S1x1024 .f32) (sc sh : Vec Ideal S1x1x1024 .f32)
    (w : Vec Ideal S640x1024 .bf16) (n : Fin 640) (p : Fin 256) :
    k0_pay5 x g sc sh w (ix2 n p) = ∑ k, w (ix2 n k) * k0_pay4 x g sc sh (ix2 p k) := by
  unfold k0_pay5
  generalize k0_pay4 x g sc sh = y
  pointwise

/-- The projection with the tokens as rows. -/
theorem tokens_apply (x : Vec Ideal S1x256x1024 .f32) (g : Vec Ideal S1x1024 .f32) (sc sh : Vec Ideal S1x1x1024 .f32)
    (w : Vec Ideal S1024x640 .bf16) (p : Fin 256) (n : Fin 640) :
    k0_pay6 x g sc sh w (ix2 p n) = ∑ k, k0_pay4 x g sc sh (ix2 p k) * w (ix2 k n) := by
  unfold k0_pay6
  generalize k0_pay4 x g sc sh = y
  pointwise

theorem qPart_apply (z : FVec Ideal S640x256 .f32) (h : ℕ) (d : Fin 64) (p : Fin 256) :
    qPart z h (ix2 d p) = z (ix2 ⟨64 * (h % 8) + d, by omega⟩ p) := by
  unfold qPart
  pointwise

theorem vRows_apply (z : FVec Ideal S640x256 .f32) (g : ℕ) (d : Fin 64) (p : Fin 256) :
    vRows z g (ix5 0 0 0 d p) = z (ix2 ⟨512 + (64 * (g % 2) + d), by omega⟩ p) := by
  unfold vRows k0_pay43
  pointwise

theorem zeros_apply (d : Fin 64) (p : Fin 256) : k0_pay14 (F := Ideal) (ix5 0 0 0 d p) = 0 := by
  unfold k0_pay14
  pointwise

theorem ones_apply (d : Fin 16) (p : Fin 256) : k0_pay46 (F := Ideal) (ix5 0 0 0 d p) = 1 := by
  unfold k0_pay46
  pointwise

theorem pool_apply (r : FVec Ideal S256x640 .f32) (p : Fin 256) (n : Fin 256) :
    k0_pay51 r (ix3 0 p n) = r (ix2 p ⟨128 + n, by omega⟩) := by
  unfold k0_pay51
  pointwise

theorem fPart_apply (r : FVec Ideal S256x640 .f32) (ab : Vec Ideal S256x512 .bf16) (ch : ℕ) (p : Fin 256) (n : Fin 128) :
    fPart r ab ch (ix3 0 p n) = ∑ k : Fin 256, r (ix2 p ⟨384 + k, by omega⟩) * ab (ix2 k ⟨128 * (ch % 4) + n, by omega⟩) := by
  unfold fPart k0_pay53 k0_pay52
  pointwise

theorem picked_apply (y : Vec Ideal S1x128x128 .f32) (p : Fin 128) (n : Fin 128) :
    k0_pay58 y (ix5 0 0 0 p n) = y (ix3 0 p n) := by
  unfold k0_pay58
  pointwise

theorem kNorm_apply (r : FVec Ideal S256x640 .f32) (hm : Vec Ideal S128x128 .bf16) (kg : Vec Ideal S1x128 .f32) (p : Fin 256) (n : Fin 128) :
    k0_pay49 r hm kg (ix2 p n) = r (ix2 p ⟨n, by omega⟩)
      * Ideal.rsqrt ((∑ k : Fin 128, r (ix2 p ⟨k, by omega⟩) * r (ix2 p ⟨k, by omega⟩) * hm (ix2 k n)) + eps) * kg (ix2 0 n) := by
  unfold k0_pay49
  pointwise
  rfl

/-- The mean of a head's squares and the gain within the block: the keys, normalized. -/
theorem kNorm_head (r : FVec Ideal S256x640 .f32) (hm : Vec Ideal S128x128 .bf16) (kg : Vec Ideal S1x128 .f32) (gain : Fin 64 → EReal)
    (eh : ∀ a b : Fin 128, hm (ix2 a b) = (if a.val / 64 = b.val / 64 then 1 else 0) * part)
    (eg : ∀ n : Fin 128, kg (ix2 0 n) = gain ⟨n % 64, by omega⟩) (p : Fin 256) (h : Fin 2) (d : Fin 64) :
    k0_pay49 r hm kg (ix2 p ⟨64 * h + d, by omega⟩)
      = unitRow (fun i => r (ix2 p ⟨64 * h + i, by omega⟩)) d * gain d := by
  have e : ∑ k : Fin 128, r (ix2 p ⟨k, by omega⟩) * r (ix2 p ⟨k, by omega⟩) * hm (ix2 k ⟨64 * h + d, by omega⟩)
      = (∑ i : Fin 64, r (ix2 p ⟨64 * h + i, by omega⟩) * r (ix2 p ⟨64 * h + i, by omega⟩)) * part := by
    refine Eq.trans (Finset.sum_congr rfl fun k _ => ?_)
      ((sum_own 2 (fun k => r (ix2 p ⟨k, by omega⟩) * r (ix2 p ⟨k, by omega⟩)) (fun _ => part) h).trans
        (Eq.trans (Finset.sum_congr rfl fun i _ => ?_) (sum_part _)))
    · rw [eh]
      have ed : (64 * h.val + d.val) / 64 = h.val := by omega
      simp only [ed]
    · have ei : (⟨h.val * 64 + i.val, by omega⟩ : Fin 640) = ⟨64 * h + i, by omega⟩ := Fin.ext (by show h.val * 64 + i.val = 64 * h.val + i.val; omega)
      simp only [ei]
  have ed : (⟨(64 * h.val + d.val) % 64, by omega⟩ : Fin 64) = d := Fin.ext (by show (64 * h.val + d.val) % 64 = d.val; omega)
  rw [kNorm_apply, e, eg, unitRow, div_64, ed]

/-- The lanes of a segment's first half. -/
theorem mask_eq (n : Fin 128) :
    IntOp.cmpi CmpIPredicate.slt
      (Scalar.select
        (IntOp.andi
          (IntOp.xori
            (IntOp.cmpi CmpIPredicate.slt
              (IntOp.remsi ArithUnit.vector (BitVec.ofNat 32 n) (Scalar.select (Scalar.cmpi CmpIPredicate.eq 32#32 0#32) 1#32 32#32)) 0#32)
            (Scalar.cmpi CmpIPredicate.slt (Scalar.select (Scalar.cmpi CmpIPredicate.eq 32#32 0#32) 1#32 32#32) 0#32))
          (IntOp.cmpi CmpIPredicate.ne
            (IntOp.remsi ArithUnit.vector (BitVec.ofNat 32 n) (Scalar.select (Scalar.cmpi CmpIPredicate.eq 32#32 0#32) 1#32 32#32)) 0#32))
        (IntOp.addi
          (IntOp.remsi ArithUnit.vector (BitVec.ofNat 32 n) (Scalar.select (Scalar.cmpi CmpIPredicate.eq 32#32 0#32) 1#32 32#32))
          (Scalar.select (Scalar.cmpi CmpIPredicate.eq 32#32 0#32) 1#32 32#32))
        (IntOp.remsi ArithUnit.vector (BitVec.ofNat 32 n) (Scalar.select (Scalar.cmpi CmpIPredicate.eq 32#32 0#32) 1#32 32#32)))
      16#32 = if n.val % 32 < 16 then 1#1 else 0#1 := by
  revert n
  decide +kernel

/-- The keys, turned: each lane takes the lane sixteen further on or sixteen before. -/
theorem kRows_apply (r : FVec Ideal S256x640 .f32) (hm : Vec Ideal S128x128 .bf16) (kg : Vec Ideal S1x128 .f32) (tc ts : Vec Ideal S256x128 .f32) (p : Fin 256)
    (n : Fin 128) :
    kRows r hm kg tc ts (ix3 0 p n) = k0_pay49 r hm kg (ix2 p n) * tc (ix2 p n)
      + (if n.val % 32 < 16 then k0_pay49 r hm kg (ix2 p ⟨(n + 128 - 112) % 128, by omega⟩)
          else k0_pay49 r hm kg (ix2 p ⟨(n + 128 - 16) % 128, by omega⟩)) * ts (ix2 p n) := by
  unfold kRows k0_pay50
  generalize k0_pay49 r hm kg = y
  pointwise
  rw [mask_eq n]
  split <;> rfl

/-- The keys of head `h`. -/
theorem kRows_head (r : FVec Ideal S256x640 .f32) (hm : Vec Ideal S128x128 .bf16) (kg : Vec Ideal S1x128 .f32) (tc ts : Vec Ideal S256x128 .f32)
    (gain : Fin 64 → EReal) (c s : Fin 2 → Fin 16 → EReal)
    (eh : ∀ a b : Fin 128, hm (ix2 a b) = (if a.val / 64 = b.val / 64 then 1 else 0) * part)
    (eg : ∀ n : Fin 128, kg (ix2 0 n) = gain ⟨n % 64, by omega⟩) (p : Fin 256) (h : Fin 2)
    (ec₁ : ∀ (a : Fin 2) (f : Fin 16), tc (ix2 p ⟨64 * h + (32 * a + f), by omega⟩) = c a f) (ec₂ : ∀ (a : Fin 2) (f : Fin 16), tc (ix2 p ⟨64 * h + (32 * a + 16 + f), by omega⟩) = c a f)
    (es₁ : ∀ (a : Fin 2) (f : Fin 16), ts (ix2 p ⟨64 * h + (32 * a + f), by omega⟩) = -s a f) (es₂ : ∀ (a : Fin 2) (f : Fin 16), ts (ix2 p ⟨64 * h + (32 * a + 16 + f), by omega⟩) = s a f)
    (d : Fin 64) :
    kRows r hm kg tc ts (ix3 0 p ⟨64 * h + d, by omega⟩) = head (fun i => r (ix2 p ⟨64 * h + i, by omega⟩)) gain c s d := by
  refine lane_cases (P := fun d => kRows r hm kg tc ts (ix3 0 p ⟨64 * h + d, by omega⟩)
    = head (fun i => r (ix2 p ⟨64 * h + i, by omega⟩)) gain c s d) (fun a f => ?_) (fun a f => ?_) d
  · have ei : (⟨(64 * h.val + (32 * a.val + f.val) + 128 - 112) % 128, by omega⟩ : Fin 128) = ⟨64 * h + (32 * a + 16 + f), by omega⟩ :=
      Fin.ext (by show (64 * h.val + (32 * a.val + f.val) + 128 - 112) % 128 = 64 * h.val + (32 * a.val + 16 + f.val); omega)
    rw [kRows_apply, if_pos (by show (64 * h.val + (32 * a.val + f.val)) % 32 < 16; omega), ec₁, es₁, ei, head, turned_low, low,
      kNorm_head r hm kg gain eh eg p h ⟨32 * a + f, by omega⟩, kNorm_head r hm kg gain eh eg p h ⟨32 * a + 16 + f, by omega⟩,
      mul_neg, sub_eq_add_neg]
  · have ei : (⟨(64 * h.val + (32 * a.val + 16 + f.val) + 128 - 16) % 128, by omega⟩ : Fin 128) = ⟨64 * h + (32 * a + f), by omega⟩ :=
      Fin.ext (by show (64 * h.val + (32 * a.val + 16 + f.val) + 128 - 16) % 128 = 64 * h.val + (32 * a.val + f.val); omega)
    rw [kRows_apply, if_neg (by show ¬ (64 * h.val + (32 * a.val + 16 + f.val)) % 32 < 16; omega), ec₂, es₂, ei, head, turned_high, high,
      kNorm_head r hm kg gain eh eg p h ⟨32 * a + f, by omega⟩, kNorm_head r hm kg gain eh eg p h ⟨32 * a + 16 + f, by omega⟩]

section
variable (tab : Vec Ideal S128x256 .f32) (y : FVec Ideal S64x256 .f32) (p : Fin 256) (f : Fin 16)

/-- The factor of a head's lanes. -/
abbrev root : EReal := Ideal.rsqrt ((∑ i, y (ix2 i p) * y (ix2 i p)) * part + eps)

theorem qRows_low₀ : qRows tab y (ix5 0 0 0 ⟨f, by omega⟩ p)
    = y (ix2 ⟨f, by omega⟩ p) * root y p * tab (ix2 ⟨f, by omega⟩ p)
      - y (ix2 ⟨16 + f, by omega⟩ p) * root y p * tab (ix2 ⟨16 + f, by omega⟩ p) := by
  unfold qRows k0_pay13 k0_pay10
  pointwise
  rfl

theorem qRows_high₀ : qRows tab y (ix5 0 0 0 ⟨16 + f, by omega⟩ p)
    = y (ix2 ⟨16 + f, by omega⟩ p) * root y p * tab (ix2 ⟨32 + f, by omega⟩ p)
      + y (ix2 ⟨f, by omega⟩ p) * root y p * tab (ix2 ⟨48 + f, by omega⟩ p) := by
  unfold qRows k0_pay13 k0_pay10
  pointwise
  rfl

theorem qRows_low₁ : qRows tab y (ix5 0 0 0 ⟨32 + f, by omega⟩ p)
    = y (ix2 ⟨32 + f, by omega⟩ p) * root y p * tab (ix2 ⟨64 + f, by omega⟩ p)
      - y (ix2 ⟨48 + f, by omega⟩ p) * root y p * tab (ix2 ⟨80 + f, by omega⟩ p) := by
  unfold qRows k0_pay13 k0_pay10
  pointwise
  have e : 32 + f.val - 16 - 16 = f.val := by omega
  rw [dif_neg (by omega), dif_neg (by omega), dif_pos (by omega)]
  simp only [e]
  rfl

theorem qRows_high₁ : qRows tab y (ix5 0 0 0 ⟨48 + f, by omega⟩ p)
    = y (ix2 ⟨48 + f, by omega⟩ p) * root y p * tab (ix2 ⟨96 + f, by omega⟩ p)
      + y (ix2 ⟨32 + f, by omega⟩ p) * root y p * tab (ix2 ⟨112 + f, by omega⟩ p) := by
  unfold qRows k0_pay13 k0_pay10
  pointwise
  have e : 48 + f.val - 16 - 16 - 16 = f.val := by omega
  rw [dif_neg (by omega), dif_neg (by omega), dif_neg (by omega)]
  simp only [e]
  rfl

end

/-- A head's queries with the softmax's factor. -/
theorem qRows_head (tab : Vec Ideal S128x256 .f32) (y : FVec Ideal S64x256 .f32) (p : Fin 256) (gain : Fin 64 → EReal) (c s : Fin 2 → Fin 16 → EReal)
    (et : ∀ (a : Fin 2) (q : Fin 4) (f : Fin 16), tab (ix2 ⟨64 * a + 16 * q + f, by omega⟩ p)
      = ![gain ⟨32 * a + f, by omega⟩ * scale * c a f, gain ⟨32 * a + 16 + f, by omega⟩ * scale * s a f,
          gain ⟨32 * a + 16 + f, by omega⟩ * scale * c a f, gain ⟨32 * a + f, by omega⟩ * scale * s a f] q) (d : Fin 64) :
    qRows tab y (ix5 0 0 0 d p) = head (fun i => y (ix2 i p)) gain c s d * scale := by
  refine lane_cases (P := fun d => qRows tab y (ix5 0 0 0 d p) = head (fun i => y (ix2 i p)) gain c s d * scale) (fun a f => ?_) (fun a f => ?_) d
  · have t₀ := et a 0 f
    have t₁ := et a 1 f
    rw [head, turned_low, low]
    obtain rfl | rfl : a = 0 ∨ a = 1 := by omega
    all_goals
      simp only [Fin.val_zero, Fin.val_one, Nat.mul_zero, Nat.mul_one, Nat.zero_add, Nat.add_zero, Nat.reduceAdd] at t₀ t₁ ⊢
      simp only [qRows_low₀, qRows_low₁, t₀, t₁, unitRow, div_64]
      exact scale_sub _ _ _ _ _ _
  · have t₂ := et a 2 f
    have t₃ := et a 3 f
    have v₂ : ((2 : Fin 4) : ℕ) = 2 := rfl
    have v₃ : ((3 : Fin 4) : ℕ) = 3 := rfl
    rw [head, turned_high, high]
    obtain rfl | rfl : a = 0 ∨ a = 1 := by omega
    all_goals
      simp only [v₂, v₃, Fin.val_zero, Fin.val_one, Nat.mul_zero, Nat.mul_one, Nat.zero_add, Nat.add_zero, Nat.reduceAdd, Nat.reduceMul] at t₂ t₃ ⊢
      simp only [qRows_high₀, qRows_high₁, t₂, t₃, unitRow, div_64]
      exact scale_add _ _ _ _ _ _

end Cert.InProjIdeal.Chain

end

end
-- ==== Proof.InProjBlock.lean ====
module

public import proofs.«01_k».proof.Proof.InProjStep
public import Idealize.ShloMosaic.Lib.Pipeline.ValueKit

@[expose] public section

/-! # What the input projection's output blocks hold after one run of the body

Every element of an output block lies in one of the body's stores, and every store holds its part of one function of
the block's indices.  The scratch array alone is stored into again: its reader finds the latest four stores. -/

noncomputable section

namespace Cert.InProjIdeal.Chain

open Cert.InProjIdeal Cert.InProjIdeal.Gen Cert.InProjMath Idealize Idealize.ShloMosaic Idealize.ShloMosaic.TcCoe

/-! ## Membership in a recursion's list -/

theorem mem_rec₁ {α : Type} (f : ℕ → α) (n : ℕ) (p : α) : p ∈ (Nat.rec [] (fun i L => f i :: L) n : List α) ↔ ∃ i < n, p = f i := by
  induction n with
  | zero => simp
  | succ n ih =>
    show p ∈ f n :: (Nat.rec [] (fun i L => f i :: L) n : List α) ↔ _
    rw [List.mem_cons, ih]
    constructor
    · rintro (rfl | ⟨i, hi, rfl⟩)
      exacts [⟨n, by omega, rfl⟩, ⟨i, by omega, rfl⟩]
    · rintro ⟨i, hi, rfl⟩
      rcases Nat.lt_or_ge i n with h | h
      · exact Or.inr ⟨i, h, rfl⟩
      · obtain rfl : i = n := by omega
        exact Or.inl rfl

theorem mem_rec₂ {α : Type} (f g : ℕ → α) (n : ℕ) (p : α) :
    p ∈ (Nat.rec [] (fun i L => f i :: g i :: L) n : List α) ↔ ∃ i < n, p = f i ∨ p = g i := by
  induction n with
  | zero => simp
  | succ n ih =>
    show p ∈ f n :: g n :: (Nat.rec [] (fun i L => f i :: g i :: L) n : List α) ↔ _
    rw [List.mem_cons, List.mem_cons, ih]
    constructor
    · rintro (rfl | rfl | ⟨i, hi, h⟩)
      exacts [⟨n, by omega, Or.inl rfl⟩, ⟨n, by omega, Or.inr rfl⟩, ⟨i, by omega, h⟩]
    · rintro ⟨i, hi, h⟩
      rcases Nat.lt_or_ge i n with h' | h'
      · exact Or.inr (Or.inr ⟨i, h', h⟩)
      · obtain rfl : i = n := by omega
        exact h.elim Or.inl fun h => Or.inr (Or.inl h)

/-! ## Where a store's elements lie -/

theorem rectQ_emb (j h u : ℕ) (d : Fin 64) (p : Fin 256) :
    (rectQ j h u).emb (ix5 0 0 0 d p : S1x1x1x64x256.Idx) = (ix5 0 ⟨j % 4, by omega⟩ ⟨h % 8, by omega⟩ ⟨64 * (u % 2) + d, by omega⟩ p : S1x4x8x128x256.Idx) :=
  funext fun e => by
    match e with
    | ⟨0, _⟩ => exact Fin.ext (by show 0 + 1 * 0 = 0; omega)
    | ⟨1, _⟩ => exact Fin.ext (by show j % 4 + 1 * 0 = j % 4; omega)
    | ⟨2, _⟩ => exact Fin.ext (by show h % 8 + 1 * 0 = h % 8; omega)
    | ⟨3, _⟩ => exact Fin.ext (by show 64 * (u % 2) + 1 * d.val = 64 * (u % 2) + d.val; omega)
    | ⟨4, _⟩ => exact Fin.ext (by show 0 + 1 * p.val = p.val; omega)

theorem rectV_emb (j g : ℕ) (d : Fin 64) (p : Fin 256) :
    (rectV j g).emb (ix5 0 0 0 d p : S1x1x1x64x256.Idx) = (ix5 0 ⟨g % 2, by omega⟩ ⟨j % 4, by omega⟩ ⟨d, by omega⟩ p : S1x2x4x80x256.Idx) :=
  funext fun e => by
    match e with
    | ⟨0, _⟩ => exact Fin.ext (by show 0 + 1 * 0 = 0; omega)
    | ⟨1, _⟩ => exact Fin.ext (by show g % 2 + 1 * 0 = g % 2; omega)
    | ⟨2, _⟩ => exact Fin.ext (by show j % 4 + 1 * 0 = j % 4; omega)
    | ⟨3, _⟩ => exact Fin.ext (by show 0 + 1 * d.val = d.val; omega)
    | ⟨4, _⟩ => exact Fin.ext (by show 0 + 1 * p.val = p.val; omega)

theorem rectO_emb (j g : ℕ) (d : Fin 16) (p : Fin 256) :
    (rectO j g).emb (ix5 0 0 0 d p : S1x1x1x16x256.Idx) = (ix5 0 ⟨g % 2, by omega⟩ ⟨j % 4, by omega⟩ ⟨64 + d, by omega⟩ p : S1x2x4x80x256.Idx) :=
  funext fun e => by
    match e with
    | ⟨0, _⟩ => exact Fin.ext (by show 0 + 1 * 0 = 0; omega)
    | ⟨1, _⟩ => exact Fin.ext (by show g % 2 + 1 * 0 = g % 2; omega)
    | ⟨2, _⟩ => exact Fin.ext (by show j % 4 + 1 * 0 = j % 4; omega)
    | ⟨3, _⟩ => exact Fin.ext (by show 64 + 1 * d.val = 64 + d.val; omega)
    | ⟨4, _⟩ => exact Fin.ext (by show 0 + 1 * p.val = p.val; omega)

theorem rectK_emb (j : ℕ) (p : Fin 256) (n : Fin 128) :
    (rectK j).emb (ix3 0 p n : S1x256x128.Idx) = (ix3 0 ⟨256 * (j % 4) + p, by omega⟩ n : S1x1024x128.Idx) :=
  funext fun e => by
    match e with
    | ⟨0, _⟩ => exact Fin.ext (by show 0 + 1 * 0 = 0; omega)
    | ⟨1, _⟩ => exact Fin.ext (by show 256 * (j % 4) + 1 * p.val = 256 * (j % 4) + p.val; omega)
    | ⟨2, _⟩ => exact Fin.ext (by show 0 + 1 * n.val = n.val; omega)

theorem rectU_emb (j : ℕ) (p n : Fin 256) :
    (rectU j).emb (ix3 0 p n : S1x256x256.Idx) = (ix3 0 ⟨256 * (j % 4) + p, by omega⟩ n : S1x1024x256.Idx) :=
  funext fun e => by
    match e with
    | ⟨0, _⟩ => exact Fin.ext (by show 0 + 1 * 0 = 0; omega)
    | ⟨1, _⟩ => exact Fin.ext (by show 256 * (j % 4) + 1 * p.val = 256 * (j % 4) + p.val; omega)
    | ⟨2, _⟩ => exact Fin.ext (by show 0 + 1 * n.val = n.val; omega)

theorem rectS_emb (ch : ℕ) (p : Fin 256) (n : Fin 128) :
    (rectS ch).emb (ix3 0 p n : S1x256x128.Idx) = (ix3 ⟨ch % 4, by omega⟩ p n : S4x256x128.Idx) :=
  funext fun e => by
    match e with
    | ⟨0, _⟩ => exact Fin.ext (by show ch % 4 + 1 * 0 = ch % 4; omega)
    | ⟨1, _⟩ => exact Fin.ext (by show 0 + 1 * p.val = p.val; omega)
    | ⟨2, _⟩ => exact Fin.ext (by show 0 + 1 * n.val = n.val; omega)

theorem everySecond_idx (q ch : ℕ) (p n : Fin 128) :
    (everySecond q ch).idx (ix3 0 p n : S1x128x128.Idx) = (ix3 ⟨ch % 4, by omega⟩ ⟨q % 2 + 2 * p, by omega⟩ n : S4x256x128.Idx) :=
  funext fun e => by
    match e with
    | ⟨0, _⟩ => exact Fin.ext (by show ch % 4 + 1 * 0 = ch % 4; omega)
    | ⟨1, _⟩ => exact Fin.ext (by show q % 2 + 2 * p.val = q % 2 + 2 * p.val; omega)
    | ⟨2, _⟩ => exact Fin.ext (by show 0 + 1 * n.val = n.val; omega)

theorem rectF_emb (j q ch : ℕ) (p n : Fin 128) :
    (rectF j q ch).emb (ix5 0 0 0 p n : S1x1x1x128x128.Idx)
      = (ix5 0 ⟨q % 2, by omega⟩ ⟨ch % 4 / 2, by omega⟩ ⟨128 * (j % 4) + p, by omega⟩ ⟨128 * (ch % 2) + n, by omega⟩ : S1x2x2x512x256.Idx) :=
  funext fun e => by
    match e with
    | ⟨0, _⟩ => exact Fin.ext (by show 0 + 1 * 0 = 0; omega)
    | ⟨1, _⟩ => exact Fin.ext (by show q % 2 + 1 * 0 = q % 2; omega)
    | ⟨2, _⟩ => exact Fin.ext (by show ch % 4 / 2 + 1 * 0 = ch % 4 / 2; omega)
    | ⟨3, _⟩ => exact Fin.ext (by show 128 * (j % 4) + 1 * p.val = 128 * (j % 4) + p.val; omega)
    | ⟨4, _⟩ => exact Fin.ext (by show 128 * (ch % 2) + 1 * n.val = 128 * (ch % 2) + n.val; omega)

/-! ## Payloads at any of their indices -/

theorem idx_rows (x : S1x1x1x64x256.Idx) : ∃ (d : Fin 64) (p : Fin 256), x = ix5 0 0 0 d p :=
  ⟨x 3, x 4, funext fun a => by
    match a with
    | ⟨0, _⟩ => exact Fin.ext (by have := (x 0).isLt; change (x 0).val < 1 at this; show (x 0).val = 0; omega)
    | ⟨1, _⟩ => exact Fin.ext (by have := (x 1).isLt; change (x 1).val < 1 at this; show (x 1).val = 0; omega)
    | ⟨2, _⟩ => exact Fin.ext (by have := (x 2).isLt; change (x 2).val < 1 at this; show (x 2).val = 0; omega)
    | ⟨3, _⟩ => rfl
    | ⟨4, _⟩ => rfl⟩

theorem idx_ones (x : S1x1x1x16x256.Idx) : ∃ (d : Fin 16) (p : Fin 256), x = ix5 0 0 0 d p :=
  ⟨x 3, x 4, funext fun a => by
    match a with
    | ⟨0, _⟩ => exact Fin.ext (by have := (x 0).isLt; change (x 0).val < 1 at this; show (x 0).val = 0; omega)
    | ⟨1, _⟩ => exact Fin.ext (by have := (x 1).isLt; change (x 1).val < 1 at this; show (x 1).val = 0; omega)
    | ⟨2, _⟩ => exact Fin.ext (by have := (x 2).isLt; change (x 2).val < 1 at this; show (x 2).val = 0; omega)
    | ⟨3, _⟩ => rfl
    | ⟨4, _⟩ => rfl⟩

theorem idx_four (x : S1x1x1x128x128.Idx) : ∃ (d : Fin 128) (p : Fin 128), x = ix5 0 0 0 d p :=
  ⟨x 3, x 4, funext fun a => by
    match a with
    | ⟨0, _⟩ => exact Fin.ext (by have := (x 0).isLt; change (x 0).val < 1 at this; show (x 0).val = 0; omega)
    | ⟨1, _⟩ => exact Fin.ext (by have := (x 1).isLt; change (x 1).val < 1 at this; show (x 1).val = 0; omega)
    | ⟨2, _⟩ => exact Fin.ext (by have := (x 2).isLt; change (x 2).val < 1 at this; show (x 2).val = 0; omega)
    | ⟨3, _⟩ => rfl
    | ⟨4, _⟩ => rfl⟩

theorem idx_key (x : S1x256x128.Idx) : ∃ (p : Fin 256) (n : Fin 128), x = ix3 0 p n :=
  ⟨x 1, x 2, funext fun a => by
    match a with
    | ⟨0, _⟩ => exact Fin.ext (by have := (x 0).isLt; change (x 0).val < 1 at this; show (x 0).val = 0; omega)
    | ⟨1, _⟩ => rfl
    | ⟨2, _⟩ => rfl⟩

theorem idx_pool (x : S1x256x256.Idx) : ∃ (p : Fin 256) (n : Fin 256), x = ix3 0 p n :=
  ⟨x 1, x 2, funext fun a => by
    match a with
    | ⟨0, _⟩ => exact Fin.ext (by have := (x 0).isLt; change (x 0).val < 1 at this; show (x 0).val = 0; omega)
    | ⟨1, _⟩ => rfl
    | ⟨2, _⟩ => rfl⟩

/-! ## The blocks -/

section
variable (zt : ℕ → FVec Ideal S640x256 .f32) (zr : ℕ → FVec Ideal S256x640 .f32) (tab : ℕ → Vec Ideal S128x256 .f32)
variable (hm : Vec Ideal S128x128 .bf16) (kg : Vec Ideal S1x128 .f32) (tc ts : ℕ → Vec Ideal S256x128 .f32) (ab : Vec Ideal S256x512 .bf16)

theorem mem_listQ (n : ℕ) (q : View.Piece (Elt Ideal) S1x4x8x128x256 .bf16) :
    q ∈ listQ zt tab n ↔ ∃ i < n, q = ⟨rectQ (i / 8) i (1 - i % 8 / 4), k0_pay14 (F := Ideal)⟩
      ∨ q = ⟨rectQ (i / 8) i (i % 8 / 4), qRows (tab (i / 8)) (qPart (zt (i / 8)) i)⟩ := by
  unfold listQ
  exact mem_rec₂ _ _ n q

theorem mem_listV (n : ℕ) (q : View.Piece (Elt Ideal) S1x2x4x80x256 .bf16) :
    q ∈ listV zt n ↔ ∃ i < n, q = ⟨rectO (i / 2) i, k0_pay46 (F := Ideal)⟩ ∨ q = ⟨rectV (i / 2) i, vRows (zt (i / 2)) i⟩ := by
  unfold listV
  exact mem_rec₂ _ _ n q

theorem mem_listK (n : ℕ) (q : View.Piece (Elt Ideal) S1x1024x128 .bf16) :
    q ∈ listK zr hm kg tc ts n ↔ ∃ j < n, q = ⟨rectK j, kRows (zr j) hm kg (tc j) (ts j)⟩ := by
  unfold listK
  exact mem_rec₁ _ n q

theorem mem_listU (n : ℕ) (q : View.Piece (Elt Ideal) S1x1024x256 .f32) :
    q ∈ listU zr n ↔ ∃ j < n, q = ⟨rectU j, k0_pay51 (zr j)⟩ := by
  unfold listU
  exact mem_rec₁ _ n q

theorem mem_listF (vs : View sig .tc .vmem S4x256x128 .f32) (n : ℕ) (q : View.Piece (Elt Ideal) S1x2x2x512x256 .bf16) :
    q ∈ listF zr ab vs n ↔ ∃ i < n, q = ⟨rectF (i / 8) (i / 4) i,
      k0_pay58 (vs.readCov (listS zr ab (4 * (i / 8) + 4)) (everySecond (i / 4) i))⟩ := by
  unfold listF
  exact mem_rec₁ _ n q

/-- The queries' block as a function of its indices. -/
def blockQ : Vec Ideal S1x4x8x128x256 .bf16 := fun y =>
  if (y 3).val / 64 = (y 2).val / 4 then
    qRows (tab (y 1).val) (qPart (zt (y 1).val) (y 2).val) (ix5 0 0 0 ⟨(y 3).val % 64, by omega⟩ (y 4)) else 0

theorem qPart_mod (z : FVec Ideal S640x256 .f32) (h : ℕ) : qPart z (h % 8) = qPart z h := by
  funext x
  obtain ⟨d, p, rfl⟩ : ∃ (d : Fin 64) (p : Fin 256), x = ix2 d p := ⟨x 0, x 1, eq_ix2 x⟩
  rw [qPart_apply, qPart_apply]
  simp only [Nat.mod_mod]

theorem canon_queries (j : Fin 4) (h : Fin 8) (r : Fin 128) (p : Fin 256) :
    View.canon (listQ zt tab 32) (ix5 0 j h r p) = blockQ zt tab (ix5 0 j h r p) := by
  refine View.canon_apply_of_pieces (blockQ zt tab) _ (fun q hq => ?_) _ ?_
  · obtain ⟨i, hi, rfl | rfl⟩ := (mem_listQ zt tab _ _).1 hq
    · intro x
      change S1x1x1x64x256.Idx at x
      obtain ⟨d, p', rfl⟩ := idx_rows x
      show k0_pay14 (F := Ideal) (ix5 0 0 0 d p') = blockQ zt tab ((rectQ (i / 8) i (1 - i % 8 / 4)).emb (ix5 0 0 0 d p'))
      rw [rectQ_emb, zeros_apply, blockQ, if_neg]
      show ¬ (64 * ((1 - i % 8 / 4) % 2) + d.val) / 64 = i % 8 / 4
      omega
    · intro x
      change S1x1x1x64x256.Idx at x
      obtain ⟨d, p', rfl⟩ := idx_rows x
      show qRows (tab (i / 8)) (qPart (zt (i / 8)) i) (ix5 0 0 0 d p') = blockQ zt tab ((rectQ (i / 8) i (i % 8 / 4)).emb (ix5 0 0 0 d p'))
      have ej : i / 8 % 4 = i / 8 := by omega
      rw [rectQ_emb, blockQ, if_pos]
      · show _ = qRows (tab (i / 8 % 4)) (qPart (zt (i / 8 % 4)) (i % 8)) (ix5 0 0 0 ⟨(64 * (i % 8 / 4 % 2) + d.val) % 64, _⟩ p')
        have er : (64 * (i % 8 / 4 % 2) + d.val) % 64 = d.val := by omega
        simp only [ej, qPart_mod, er]
      · show (64 * (i % 8 / 4 % 2) + d.val) / 64 = i % 8 / 4
        omega
  · by_cases hr : r.val / 64 = h.val / 4
    · refine ⟨_, (mem_listQ zt tab _ _).2 ⟨8 * j + h, by omega, Or.inr rfl⟩, ?_⟩
      show (ix5 0 j h r p : S1x4x8x128x256.Idx) ∈ (rectQ ((8 * j.val + h.val) / 8) (8 * j.val + h.val) ((8 * j.val + h.val) % 8 / 4)).set
      unfold rectQ
      refine Rect.mem_set_unit.2 fun a => ?_
      match a with
      | ⟨0, _⟩ => show 0 ≤ 0 ∧ 0 < 0 + 1; omega
      | ⟨1, _⟩ => show (8 * j.val + h.val) / 8 % 4 ≤ j.val ∧ j.val < (8 * j.val + h.val) / 8 % 4 + 1; omega
      | ⟨2, _⟩ => show (8 * j.val + h.val) % 8 ≤ h.val ∧ h.val < (8 * j.val + h.val) % 8 + 1; omega
      | ⟨3, _⟩ => show 64 * ((8 * j.val + h.val) % 8 / 4 % 2) ≤ r.val ∧ r.val < 64 * ((8 * j.val + h.val) % 8 / 4 % 2) + 64; omega
      | ⟨4, _⟩ => show 0 ≤ p.val ∧ p.val < 0 + 256; omega
    · refine ⟨_, (mem_listQ zt tab _ _).2 ⟨8 * j + h, by omega, Or.inl rfl⟩, ?_⟩
      show (ix5 0 j h r p : S1x4x8x128x256.Idx) ∈ (rectQ ((8 * j.val + h.val) / 8) (8 * j.val + h.val) (1 - (8 * j.val + h.val) % 8 / 4)).set
      unfold rectQ
      refine Rect.mem_set_unit.2 fun a => ?_
      match a with
      | ⟨0, _⟩ => show 0 ≤ 0 ∧ 0 < 0 + 1; omega
      | ⟨1, _⟩ => show (8 * j.val + h.val) / 8 % 4 ≤ j.val ∧ j.val < (8 * j.val + h.val) / 8 % 4 + 1; omega
      | ⟨2, _⟩ => show (8 * j.val + h.val) % 8 ≤ h.val ∧ h.val < (8 * j.val + h.val) % 8 + 1; omega
      | ⟨3, _⟩ =>
        show 64 * ((1 - (8 * j.val + h.val) % 8 / 4) % 2) ≤ r.val ∧ r.val < 64 * ((1 - (8 * j.val + h.val) % 8 / 4) % 2) + 64
        omega
      | ⟨4, _⟩ => show 0 ≤ p.val ∧ p.val < 0 + 256; omega

/-- The values' block as a function of its indices. -/
def blockV : Vec Ideal S1x2x4x80x256 .bf16 := fun y =>
  if h : (y 3).val < 64 then vRows (zt (y 2).val) (y 1).val (ix5 0 0 0 ⟨(y 3).val, h⟩ (y 4)) else 1

theorem vRows_mod (z : FVec Ideal S640x256 .f32) (g : ℕ) : vRows z (g % 2) = vRows z g := by
  funext x
  obtain ⟨d, p, rfl⟩ := idx_rows x
  rw [vRows_apply, vRows_apply]
  simp only [Nat.mod_mod]

theorem canon_values (g : Fin 2) (j : Fin 4) (r : Fin 80) (p : Fin 256) :
    View.canon (listV zt 8) (ix5 0 g j r p) = blockV zt (ix5 0 g j r p) := by
  refine View.canon_apply_of_pieces (blockV zt) _ (fun q hq => ?_) _ ?_
  · obtain ⟨i, hi, rfl | rfl⟩ := (mem_listV zt _ _).1 hq
    · intro x
      change S1x1x1x16x256.Idx at x
      obtain ⟨d, p', rfl⟩ := idx_ones x
      show k0_pay46 (F := Ideal) (ix5 0 0 0 d p') = blockV zt ((rectO (i / 2) i).emb (ix5 0 0 0 d p'))
      rw [rectO_emb, ones_apply, blockV, dif_neg]
      show ¬ 64 + d.val < 64
      omega
    · intro x
      change S1x1x1x64x256.Idx at x
      obtain ⟨d, p', rfl⟩ := idx_rows x
      show vRows (zt (i / 2)) i (ix5 0 0 0 d p') = blockV zt ((rectV (i / 2) i).emb (ix5 0 0 0 d p'))
      have ej : i / 2 % 4 = i / 2 := by omega
      rw [rectV_emb, blockV]
      refine Eq.trans ?_ (dif_pos (show d.val < 64 from d.isLt)).symm
      show _ = vRows (zt (i / 2 % 4)) (i % 2) (ix5 0 0 0 ⟨d.val, _⟩ p')
      simp only [ej, vRows_mod]
  · by_cases hr : r.val < 64
    · refine ⟨_, (mem_listV zt _ _).2 ⟨2 * j + g, by omega, Or.inr rfl⟩, ?_⟩
      show (ix5 0 g j r p : S1x2x4x80x256.Idx) ∈ (rectV ((2 * j.val + g.val) / 2) (2 * j.val + g.val)).set
      unfold rectV
      refine Rect.mem_set_unit.2 fun a => ?_
      match a with
      | ⟨0, _⟩ => show 0 ≤ 0 ∧ 0 < 0 + 1; omega
      | ⟨1, _⟩ => show (2 * j.val + g.val) % 2 ≤ g.val ∧ g.val < (2 * j.val + g.val) % 2 + 1; omega
      | ⟨2, _⟩ => show (2 * j.val + g.val) / 2 % 4 ≤ j.val ∧ j.val < (2 * j.val + g.val) / 2 % 4 + 1; omega
      | ⟨3, _⟩ => show 0 ≤ r.val ∧ r.val < 0 + 64; omega
      | ⟨4, _⟩ => show 0 ≤ p.val ∧ p.val < 0 + 256; omega
    · refine ⟨_, (mem_listV zt _ _).2 ⟨2 * j + g, by omega, Or.inl rfl⟩, ?_⟩
      show (ix5 0 g j r p : S1x2x4x80x256.Idx) ∈ (rectO ((2 * j.val + g.val) / 2) (2 * j.val + g.val)).set
      unfold rectO
      refine Rect.mem_set_unit.2 fun a => ?_
      match a with
      | ⟨0, _⟩ => show 0 ≤ 0 ∧ 0 < 0 + 1; omega
      | ⟨1, _⟩ => show (2 * j.val + g.val) % 2 ≤ g.val ∧ g.val < (2 * j.val + g.val) % 2 + 1; omega
      | ⟨2, _⟩ => show (2 * j.val + g.val) / 2 % 4 ≤ j.val ∧ j.val < (2 * j.val + g.val) / 2 % 4 + 1; omega
      | ⟨3, _⟩ => show 64 ≤ r.val ∧ r.val < 64 + 16; omega
      | ⟨4, _⟩ => show 0 ≤ p.val ∧ p.val < 0 + 256; omega

/-- The keys' block as a function of its indices. -/
def blockK : Vec Ideal S1x1024x128 .bf16 := fun y =>
  kRows (zr ((y 1).val / 256)) hm kg (tc ((y 1).val / 256)) (ts ((y 1).val / 256)) (ix3 0 ⟨(y 1).val % 256, by omega⟩ (y 2))

theorem canon_keys (q : Fin 1024) (n : Fin 128) :
    View.canon (listK zr hm kg tc ts 4) (ix3 0 q n) = blockK zr hm kg tc ts (ix3 0 q n) := by
  refine View.canon_apply_of_pieces (blockK zr hm kg tc ts) _ (fun s hs => ?_) _ ?_
  · obtain ⟨j, hj, rfl⟩ := (mem_listK zr hm kg tc ts _ _).1 hs
    intro x
    change S1x256x128.Idx at x
    obtain ⟨p', n', rfl⟩ := idx_key x
    show kRows (zr j) hm kg (tc j) (ts j) (ix3 0 p' n') = blockK zr hm kg tc ts ((rectK j).emb (ix3 0 p' n'))
    have ej : (256 * (j % 4) + p'.val) / 256 = j := by omega
    have er : (256 * (j % 4) + p'.val) % 256 = p'.val := by omega
    rw [rectK_emb, blockK]
    show _ = kRows (zr ((256 * (j % 4) + p'.val) / 256)) hm kg (tc ((256 * (j % 4) + p'.val) / 256)) (ts ((256 * (j % 4) + p'.val) / 256))
      (ix3 0 ⟨(256 * (j % 4) + p'.val) % 256, _⟩ n')
    simp only [ej, er]
  · refine ⟨_, (mem_listK zr hm kg tc ts _ _).2 ⟨q / 256, by omega, rfl⟩, ?_⟩
    show (ix3 0 q n : S1x1024x128.Idx) ∈ (rectK (q.val / 256)).set
    unfold rectK
    refine Rect.mem_set_unit.2 fun a => ?_
    match a with
    | ⟨0, _⟩ => show 0 ≤ 0 ∧ 0 < 0 + 1; omega
    | ⟨1, _⟩ => show 256 * (q.val / 256 % 4) ≤ q.val ∧ q.val < 256 * (q.val / 256 % 4) + 256; omega
    | ⟨2, _⟩ => show 0 ≤ n.val ∧ n.val < 0 + 128; omega

/-- The pooling mixer's block as a function of its indices. -/
def blockU : Vec Ideal S1x1024x256 .f32 := fun y => k0_pay51 (zr ((y 1).val / 256)) (ix3 0 ⟨(y 1).val % 256, by omega⟩ (y 2))

theorem canon_pools (q : Fin 1024) (n : Fin 256) :
    View.canon (listU zr 4) (ix3 0 q n) = blockU zr (ix3 0 q n) := by
  refine View.canon_apply_of_pieces (blockU zr) _ (fun s hs => ?_) _ ?_
  · obtain ⟨j, hj, rfl⟩ := (mem_listU zr _ _).1 hs
    intro x
    change S1x256x256.Idx at x
    obtain ⟨p', n', rfl⟩ := idx_pool x
    show k0_pay51 (zr j) (ix3 0 p' n') = blockU zr ((rectU j).emb (ix3 0 p' n'))
    have ej : (256 * (j % 4) + p'.val) / 256 = j := by omega
    have er : (256 * (j % 4) + p'.val) % 256 = p'.val := by omega
    rw [rectU_emb, blockU]
    show _ = k0_pay51 (zr ((256 * (j % 4) + p'.val) / 256)) (ix3 0 ⟨(256 * (j % 4) + p'.val) % 256, _⟩ n')
    simp only [ej, er]
  · refine ⟨_, (mem_listU zr _ _).2 ⟨q / 256, by omega, rfl⟩, ?_⟩
    show (ix3 0 q n : S1x1024x256.Idx) ∈ (rectU (q.val / 256)).set
    unfold rectU
    refine Rect.mem_set_unit.2 fun a => ?_
    match a with
    | ⟨0, _⟩ => show 0 ≤ 0 ∧ 0 < 0 + 1; omega
    | ⟨1, _⟩ => show 256 * (q.val / 256 % 4) ≤ q.val ∧ q.val < 256 * (q.val / 256 % 4) + 256; omega
    | ⟨2, _⟩ => show 0 ≤ n.val ∧ n.val < 0 + 256; omega

theorem fPart_mod (r : FVec Ideal S256x640 .f32) (ch : ℕ) : fPart r ab (ch % 4) = fPart r ab ch := by
  funext x
  obtain ⟨p, n, rfl⟩ := idx_key x
  rw [fPart_apply, fPart_apply]
  simp only [Nat.mod_mod]

/-- The scratch array holds the latest four stores. -/
theorem canon_scratch (n i : ℕ) (hi : i < n) (hn : n ≤ i + 4) (q : Fin 256) (c : Fin 128) :
    View.canon (listS zr ab n) (ix3 ⟨i % 4, by omega⟩ q c) = fPart (zr (i / 4)) ab i (ix3 0 q c) := by
  induction n with
  | zero => omega
  | succ n ih =>
    show View.canon (⟨rectS n, fPart (zr (n / 4)) ab n⟩ :: listS zr ab n) _ = _
    by_cases e : i = n
    · subst e
      rw [← rectS_emb i q c]
      exact View.canon_cons_emb (rectS i) _ _ (ix3 0 q c : S1x256x128.Idx)
    · rw [View.canon_cons_of_not_mem]
      · exact ih (by omega) (by omega)
      · intro hm
        have h0 := Rect.mem_set_unit.1 (show (ix3 ⟨i % 4, by omega⟩ q c : S4x256x128.Idx) ∈ (rectS n).set from hm) 0
        change n % 4 ≤ i % 4 ∧ i % 4 < n % 4 + 1 at h0
        omega

/-- The rows read back from the scratch array. -/
theorem read_scratch (vs : View sig .tc .vmem S4x256x128 .f32) (j par ch : ℕ) (p n : Fin 128) :
    vs.readCov (listS zr ab (4 * j + 4)) (everySecond par ch) (ix3 0 p n : S1x128x128.Idx)
      = fPart (zr j) ab ch (ix3 0 ⟨par % 2 + 2 * p, by omega⟩ n) := by
  rw [View.readCov_eq_canon']
  refine (congrArg (View.canon (listS zr ab (4 * j + 4))) (everySecond_idx par ch p n)).trans ?_
  have e := canon_scratch zr ab (4 * j + 4) (4 * j + ch % 4) (by omega) (by omega) ⟨par % 2 + 2 * p, by omega⟩ n
  have e1 : (4 * j + ch % 4) % 4 = ch % 4 := by omega
  have e2 : (4 * j + ch % 4) / 4 = j := by omega
  rw [← fPart_mod ab (zr ((4 * j + ch % 4) / 4))] at e
  simp only [e1, e2] at e
  rw [fPart_mod] at e
  exact e

/-- The Fourier mixer's block as a function of its indices. -/
def blockF : Vec Ideal S1x2x2x512x256 .bf16 := fun y =>
  fPart (zr ((y 3).val / 128)) ab (2 * (y 2).val + (y 4).val / 128)
    (ix3 0 ⟨(y 1).val + 2 * ((y 3).val % 128), by have := (y 1).isLt; change (y 1).val < 2 at this; omega⟩ ⟨(y 4).val % 128, by omega⟩)

theorem canon_fouriers (vs : View sig .tc .vmem S4x256x128 .f32) (par w : Fin 2) (r : Fin 512) (n : Fin 256) :
    View.canon (listF zr ab vs 32) (ix5 0 par w r n) = blockF zr ab (ix5 0 par w r n) := by
  refine View.canon_apply_of_pieces (blockF zr ab) _ (fun s hs => ?_) _ ?_
  · obtain ⟨i, hi, rfl⟩ := (mem_listF zr ab vs _ _).1 hs
    intro x
    change S1x1x1x128x128.Idx at x
    obtain ⟨p', n', rfl⟩ := idx_four x
    show k0_pay58 (vs.readCov (listS zr ab (4 * (i / 8) + 4)) (everySecond (i / 4) i)) (ix5 0 0 0 p' n') = blockF zr ab ((rectF (i / 8) (i / 4) i).emb (ix5 0 0 0 p' n'))
    have ej : (128 * (i / 8 % 4) + p'.val) / 128 = i / 8 := by omega
    have er : (128 * (i / 8 % 4) + p'.val) % 128 = p'.val := by omega
    have ec : 2 * (i % 4 / 2) + (128 * (i % 2) + n'.val) / 128 = i % 4 := by omega
    have en : (128 * (i % 2) + n'.val) % 128 = n'.val := by omega
    rw [rectF_emb, blockF]
    refine (picked_apply _ p' n').trans ((read_scratch zr ab vs (i / 8) (i / 4) i p' n').trans ?_)
    show _ = fPart (zr ((128 * (i / 8 % 4) + p'.val) / 128)) ab (2 * (i % 4 / 2) + (128 * (i % 2) + n'.val) / 128)
      (ix3 0 ⟨i / 4 % 2 + 2 * ((128 * (i / 8 % 4) + p'.val) % 128), _⟩ ⟨(128 * (i % 2) + n'.val) % 128, _⟩)
    simp only [ej, er, ec, en, fPart_mod]
  · refine ⟨_, (mem_listF zr ab vs _ _).2 ⟨8 * (r / 128) + 4 * par + 2 * w + n / 128, by omega, rfl⟩, ?_⟩
    show (ix5 0 par w r n : S1x2x2x512x256.Idx) ∈ (rectF ((8 * (r.val / 128) + 4 * par.val + 2 * w.val + n.val / 128) / 8) ((8 * (r.val / 128) + 4 * par.val + 2 * w.val + n.val / 128) / 4) (8 * (r.val / 128) + 4 * par.val + 2 * w.val + n.val / 128)).set
    unfold rectF
    refine Rect.mem_set_unit.2 fun a => ?_
    have hd : (8 * (r.val / 128) + 4 * par.val + 2 * w.val + n.val / 128) / 8 = r.val / 128 := by omega
    match a with
    | ⟨0, _⟩ => show 0 ≤ 0 ∧ 0 < 0 + 1; omega
    | ⟨1, _⟩ =>
      show (8 * (r.val / 128) + 4 * par.val + 2 * w.val + n.val / 128) / 4 % 2 ≤ par.val
        ∧ par.val < (8 * (r.val / 128) + 4 * par.val + 2 * w.val + n.val / 128) / 4 % 2 + 1
      omega
    | ⟨2, _⟩ =>
      show (8 * (r.val / 128) + 4 * par.val + 2 * w.val + n.val / 128) % 4 / 2 ≤ w.val
        ∧ w.val < (8 * (r.val / 128) + 4 * par.val + 2 * w.val + n.val / 128) % 4 / 2 + 1
      omega
    | ⟨3, _⟩ =>
      show 128 * ((8 * (r.val / 128) + 4 * par.val + 2 * w.val + n.val / 128) / 8 % 4) ≤ r.val
        ∧ r.val < 128 * ((8 * (r.val / 128) + 4 * par.val + 2 * w.val + n.val / 128) / 8 % 4) + 128
      omega
    | ⟨4, _⟩ =>
      show 128 * ((8 * (r.val / 128) + 4 * par.val + 2 * w.val + n.val / 128) % 2) ≤ n.val
        ∧ n.val < 128 * ((8 * (r.val / 128) + 4 * par.val + 2 * w.val + n.val / 128) % 2) + 128
      omega

end

end Cert.InProjIdeal.Chain

end

end
-- ==== Proof.InProjHost.lean ====
module

public import proofs.«01_k».proof.Proof.Gen.InProjIdeal
public import Idealize.ShloMosaic.Lib.IdealHost
public import Idealize.ShloMosaic.Lib.Pipeline.ValueKit
public import Idealize.ShloMosaic.Lib.Pointwise

@[expose] public section

/-! # The input projection's operands, as the host prepares them

The projection's columns are parted into those wanted as rows (queries and values) and those wanted as columns; the
Fourier mixer's blocks become one block diagonal matrix, as does the mean of a head's squares; the rotary factors are
laid out once per lane for the keys and, with the gain and the softmax's factor, once per row for the queries. -/

noncomputable section

namespace Cert.InProjIdeal.Host

open Cert.InProjIdeal Cert.InProjIdeal.Gen Idealize Idealize.ShloMosaic

variable {F : FTy → Type} [FloatOps F]

/-- The columns of the queries and the values, as rows. -/
def wT (w : Vec F S1024x1280 .f32) : Vec F S640x1024 .f32 :=
  transpose S640x1024 [1, 0] (concatenate S1024x640 1
    [⟨S1024x512, extractStridedSlice S1024x512 ![0, 0] w slices_S1024x1280_S1024x512_0_0⟩,
      ⟨S1024x128, extractStridedSlice S1024x128 ![0, 640] w slices_S1024x1280_S1024x128_0_640⟩]
    concatenates_S1024x512_S1024x128_S1024x640_d1) transposes_S1024x640_S640x1024_1_0

/-- The columns of the keys, the pooling mixer and the Fourier mixer. -/
def wR (w : Vec F S1024x1280 .f32) : Vec F S1024x640 .f32 :=
  concatenate S1024x640 1
    [⟨S1024x128, extractStridedSlice S1024x128 ![0, 512] w slices_S1024x1280_S1024x128_0_512⟩,
      ⟨S1024x512, extractStridedSlice S1024x512 ![0, 768] w slices_S1024x1280_S1024x512_0_768⟩]
    concatenates_S1024x128_S1024x512_S1024x640_d1

/-- Ones on the diagonal. -/
def eye4 : Vec F S4x4 .f32 :=
  uitofp .f32 (cmpi .eq (addi (iotaInDim S4x4 32 0) (broadcastInDim S4x4 ![] bcast_S_S4x4 (constantI S_ 32 0#32))) (iotaInDim S4x4 32 1))

/-- Ones on the diagonal. -/
def eye2 : Vec F S2x2 .f32 :=
  uitofp .f32 (cmpi .eq (addi (iotaInDim S2x2 32 0) (broadcastInDim S2x2 ![] bcast_S_S2x2 (constantI S_ 32 0#32))) (iotaInDim S2x2 32 1))

/-- Four blocks as one block diagonal matrix. -/
def diag4 (g : Vec F S4x64x64 .f32) : Vec F S256x256 .f32 :=
  shapeCast S256x256 (mulf
    (broadcastInDim S4x64x4x64 ![0, 1, 2, 3] bcast_S4x1x4x1_S4x64x4x64_0_1_2_3
      (broadcastInDim S4x1x4x1 ![0, 2] bcast_S4x4_S4x1x4x1_0_2 eye4))
    (broadcastInDim S4x64x4x64 ![0, 1, 2, 3] bcast_S4x64x1x64_S4x64x4x64_0_1_2_3
      (broadcastInDim S4x64x1x64 ![0, 1, 3] bcast_S4x64x64_S4x64x1x64_0_1_3 g))) shapeCasts_S4x64x4x64_S256x256

/-- The Fourier mixer's weights: the real part's and the imaginary part's side by side. -/
def wF (gr gi : Vec F S4x64x64 .f32) : Vec F S256x512 .f32 :=
  concatenate S256x512 1 [⟨S256x256, diag4 gr⟩, ⟨S256x256, diag4 gi⟩] concatenates_S256x256_S256x256_S256x512_d1

/-- The mean over a head's lanes. -/
def meanM : Vec F S128x128 .f32 :=
  shapeCast S128x128 (mulf
    (broadcastInDim S2x64x2x64 ![0, 1, 2, 3] bcast_S2x1x2x1_S2x64x2x64_0_1_2_3
      (broadcastInDim S2x1x2x1 ![0, 2] bcast_S2x2_S2x1x2x1_0_2 eye2))
    (broadcastInDim S2x64x2x64 ![0, 1, 2, 3] bcast_S2x64x1x64_S2x64x2x64_0_1_2_3
      (broadcastInDim S2x64x1x64 ![0, 1, 3] bcast_S2x64x64_S2x64x1x64_0_1_3
        (broadcastInDim S2x64x64 ![] bcast_S_S2x64x64 (constant S_ .f32 0x3C800000#32))))) shapeCasts_S2x64x2x64_S128x128

/-- The keys' gain, for both heads. -/
def gainK (g : Vec F S64 .f32) : Vec F S1x128 .f32 :=
  shapeCast S1x128 (shapeCast S128 (broadcastInDim S2x64 ![0, 1] bcast_S1x64_S2x64_0_1 (shapeCast S1x64 g shapeCasts_S64_S1x64))
    shapeCasts_S2x64_S128) shapeCasts_S128_S1x128

/-- The hidden row's gain as a row. -/
def rowG (g : Vec F S1024 .f32) : Vec F S1x1024 .f32 := shapeCast S1x1024 g shapeCasts_S1024_S1x1024

/-- One head's factors for both heads. -/
def both (x : Vec F S4096x2x32 .f32) : Vec F S4096x128 .f32 :=
  shapeCast S4096x128 (broadcastInDim S1x4096x2x64 ![0, 1, 2, 3] bcast_S1x4096x1x64_S1x4096x2x64_0_1_2_3
    (shapeCast S1x4096x1x64 (shapeCast S4096x64 x shapeCasts_S4096x2x32_S4096x64) shapeCasts_S4096x64_S1x4096x1x64))
    shapeCasts_S1x4096x2x64_S4096x128

/-- The cosines, once for each half. -/
def cosK (c : Vec F S4096x2x16 .f32) : Vec F S4096x2x32 .f32 :=
  concatenate S4096x2x32 2 [⟨S4096x2x16, c⟩, ⟨S4096x2x16, c⟩] concatenates_S4096x2x16_S4096x2x16_S4096x2x32_d2

/-- The sines, the first half's negated. -/
def sinK (s : Vec F S4096x2x16 .f32) : Vec F S4096x2x32 .f32 :=
  concatenate S4096x2x32 2 [⟨S4096x2x16, Host.negf s⟩, ⟨S4096x2x16, s⟩] concatenates_S4096x2x16_S4096x2x16_S4096x2x32_d2

/-- The queries' gain with the softmax's factor. -/
def gainQ (g : Vec F S64 .f32) : Vec F S2x2x16 .f32 :=
  shapeCast S2x2x16 (mulf g (broadcastInDim S64 ![] bcast_S_S64 (constant S_ .f32 0x3E38AA3B#32))) shapeCasts_S64_S2x2x16

/-- The gain of the first half of each segment. -/
def gainA (g : Vec F S64 .f32) : Vec F S2x16x1 .f32 :=
  broadcastInDim S2x16x1 ![0, 1] bcast_S2x16_S2x16x1_0_1
    (shapeCast S2x16 (extractStridedSlice S2x1x16 ![0, 0, 0] (gainQ g) slices_S2x2x16_S2x1x16_0_0_0) shapeCasts_S2x1x16_S2x16)

/-- The gain of the second half of each segment. -/
def gainB (g : Vec F S64 .f32) : Vec F S2x16x1 .f32 :=
  broadcastInDim S2x16x1 ![0, 1] bcast_S2x16_S2x16x1_0_1
    (shapeCast S2x16 (extractStridedSlice S2x1x16 ![0, 1, 0] (gainQ g) slices_S2x2x16_S2x1x16_0_1_0) shapeCasts_S2x1x16_S2x16)

/-- A gain times a table of factors. -/
def factor (g : Vec F S2x16x1 .f32) (x : Vec F S4096x2x16 .f32) : Vec F S2x1x16x4096 .f32 :=
  broadcastInDim S2x1x16x4096 ![0, 2, 3] bcast_S2x16x4096_S2x1x16x4096_0_2_3
    (mulf (broadcastInDim S2x16x4096 ![0, 1, 2] bcast_S2x16x1_S2x16x4096_0_1_2 g)
      (transpose S2x16x4096 [1, 2, 0] x transposes_S4096x2x16_S2x16x4096_1_2_0))

/-- Four tables of sixteen rows for each segment, one under the other. -/
def stack (w x y z : Vec F S2x1x16x4096 .f32) : Vec F S128x4096 .f32 :=
  shapeCast S128x4096 (concatenate S2x4x16x4096 1
    [⟨S2x1x16x4096, w⟩, ⟨S2x1x16x4096, x⟩, ⟨S2x1x16x4096, y⟩, ⟨S2x1x16x4096, z⟩]
    concatenates_S2x1x16x4096_S2x1x16x4096_S2x1x16x4096_S2x1x16x4096_S2x4x16x4096_d1) shapeCasts_S2x4x16x4096_S128x4096

/-- The queries' table: for each segment four groups of sixteen rows. -/
def tabQ (g : Vec F S64 .f32) (c s : Vec F S4096x2x16 .f32) : Vec F S128x4096 .f32 :=
  stack (factor (gainA g) c) (factor (gainB g) s) (factor (gainB g) c) (factor (gainA g) s)

/-! ## Their elements -/

theorem rowG_apply (g : Vec Ideal S1024 .f32) (k : Fin 1024) : rowG g (ix2 0 k) = g (ix1 k) := by
  unfold rowG
  pointwise

theorem wT_query (w : Vec Ideal S1024x1280 .f32) (n : Fin 512) (k : Fin 1024) :
    wT w (ix2 ⟨n, by omega⟩ k) = w (ix2 k ⟨n, by omega⟩) := by
  unfold wT
  pointwise

theorem wT_value (w : Vec Ideal S1024x1280 .f32) (n : Fin 128) (k : Fin 1024) :
    wT w (ix2 ⟨512 + n, by omega⟩ k) = w (ix2 k ⟨640 + n, by omega⟩) := by
  unfold wT
  pointwise

theorem wR_key (w : Vec Ideal S1024x1280 .f32) (n : Fin 128) (k : Fin 1024) :
    wR w (ix2 k ⟨n, by omega⟩) = w (ix2 k ⟨512 + n, by omega⟩) := by
  unfold wR
  pointwise

theorem wR_rest (w : Vec Ideal S1024x1280 .f32) (n : Fin 512) (k : Fin 1024) :
    wR w (ix2 k ⟨128 + n, by omega⟩) = w (ix2 k ⟨768 + n, by omega⟩) := by
  unfold wR
  pointwise

/-- A comparison's bit as a number. -/
theorem uitofp_bit (p : Prop) [Decidable p] : (FloatOps.uitofp .f32 (if p then 1#1 else 0#1) : Ideal .f32) = if p then 1 else 0 := by
  split
  · show ((((1#1 : BitVec 1).toNat : ℝ)) : EReal) = 1
    norm_num
  · show ((((0#1 : BitVec 1).toNat : ℝ)) : EReal) = 0
    norm_num

theorem eye4_apply (a b : Fin 4) : eye4 (F := Ideal) (ix2 a b) = if a = b then 1 else 0 := by
  unfold eye4
  pointwise
  refine Eq.trans (congrArg _ ?_) (uitofp_bit (a = b))
  revert a b
  decide +kernel

theorem eye2_apply (a b : Fin 2) : eye2 (F := Ideal) (ix2 a b) = if a = b then 1 else 0 := by
  unfold eye2
  pointwise
  refine Eq.trans (congrArg _ ?_) (uitofp_bit (a = b))
  revert a b
  decide +kernel

theorem diag4_apply (g : Vec Ideal S4x64x64 .f32) (a b : Fin 256) :
    diag4 g (ix2 a b) = eye4 (F := Ideal) (ix2 ⟨a / 64, by omega⟩ ⟨b / 64, by omega⟩) * g (ix3 ⟨a / 64, by omega⟩ ⟨a % 64, by omega⟩ ⟨b % 64, by omega⟩) := by
  unfold diag4
  pointwise

theorem meanM_apply (a b : Fin 128) :
    meanM (F := Ideal) (ix2 a b) = eye2 (F := Ideal) (ix2 ⟨a / 64, by omega⟩ ⟨b / 64, by omega⟩) * Ideal.ofBits .f32 0x3C800000#32 := by
  unfold meanM
  pointwise

theorem gainK_apply (g : Vec Ideal S64 .f32) (n : Fin 128) : gainK g (ix2 0 n) = g (ix1 ⟨n % 64, by omega⟩) := by
  unfold gainK
  pointwise

theorem both_apply (x : Vec Ideal S4096x2x32 .f32) (p : Fin 4096) (n : Fin 128) :
    both x (ix2 p n) = x (ix3 p ⟨n % 64 / 32, by omega⟩ ⟨n % 32, by omega⟩) := by
  unfold both
  pointwise
  exact congrArg x (congrArg (ix3 p _) (Fin.ext (by show n.val % 64 % 32 = n.val % 32; omega)))

theorem gainA_apply (g : Vec Ideal S64 .f32) (a : Fin 2) (f : Fin 16) :
    gainA g (ix3 a f 0) = g (ix1 ⟨a * 32 + f, by omega⟩) * Ideal.ofBits .f32 0x3E38AA3B#32 := by
  unfold gainA gainQ
  pointwise

theorem gainB_apply (g : Vec Ideal S64 .f32) (a : Fin 2) (f : Fin 16) :
    gainB g (ix3 a f 0) = g (ix1 ⟨a * 32 + 16 + f, by omega⟩) * Ideal.ofBits .f32 0x3E38AA3B#32 := by
  unfold gainB gainQ
  pointwise

theorem factor_apply (g : Vec Ideal S2x16x1 .f32) (x : Vec Ideal S4096x2x16 .f32) (a : Fin 2) (f : Fin 16) (p : Fin 4096) :
    factor g x (ix4 a 0 f p) = g (ix3 a f 0) * x (ix3 p a f) := by
  unfold factor
  pointwise

theorem cosK_low (c : Vec Ideal S4096x2x16 .f32) (p : Fin 4096) (a : Fin 2) (f : Fin 16) :
    cosK c (ix3 p a ⟨f, by omega⟩) = c (ix3 p a f) := by
  unfold cosK
  pointwise

theorem cosK_high (c : Vec Ideal S4096x2x16 .f32) (p : Fin 4096) (a : Fin 2) (f : Fin 16) :
    cosK c (ix3 p a ⟨16 + f, by omega⟩) = c (ix3 p a f) := by
  unfold cosK
  pointwise

theorem sinK_low (s : Vec Ideal S4096x2x16 .f32) (p : Fin 4096) (a : Fin 2) (f : Fin 16) :
    sinK s (ix3 p a ⟨f, by omega⟩) = -s (ix3 p a f) := by
  unfold sinK
  pointwise

theorem sinK_high (s : Vec Ideal S4096x2x16 .f32) (p : Fin 4096) (a : Fin 2) (f : Fin 16) :
    sinK s (ix3 p a ⟨16 + f, by omega⟩) = s (ix3 p a f) := by
  unfold sinK
  pointwise

theorem wF_real (gr gi : Vec Ideal S4x64x64 .f32) (a b : Fin 256) :
    wF gr gi (ix2 a ⟨b, by omega⟩) = diag4 gr (ix2 a b) := by
  unfold wF
  generalize diag4 gr = x
  generalize diag4 gi = y
  pointwise

theorem wF_imag (gr gi : Vec Ideal S4x64x64 .f32) (a b : Fin 256) :
    wF gr gi (ix2 a ⟨256 + b, by omega⟩) = diag4 gi (ix2 a b) := by
  unfold wF
  generalize diag4 gr = x
  generalize diag4 gi = y
  pointwise

theorem stack_apply (w x y z : Vec Ideal S2x1x16x4096 .f32) (a : Fin 2) (f : Fin 16) (q : Fin 4) (p : Fin 4096) :
    stack w x y z (ix2 ⟨64 * a + 16 * q + f, by omega⟩ p) = ![w, x, y, z] q (ix4 a 0 f p) := by
  unfold stack
  pointwise
  fin_cases q <;> rfl

end Cert.InProjIdeal.Host

end

end
-- ==== Proof.InProjOut.lean ====
module

public import proofs.«01_k».proof.Proof.InProjBlock
public import proofs.«01_k».proof.Proof.InProjHost

@[expose] public section

/-! # The input projection's outputs, from its arguments -/

noncomputable section

namespace Cert.InProjIdeal.Chain

open Cert.InProjIdeal Cert.InProjIdeal.Gen Cert.InProjMath Idealize Idealize.ShloMosaic Idealize.ShloMosaic.TcCoe

/-! ## The outputs -/

section
variable (X : Vec Ideal S16x4096x1024 .f32) (SH SC : Vec Ideal S16x1x1024 .f32) (G : Vec Ideal S1024 .f32) (W : Vec Ideal S1024x1280 .f32)
variable (QG KG : Vec Ideal S64 .f32) (C S : Vec Ideal S4096x2x16 .f32) (GR GI : Vec Ideal S4x64x64 .f32)

/-- The modulated token `p` of batch `b`. -/
def modulated (b : Fin 16) (p : Fin 4096) : Fin 1024 → EReal :=
  FfnMath.normed (fun k => X (ix3 b p k)) (fun k => G (ix1 k)) (fun k => SC (ix3 b 0 k)) (fun k => SH (ix3 b 0 k))

/-- Column `n` of the projection of token `p` of batch `b`. -/
def projected (b : Fin 16) (p : Fin 4096) (n : Fin 1280) : EReal := ∑ k, modulated X SH SC G b p k * W (ix2 k n)

/-- Head `h`'s query at token `p`: normalized, turned and with the softmax's factor. -/
def queryAt (b : Fin 16) (p : Fin 4096) (h : Fin 8) (d : Fin 64) : EReal :=
  head (fun i => projected X SH SC G W b p ⟨64 * h + i, by omega⟩) (fun d => QG (ix1 d)) (fun a f => C (ix3 p a f))
    (fun a f => S (ix3 p a f)) d * scale

/-- The queries: each head's in its group's half of the rows. -/
def queriesAt (b j : Fin 16) (h : Fin 8) (r : Fin 128) (p : Fin 256) : EReal :=
  if r.val / 64 = h.val / 4 then queryAt X SH SC G W QG C S b ⟨256 * j + p, by omega⟩ h ⟨r % 64, by omega⟩ else 0

/-- The keys. -/
def keysAt (b : Fin 16) (p : Fin 4096) (n : Fin 128) : EReal :=
  head (fun i => projected X SH SC G W b p ⟨512 + (64 * (n / 64) + i), by omega⟩) (fun d => KG (ix1 d)) (fun a f => C (ix3 p a f))
    (fun a f => S (ix3 p a f)) ⟨n % 64, by omega⟩

/-- The values and the rows of ones. -/
def valuesAt (b : Fin 16) (g : Fin 2) (j : Fin 16) (r : Fin 80) (p : Fin 256) : EReal :=
  if h : r.val < 64 then projected X SH SC G W b ⟨256 * j + p, by omega⟩ ⟨640 + (64 * g + r), by omega⟩ else 1

/-- The pooling mixer's columns. -/
def poolsAt (b : Fin 16) (p : Fin 4096) (n : Fin 256) : EReal := projected X SH SC G W b p ⟨768 + n, by omega⟩

/-- The Fourier mixer's columns of the tokens of one parity. -/
def fouriersAt (b : Fin 16) (par w : Fin 2) (r : Fin 2048) (n : Fin 256) : EReal :=
  ∑ k : Fin 64, projected X SH SC G W b ⟨par + 2 * r, by omega⟩ ⟨1024 + (64 * (n / 64) + k), by omega⟩
    * (if w = 0 then GR else GI) (ix3 ⟨n / 64, by omega⟩ k ⟨n % 64, by omega⟩)

/-! ## One grid point's blocks -/

variable (b : Fin 16) (q : Fin 4)
variable (x0 : Vec Ideal S1x1024x1024 .f32) (x1 : Vec Ideal S1x1x1024 .f32) (x2 : Vec Ideal S1x1x1024 .f32) (x3 : Vec Ideal S1x1024 .f32) (x4 : Vec Ideal S640x1024 .bf16) (x5 : Vec Ideal S1024x640 .bf16) (x6 : Vec Ideal S128x128 .bf16) (x7 : Vec Ideal S1x128 .f32) (x8 : Vec Ideal S128x1024 .f32) (x9 : Vec Ideal S1024x128 .f32) (x10 : Vec Ideal S1024x128 .f32) (x11 : Vec Ideal S256x512 .bf16)

/-- The input blocks are tile `q` of batch `b`. -/
structure Tiles : Prop where
  tokens : ∀ (p : Fin 1024) (k : Fin 1024), x0 (ix3 0 p k) = X (ix3 b ⟨q * 1024 + p, by omega⟩ k)
  shift : ∀ k : Fin 1024, x1 (ix3 0 0 k) = SH (ix3 b 0 k)
  gain : ∀ k : Fin 1024, x2 (ix3 0 0 k) = SC (ix3 b 0 k)
  row : x3 = Host.rowG G
  rows : x4 = Host.wT W
  columns : x5 = Host.wR W
  mean : x6 = Host.meanM (F := Ideal)
  keyGain : x7 = Host.gainK KG
  table : ∀ (r : Fin 128) (p : Fin 1024), x8 (ix2 r p) = Host.tabQ QG C S (ix2 r ⟨q * 1024 + p, by omega⟩)
  cosines : ∀ (p : Fin 1024) (n : Fin 128), x9 (ix2 p n) = Host.both (Host.cosK C) (ix2 ⟨q * 1024 + p, by omega⟩ n)
  sines : ∀ (p : Fin 1024) (n : Fin 128), x10 (ix2 p n) = Host.both (Host.sinK S) (ix2 ⟨q * 1024 + p, by omega⟩ n)
  blocks : x11 = Host.wF GR GI

/-! ## What the body reads -/

variable (c : Dev nD) (i : grid0.Coords) (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S640x1024 .bf16) (harg6 : arg6.IsWhole) (arg7 : Memref sig .tc .vmem S1024x640 .bf16) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S256x512 .bf16) (harg13 : arg13.IsWhole) (arg14 : Memref sig .tc .vmem S1x4x8x128x256 .bf16) (harg14 : arg14.IsWhole) (arg15 : Memref sig .tc .vmem S1x1024x128 .bf16) (harg15 : arg15.IsWhole) (arg16 : Memref sig .tc .vmem S1x2x4x80x256 .bf16) (harg16 : arg16.IsWhole) (arg17 : Memref sig .tc .vmem S1x1024x256 .f32) (harg17 : arg17.IsWhole) (arg18 : Memref sig .tc .vmem S1x2x2x512x256 .bf16) (harg18 : arg18.IsWhole) (arg19 : Memref sig .tc .vmem S4x256x128 .f32) (harg19 : arg19.IsWhole)

theorem read_tokens (j : ℕ) (p : Fin 256) (k : Fin 1024) :
    tokens arg2.view (harg2.unread x0) j (ix3 0 p k) = x0 (ix3 0 ⟨256 * (j % 4) + p, by omega⟩ k) := by
  unfold tokens
  rw [View.readAt_eq_ld, Memref.IsWhole.read_unread]
  refine congrArg x0 (funext fun e => ?_)
  match e with
  | ⟨0, _⟩ => exact Fin.ext (by show 0 + 1 * 0 = 0; omega)
  | ⟨1, _⟩ => exact Fin.ext (by show 256 * (j % 4) + 1 * p.val = 256 * (j % 4) + p.val; omega)
  | ⟨2, _⟩ => exact Fin.ext (by show 0 + 1 * k.val = k.val; omega)

theorem read_tableQ (j : ℕ) (r : Fin 128) (p : Fin 256) :
    tableQ arg10.view (harg10.unread x8) j (ix2 r p) = x8 (ix2 r ⟨256 * (j % 4) + p, by omega⟩) := by
  unfold tableQ
  rw [View.readAt_eq_ld, Memref.IsWhole.read_unread]
  refine congrArg x8 (funext fun e => ?_)
  match e with
  | ⟨0, _⟩ => exact Fin.ext (by show 0 + 1 * r.val = r.val; omega)
  | ⟨1, _⟩ => exact Fin.ext (by show 256 * (j % 4) + 1 * p.val = 256 * (j % 4) + p.val; omega)

theorem read_tableK (arg : Memref sig .tc .vmem S1024x128 .f32) (harg : arg.IsWhole) (x : Vec Ideal S1024x128 .f32) (j : ℕ) (p : Fin 256)
    (n : Fin 128) : tableK arg.view (harg.unread x) j (ix2 p n) = x (ix2 ⟨256 * (j % 4) + p, by omega⟩ n) := by
  unfold tableK
  rw [View.readAt_eq_ld, Memref.IsWhole.read_unread]
  refine congrArg x (funext fun e => ?_)
  match e with
  | ⟨0, _⟩ => exact Fin.ext (by show 256 * (j % 4) + 1 * p.val = 256 * (j % 4) + p.val; omega)
  | ⟨1, _⟩ => exact Fin.ext (by show 0 + 1 * n.val = n.val; omega)

/-- A read of a whole plane. -/
theorem read_plane {a b : ℕ} {e : EltTy} (arg : Memref sig .tc .vmem ⟨2, ![a, b]⟩ e) (harg : arg.IsWhole) (x : Vec Ideal ⟨2, ![a, b]⟩ e)
    (h : ∀ d, (![0, 0] : Fin 2 → ℕ) d + (![a, b] : Fin 2 → ℕ) d ≤ (![a, b] : Fin 2 → ℕ) d) :
    arg.view.readAt (Elt Ideal) (Rect.unit (s := ⟨2, ![a, b]⟩) ![0, 0] ![a, b] h).toLoadRect (harg.unread x) = x := by
  rw [View.readAt_eq_ld, Memref.IsWhole.read_unread]
  refine funext fun y => congrArg x (funext fun e => ?_)
  match e with
  | ⟨0, _⟩ => exact Fin.ext (by show 0 + 1 * (y 0).val = (y 0).val; omega)
  | ⟨1, _⟩ => exact Fin.ext (by show 0 + 1 * (y 1).val = (y 1).val; omega)

/-- A read of a whole row of a batch. -/
theorem read_vector (arg : Memref sig .tc .vmem S1x1x1024 .f32) (harg : arg.IsWhole) (x : Vec Ideal S1x1x1024 .f32) (k : Fin 1024) :
    arg.view.readAt (Elt Ideal) (Rect.unit (s := S1x1x1024) ![0, 0, 0] S1x1x1024.size inb_S1x1x1024_S1x1x1024_0_0_0).toLoadRect
      (harg.unread x) (ix3 0 0 k) = x (ix3 0 0 k) := by
  rw [View.readAt_eq_ld, Memref.IsWhole.read_unread]
  refine congrArg x (funext fun e => ?_)
  match e with
  | ⟨0, _⟩ => exact Fin.ext (by show 0 + 1 * 0 = 0; omega)
  | ⟨1, _⟩ => exact Fin.ext (by show 0 + 1 * 0 = 0; omega)
  | ⟨2, _⟩ => exact Fin.ext (by show 0 + 1 * k.val = k.val; omega)

variable {X SH SC G W QG KG C S GR GI b q x0 x1 x2 x3 x4 x5 x6 x7 x8 x9 x10 x11}
variable (T : Tiles X SH SC G W QG KG C S GR GI b q x0 x1 x2 x3 x4 x5 x6 x7 x8 x9 x10 x11)
include T

/-- Token `p` of subtile `j` of tile `q`. -/
theorem hidden_tile (j : Fin 4) (p : Fin 256) (k : Fin 1024) :
    k0_pay4 (tokens arg2.view (harg2.unread x0) j)
      (arg5.view.readAt (Elt Ideal) (Rect.unit (s := S1x1024) ![0, 0] S1x1024.size inb_S1x1024_S1x1024_0_0).toLoadRect (harg5.unread x3))
      (arg4.view.readAt (Elt Ideal) (Rect.unit (s := S1x1x1024) ![0, 0, 0] S1x1x1024.size inb_S1x1x1024_S1x1x1024_0_0_0).toLoadRect (harg4.unread x2))
      (arg3.view.readAt (Elt Ideal) (Rect.unit (s := S1x1x1024) ![0, 0, 0] S1x1x1024.size inb_S1x1x1024_S1x1x1024_0_0_0).toLoadRect (harg3.unread x1))
      (ix2 p k) = modulated X SH SC G b ⟨256 * (4 * q + j) + p, by omega⟩ k := by
  have ep : ∀ h, (⟨q.val * 1024 + (256 * (j.val % 4) + p.val), h⟩ : Fin 4096) = ⟨256 * (4 * q + j) + p, by omega⟩ := fun h => Fin.ext (by
    show q.val * 1024 + (256 * (j.val % 4) + p.val) = 256 * (4 * q.val + j.val) + p.val
    omega)
  rw [hidden_apply, modulated]
  congr 1
  · funext k
    rw [read_tokens, T.tokens, ep]
  · funext k
    rw [read_plane arg5 harg5 x3, T.row, Host.rowG_apply]
  · funext k
    rw [read_vector, T.gain]
  · funext k
    rw [read_vector, T.shift]

theorem bodyR_apply (j : Fin 4) (p : Fin 256) (n : Fin 640) :
    bodyR arg2 harg2 arg3 harg3 arg4 harg4 arg5 harg5 arg7 harg7 x0 x1 x2 x3 x5 j (ix2 p n)
      = ∑ k, modulated X SH SC G b ⟨256 * (4 * q + j) + p, by omega⟩ k * Host.wR W (ix2 k n) := by
  rw [bodyR, tokens_apply]
  refine Finset.sum_congr rfl fun k _ => ?_
  rw [hidden_tile _ _ _ _ _ _ _ _ T, read_plane arg7 harg7 x5, T.columns]

theorem bodyT_apply (j : Fin 4) (p : Fin 256) (n : Fin 640) :
    bodyT arg2 harg2 arg3 harg3 arg4 harg4 arg5 harg5 arg6 harg6 x0 x1 x2 x3 x4 j (ix2 n p)
      = ∑ k, modulated X SH SC G b ⟨256 * (4 * q + j) + p, by omega⟩ k * Host.wT W (ix2 n k) := by
  rw [bodyT, channels_apply]
  refine Finset.sum_congr rfl fun k _ => ?_
  rw [hidden_tile _ _ _ _ _ _ _ _ T, read_plane arg6 harg6 x4, T.rows, mul_comm]

theorem bodyR_key (j : Fin 4) (p : Fin 256) (n : Fin 128) :
    bodyR arg2 harg2 arg3 harg3 arg4 harg4 arg5 harg5 arg7 harg7 x0 x1 x2 x3 x5 j (ix2 p ⟨n, by omega⟩)
      = projected X SH SC G W b ⟨256 * (4 * q + j) + p, by omega⟩ ⟨512 + n, by omega⟩ := by
  rw [bodyR_apply _ _ _ _ _ _ _ _ _ _ T, projected]
  exact Finset.sum_congr rfl fun k _ => by rw [Host.wR_key]

theorem bodyR_rest (j : Fin 4) (p : Fin 256) (n : Fin 512) :
    bodyR arg2 harg2 arg3 harg3 arg4 harg4 arg5 harg5 arg7 harg7 x0 x1 x2 x3 x5 j (ix2 p ⟨128 + n, by omega⟩)
      = projected X SH SC G W b ⟨256 * (4 * q + j) + p, by omega⟩ ⟨768 + n, by omega⟩ := by
  rw [bodyR_apply _ _ _ _ _ _ _ _ _ _ T, projected]
  exact Finset.sum_congr rfl fun k _ => by rw [Host.wR_rest]

theorem bodyT_query (j : Fin 4) (p : Fin 256) (n : Fin 512) :
    bodyT arg2 harg2 arg3 harg3 arg4 harg4 arg5 harg5 arg6 harg6 x0 x1 x2 x3 x4 j (ix2 ⟨n, by omega⟩ p)
      = projected X SH SC G W b ⟨256 * (4 * q + j) + p, by omega⟩ ⟨n, by omega⟩ := by
  rw [bodyT_apply _ _ _ _ _ _ _ _ _ _ T, projected]
  exact Finset.sum_congr rfl fun k _ => by rw [Host.wT_query]

theorem bodyT_value (j : Fin 4) (p : Fin 256) (n : Fin 128) :
    bodyT arg2 harg2 arg3 harg3 arg4 harg4 arg5 harg5 arg6 harg6 x0 x1 x2 x3 x4 j (ix2 ⟨512 + n, by omega⟩ p)
      = projected X SH SC G W b ⟨256 * (4 * q + j) + p, by omega⟩ ⟨640 + n, by omega⟩ := by
  rw [bodyT_apply _ _ _ _ _ _ _ _ _ _ T, projected]
  exact Finset.sum_congr rfl fun k _ => by rw [Host.wT_value]

end

end Cert.InProjIdeal.Chain

end

end
-- ==== Proof.InProjReference.lean ====
module

public import proofs.«01_k».proof.Proof.InProjOut
public import proofs.«01_k».proof.Proof.Gen.InProjRefIdeal.Read
public import Idealize.ShloMosaic.Lib.Pipeline.ValueKit
public import Idealize.ShloMosaic.Lib.Pointwise
public import Idealize.ShloMosaic.Lib.ValueIdxRank6

@[expose] public section

/-! # The reference input projection, element by element -/

noncomputable section

namespace Cert.InProjRefIdeal.Chain

open Cert.InProjRefIdeal Cert.InProjRefIdeal.Gen Cert.InProjRefIdeal.Read Cert.InProjMath Idealize Idealize.ShloMosaic
open Cert.InProjIdeal.Chain (modulated projected queriesAt queryAt keysAt valuesAt poolsAt fouriersAt)

variable (x0 : Vec Ideal S16x4096x1024 .f32) (x1 x2 : Vec Ideal S16x1x1024 .f32) (x3 : Vec Ideal S1024 .f32)
  (x4 : Vec Ideal S1024x1280 .f32) (x5 x6 : Vec Ideal S64 .f32) (x7 x8 : Vec Ideal S4096x2x16 .f32) (x9 x10 : Vec Ideal S4x64x64 .f32)

/-! ## The projection -/

theorem v1_apply (b : Fin 16) (p : Fin 4096) :
    val_main_v1 (F := Ideal) x0 (ix2 b p) = ∑ k : Fin 1024, x0 (ix3 b p k) * x0 (ix3 b p k) := by
  rw [val_main_v1_apply, val_main_cst_apply]
  refine (congrArg (· + _) Ideal.ofBits_zero_f32).trans ((zero_add _).trans ?_)
  refine Finset.sum_congr rfl fun k _ => ?_
  have e : idx_main_v1 (ix2 b p) k = ix3 b p k := by blk_ext [idx_main_v1]
  rw [e, val_main_v0_apply]
  rfl

theorem v8_apply (b : Fin 16) (p : Fin 4096) (k : Fin 1024) : val_main_v8 (F := Ideal) x0 (ix3 b p k)
    = Ideal.rsqrt (Ideal.div (∑ k : Fin 1024, x0 (ix3 b p k) * x0 (ix3 b p k)) (Ideal.ofBits .f32 0x44800000#32)
      + Ideal.ofBits .f32 0x358637BD#32) := by
  rw [val_main_v8_apply, val_main_v7_apply, val_main_v6_apply, val_main_v4_apply, val_main_v3_apply, val_main_v5_apply,
    val_main_v2_apply, val_main_cst_0_apply, val_main_cst_1_apply]
  have e : idx_main_v2 (idx_main_v8 (ix3 b p k)) = ix2 b p := by blk_ext [idx_main_v2, idx_main_v8]
  rw [e, v1_apply]
  rfl

theorem v18_apply (b : Fin 16) (p : Fin 4096) (k : Fin 1024) :
    val_main_v18 (F := Ideal) x0 x1 x2 x3 (ix3 b p k) = modulated x0 x1 x2 x3 b p k := by
  have one : ∀ i, val_main_v13 (F := Ideal) i = 1 := fun i => by
    rw [val_main_v13_apply, val_main_cst_2_apply]
    exact Ideal.ofBits_one_f32
  rw [val_main_v18_apply, val_main_v16_apply, val_main_v12_apply, val_main_v9_apply, v8_apply, val_main_v11_apply,
    val_main_v10_apply, val_main_v15_apply, val_main_v14_apply, one, val_main_v17_apply]
  have e₁ : idx_main_v10 (idx_main_v11 (ix3 b p k)) = ix1 k := by blk_ext [idx_main_v10, idx_main_v11]
  have e₂ : idx_main_v15 (ix3 b p k) = ix3 b 0 k := by blk_ext [idx_main_v15]
  have e₃ : idx_main_v17 (ix3 b p k) = ix3 b 0 k := by blk_ext [idx_main_v17]
  rw [e₁, e₂, e₃]
  rfl

theorem v19_apply (b : Fin 16) (p : Fin 4096) (n : Fin 1280) :
    val_main_v19 (F := Ideal) x0 x1 x2 x3 x4 (ix3 b p n) = projected x0 x1 x2 x3 x4 b p n := by
  rw [val_main_v19_apply]
  refine Finset.sum_congr rfl fun k _ => ?_
  have e₁ : lidx_main_v19 (ix3 b p n) k = ix3 b p k := by blk_ext [lidx_main_v19]
  have e₂ : ridx_main_v19 (ix3 b p n) k = ix2 k n := by blk_ext [ridx_main_v19]
  rw [e₁, e₂, v18_apply]

/-! ## The queries -/

theorem v21_apply (b : Fin 16) (p : Fin 4096) (h : Fin 8) (i : Fin 64) : val_main_v21 (F := Ideal) x0 x1 x2 x3 x4 (ix4 b p h i)
    = projected x0 x1 x2 x3 x4 b p ⟨64 * h + i, by omega⟩ := by
  rw [val_main_v21_apply, val_main_v20_apply, ← v19_apply]
  refine congrArg _ ?_
  blk_ext [idx_main_v20, idx_main_v21]

theorem v30_apply (b : Fin 16) (p : Fin 4096) (h : Fin 8) (i : Fin 64) : val_main_v30 (F := Ideal) x0 x1 x2 x3 x4 (ix4 b p h i)
    = Ideal.rsqrt (Ideal.div (∑ i : Fin 64, projected x0 x1 x2 x3 x4 b p ⟨64 * h + i, by omega⟩
      * projected x0 x1 x2 x3 x4 b p ⟨64 * h + i, by omega⟩) (Ideal.ofBits .f32 0x42800000#32) + eps) := by
  rw [val_main_v30_apply, val_main_v29_apply, val_main_v28_apply, val_main_v26_apply, val_main_v25_apply, val_main_v27_apply,
    val_main_v24_apply, val_main_cst_4_apply, val_main_cst_5_apply, val_main_v23_apply, val_main_cst_3_apply]
  refine congrArg (fun z => Ideal.rsqrt (Ideal.div z (Ideal.ofBits .f32 0x42800000#32) + eps))
    ((congrArg (· + _) Ideal.ofBits_zero_f32).trans ((zero_add _).trans (Finset.sum_congr rfl fun k _ => ?_)))
  have e : idx_main_v23 (idx_main_v24 (idx_main_v30 (ix4 b p h i))) k = ix4 b p h k := by
    blk_ext [idx_main_v23, idx_main_v24, idx_main_v30]
  rw [e, val_main_v22_apply, v21_apply]
  rfl

theorem v34_apply (b : Fin 16) (p : Fin 4096) (h : Fin 8) (d : Fin 64) : val_main_v34 (F := Ideal) x0 x1 x2 x3 x4 x5 (ix4 b p h d)
    = unitRow (fun i => projected x0 x1 x2 x3 x4 b p ⟨64 * h + i, by omega⟩) d * x5 (ix1 d) := by
  rw [val_main_v34_apply, val_main_v31_apply, v30_apply, v21_apply, val_main_v33_apply, val_main_v32_apply]
  have e : idx_main_v32 (idx_main_v33 (ix4 b p h d)) = ix1 d := by blk_ext [idx_main_v32, idx_main_v33]
  rw [e]
  rfl

theorem v37_apply (b : Fin 16) (p : Fin 4096) (h : Fin 8) (a : Fin 2) (f : Fin 16) :
    val_main_v37 (F := Ideal) x0 x1 x2 x3 x4 x5 (ix5 b p h a f)
      = val_main_v34 (F := Ideal) x0 x1 x2 x3 x4 x5 (ix4 b p h ⟨32 * a + f, by omega⟩) := by
  unfold val_main_v37 val_main_v36 val_main_v35
  generalize val_main_v34 (F := Ideal) x0 x1 x2 x3 x4 x5 = y
  pointwise
  exact congrArg (fun i => y (ix4 b p h i)) (Fin.ext (by show a.val * 32 + f.val = 32 * a.val + f.val; omega))

theorem v39_apply (b : Fin 16) (p : Fin 4096) (h : Fin 8) (a : Fin 2) (f : Fin 16) :
    val_main_v39 (F := Ideal) x0 x1 x2 x3 x4 x5 (ix5 b p h a f)
      = val_main_v34 (F := Ideal) x0 x1 x2 x3 x4 x5 (ix4 b p h ⟨32 * a + 16 + f, by omega⟩) := by
  unfold val_main_v39 val_main_v38 val_main_v35
  generalize val_main_v34 (F := Ideal) x0 x1 x2 x3 x4 x5 = y
  pointwise
  exact congrArg (fun i => y (ix4 b p h i)) (Fin.ext (by show a.val * 32 + 16 + f.val = 32 * a.val + 16 + f.val; omega))

theorem v55_low (b : Fin 16) (p : Fin 4096) (h : Fin 8) (a : Fin 2) (f : Fin 16) :
    val_main_v55 (F := Ideal) x0 x1 x2 x3 x4 x5 x7 x8 (ix4 b p h ⟨32 * a + f, by omega⟩)
      = val_main_v46 (F := Ideal) x0 x1 x2 x3 x4 x5 x7 x8 (ix5 b p h a f) := by
  unfold val_main_v55 val_main_v54 val_main_v53 val_main_v52
  generalize val_main_v46 (F := Ideal) x0 x1 x2 x3 x4 x5 x7 x8 = y
  generalize val_main_v51 (F := Ideal) x0 x1 x2 x3 x4 x5 x7 x8 = z
  pointwise
  exact dif_pos (by omega)

theorem v55_high (b : Fin 16) (p : Fin 4096) (h : Fin 8) (a : Fin 2) (f : Fin 16) :
    val_main_v55 (F := Ideal) x0 x1 x2 x3 x4 x5 x7 x8 (ix4 b p h ⟨32 * a + 16 + f, by omega⟩)
      = val_main_v51 (F := Ideal) x0 x1 x2 x3 x4 x5 x7 x8 (ix5 b p h a f) := by
  unfold val_main_v55 val_main_v54 val_main_v53 val_main_v52
  generalize val_main_v46 (F := Ideal) x0 x1 x2 x3 x4 x5 x7 x8 = y
  generalize val_main_v51 (F := Ideal) x0 x1 x2 x3 x4 x5 x7 x8 = z
  pointwise
  exact dif_neg (by omega)

theorem v46_apply (b : Fin 16) (p : Fin 4096) (h : Fin 8) (a : Fin 2) (f : Fin 16) :
    val_main_v46 (F := Ideal) x0 x1 x2 x3 x4 x5 x7 x8 (ix5 b p h a f)
      = low (fun d => unitRow (fun i => projected x0 x1 x2 x3 x4 b p ⟨64 * h + i, by omega⟩) d * x5 (ix1 d))
          (fun a f => x7 (ix3 p a f)) (fun a f => x8 (ix3 p a f)) a f := by
  have e₁ : idx_main_v40 (idx_main_v42 (ix5 b p h a f)) = ix3 p a f := by blk_ext [idx_main_v40, idx_main_v42]
  have e₂ : idx_main_v41 (idx_main_v44 (ix5 b p h a f)) = ix3 p a f := by blk_ext [idx_main_v41, idx_main_v44]
  rw [val_main_v46_apply, val_main_v43_apply, val_main_v45_apply, v37_apply, v39_apply, v34_apply, v34_apply, val_main_v42_apply,
    val_main_v40_apply, val_main_v44_apply, val_main_v41_apply, e₁, e₂]
  rfl

theorem v51_apply (b : Fin 16) (p : Fin 4096) (h : Fin 8) (a : Fin 2) (f : Fin 16) :
    val_main_v51 (F := Ideal) x0 x1 x2 x3 x4 x5 x7 x8 (ix5 b p h a f)
      = high (fun d => unitRow (fun i => projected x0 x1 x2 x3 x4 b p ⟨64 * h + i, by omega⟩) d * x5 (ix1 d))
          (fun a f => x7 (ix3 p a f)) (fun a f => x8 (ix3 p a f)) a f := by
  have e₁ : idx_main_v40 (idx_main_v47 (ix5 b p h a f)) = ix3 p a f := by blk_ext [idx_main_v40, idx_main_v47]
  have e₂ : idx_main_v41 (idx_main_v49 (ix5 b p h a f)) = ix3 p a f := by blk_ext [idx_main_v41, idx_main_v49]
  rw [val_main_v51_apply, val_main_v48_apply, val_main_v50_apply, v37_apply, v39_apply, v34_apply, v34_apply, val_main_v47_apply,
    val_main_v40_apply, val_main_v49_apply, val_main_v41_apply, e₁, e₂]
  rfl

/-- Head `h`, turned. -/
theorem v55_apply (b : Fin 16) (p : Fin 4096) (h : Fin 8) (d : Fin 64) :
    val_main_v55 (F := Ideal) x0 x1 x2 x3 x4 x5 x7 x8 (ix4 b p h d)
      = head (fun i => projected x0 x1 x2 x3 x4 b p ⟨64 * h + i, by omega⟩) (fun d => x5 (ix1 d))
          (fun a f => x7 (ix3 p a f)) (fun a f => x8 (ix3 p a f)) d := by
  refine lane_cases (P := fun d => val_main_v55 (F := Ideal) x0 x1 x2 x3 x4 x5 x7 x8 (ix4 b p h d) = head _ _ _ _ d)
    (fun a f => ?_) (fun a f => ?_) d
  · exact (v55_low x0 x1 x2 x3 x4 x5 x7 x8 b p h a f).trans ((v46_apply x0 x1 x2 x3 x4 x5 x7 x8 b p h a f).trans (turned_low _ _ _ a f).symm)
  · exact (v55_high x0 x1 x2 x3 x4 x5 x7 x8 b p h a f).trans ((v51_apply x0 x1 x2 x3 x4 x5 x7 x8 b p h a f).trans (turned_high _ _ _ a f).symm)

/-! ## The keys -/

theorem v57_apply (b : Fin 16) (p : Fin 4096) (h : Fin 2) (i : Fin 64) : val_main_v57 (F := Ideal) x0 x1 x2 x3 x4 (ix4 b p h i)
    = projected x0 x1 x2 x3 x4 b p ⟨512 + (64 * h + i), by omega⟩ := by
  rw [val_main_v57_apply, val_main_v56_apply, ← v19_apply]
  refine congrArg _ ?_
  blk_ext [idx_main_v56, idx_main_v57]

theorem v66_apply (b : Fin 16) (p : Fin 4096) (h : Fin 2) (i : Fin 64) : val_main_v66 (F := Ideal) x0 x1 x2 x3 x4 (ix4 b p h i)
    = Ideal.rsqrt (Ideal.div (∑ i : Fin 64, projected x0 x1 x2 x3 x4 b p ⟨512 + (64 * h + i), by omega⟩
      * projected x0 x1 x2 x3 x4 b p ⟨512 + (64 * h + i), by omega⟩) (Ideal.ofBits .f32 0x42800000#32) + eps) := by
  rw [val_main_v66_apply, val_main_v65_apply, val_main_v64_apply, val_main_v62_apply, val_main_v61_apply, val_main_v63_apply,
    val_main_v60_apply, val_main_cst_7_apply, val_main_cst_8_apply, val_main_v59_apply, val_main_cst_6_apply]
  refine congrArg (fun z => Ideal.rsqrt (Ideal.div z (Ideal.ofBits .f32 0x42800000#32) + eps))
    ((congrArg (· + _) Ideal.ofBits_zero_f32).trans ((zero_add _).trans (Finset.sum_congr rfl fun k _ => ?_)))
  have e : idx_main_v59 (idx_main_v60 (idx_main_v66 (ix4 b p h i))) k = ix4 b p h k := by
    blk_ext [idx_main_v59, idx_main_v60, idx_main_v66]
  rw [e, val_main_v58_apply, v57_apply]
  rfl

theorem v70_apply (b : Fin 16) (p : Fin 4096) (h : Fin 2) (d : Fin 64) : val_main_v70 (F := Ideal) x0 x1 x2 x3 x4 x6 (ix4 b p h d)
    = unitRow (fun i => projected x0 x1 x2 x3 x4 b p ⟨512 + (64 * h + i), by omega⟩) d * x6 (ix1 d) := by
  rw [val_main_v70_apply, val_main_v67_apply, v66_apply, v57_apply, val_main_v69_apply, val_main_v68_apply]
  have e : idx_main_v68 (idx_main_v69 (ix4 b p h d)) = ix1 d := by blk_ext [idx_main_v68, idx_main_v69]
  rw [e]
  rfl

theorem v73_apply (b : Fin 16) (p : Fin 4096) (h : Fin 2) (a : Fin 2) (f : Fin 16) :
    val_main_v73 (F := Ideal) x0 x1 x2 x3 x4 x6 (ix5 b p h a f)
      = val_main_v70 (F := Ideal) x0 x1 x2 x3 x4 x6 (ix4 b p h ⟨32 * a + f, by omega⟩) := by
  unfold val_main_v73 val_main_v72 val_main_v71
  generalize val_main_v70 (F := Ideal) x0 x1 x2 x3 x4 x6 = y
  pointwise
  exact congrArg (fun i => y (ix4 b p h i)) (Fin.ext (by show a.val * 32 + f.val = 32 * a.val + f.val; omega))

theorem v75_apply (b : Fin 16) (p : Fin 4096) (h : Fin 2) (a : Fin 2) (f : Fin 16) :
    val_main_v75 (F := Ideal) x0 x1 x2 x3 x4 x6 (ix5 b p h a f)
      = val_main_v70 (F := Ideal) x0 x1 x2 x3 x4 x6 (ix4 b p h ⟨32 * a + 16 + f, by omega⟩) := by
  unfold val_main_v75 val_main_v74 val_main_v71
  generalize val_main_v70 (F := Ideal) x0 x1 x2 x3 x4 x6 = y
  pointwise
  exact congrArg (fun i => y (ix4 b p h i)) (Fin.ext (by show a.val * 32 + 16 + f.val = 32 * a.val + 16 + f.val; omega))

theorem v91_low (b : Fin 16) (p : Fin 4096) (h : Fin 2) (a : Fin 2) (f : Fin 16) :
    val_main_v91 (F := Ideal) x0 x1 x2 x3 x4 x6 x7 x8 (ix4 b p h ⟨32 * a + f, by omega⟩)
      = val_main_v82 (F := Ideal) x0 x1 x2 x3 x4 x6 x7 x8 (ix5 b p h a f) := by
  unfold val_main_v91 val_main_v90 val_main_v89 val_main_v88
  generalize val_main_v82 (F := Ideal) x0 x1 x2 x3 x4 x6 x7 x8 = y
  generalize val_main_v87 (F := Ideal) x0 x1 x2 x3 x4 x6 x7 x8 = z
  pointwise
  exact dif_pos (by omega)

theorem v91_high (b : Fin 16) (p : Fin 4096) (h : Fin 2) (a : Fin 2) (f : Fin 16) :
    val_main_v91 (F := Ideal) x0 x1 x2 x3 x4 x6 x7 x8 (ix4 b p h ⟨32 * a + 16 + f, by omega⟩)
      = val_main_v87 (F := Ideal) x0 x1 x2 x3 x4 x6 x7 x8 (ix5 b p h a f) := by
  unfold val_main_v91 val_main_v90 val_main_v89 val_main_v88
  generalize val_main_v82 (F := Ideal) x0 x1 x2 x3 x4 x6 x7 x8 = y
  generalize val_main_v87 (F := Ideal) x0 x1 x2 x3 x4 x6 x7 x8 = z
  pointwise
  exact dif_neg (by omega)

theorem v82_apply (b : Fin 16) (p : Fin 4096) (h : Fin 2) (a : Fin 2) (f : Fin 16) :
    val_main_v82 (F := Ideal) x0 x1 x2 x3 x4 x6 x7 x8 (ix5 b p h a f)
      = low (fun d => unitRow (fun i => projected x0 x1 x2 x3 x4 b p ⟨512 + (64 * h + i), by omega⟩) d * x6 (ix1 d))
          (fun a f => x7 (ix3 p a f)) (fun a f => x8 (ix3 p a f)) a f := by
  have e₁ : idx_main_v76 (idx_main_v78 (ix5 b p h a f)) = ix3 p a f := by blk_ext [idx_main_v76, idx_main_v78]
  have e₂ : idx_main_v77 (idx_main_v80 (ix5 b p h a f)) = ix3 p a f := by blk_ext [idx_main_v77, idx_main_v80]
  rw [val_main_v82_apply, val_main_v79_apply, val_main_v81_apply, v73_apply, v75_apply, v70_apply, v70_apply, val_main_v78_apply,
    val_main_v76_apply, val_main_v80_apply, val_main_v77_apply, e₁, e₂]
  rfl

theorem v87_apply (b : Fin 16) (p : Fin 4096) (h : Fin 2) (a : Fin 2) (f : Fin 16) :
    val_main_v87 (F := Ideal) x0 x1 x2 x3 x4 x6 x7 x8 (ix5 b p h a f)
      = high (fun d => unitRow (fun i => projected x0 x1 x2 x3 x4 b p ⟨512 + (64 * h + i), by omega⟩) d * x6 (ix1 d))
          (fun a f => x7 (ix3 p a f)) (fun a f => x8 (ix3 p a f)) a f := by
  have e₁ : idx_main_v76 (idx_main_v83 (ix5 b p h a f)) = ix3 p a f := by blk_ext [idx_main_v76, idx_main_v83]
  have e₂ : idx_main_v77 (idx_main_v85 (ix5 b p h a f)) = ix3 p a f := by blk_ext [idx_main_v77, idx_main_v85]
  rw [val_main_v87_apply, val_main_v84_apply, val_main_v86_apply, v73_apply, v75_apply, v70_apply, v70_apply, val_main_v83_apply,
    val_main_v76_apply, val_main_v85_apply, val_main_v77_apply, e₁, e₂]
  rfl

/-- Head `h`, turned. -/
theorem v91_apply (b : Fin 16) (p : Fin 4096) (h : Fin 2) (d : Fin 64) :
    val_main_v91 (F := Ideal) x0 x1 x2 x3 x4 x6 x7 x8 (ix4 b p h d)
      = head (fun i => projected x0 x1 x2 x3 x4 b p ⟨512 + (64 * h + i), by omega⟩) (fun d => x6 (ix1 d))
          (fun a f => x7 (ix3 p a f)) (fun a f => x8 (ix3 p a f)) d := by
  refine lane_cases (P := fun d => val_main_v91 (F := Ideal) x0 x1 x2 x3 x4 x6 x7 x8 (ix4 b p h d) = head _ _ _ _ d)
    (fun a f => ?_) (fun a f => ?_) d
  · exact (v91_low x0 x1 x2 x3 x4 x6 x7 x8 b p h a f).trans ((v82_apply x0 x1 x2 x3 x4 x6 x7 x8 b p h a f).trans (turned_low _ _ _ a f).symm)
  · exact (v91_high x0 x1 x2 x3 x4 x6 x7 x8 b p h a f).trans ((v87_apply x0 x1 x2 x3 x4 x6 x7 x8 b p h a f).trans (turned_high _ _ _ a f).symm)

/-! ## The results -/

theorem v109_apply (b : Fin 16) (p : Fin 4096) (h : Fin 8) (r : Fin 128) :
    val_main_v109 (F := Ideal) x0 x1 x2 x3 x4 x5 x7 x8 (ix4 b p h r)
      = if r.val / 64 = h.val / 4 then val_main_v103 (F := Ideal) x0 x1 x2 x3 x4 x5 x7 x8 (ix4 b p h ⟨r % 64, by omega⟩) else 0 := by
  unfold val_main_v109 val_main_v108 val_main_v107 val_main_v106 val_main_v105
  generalize val_main_v103 (F := Ideal) x0 x1 x2 x3 x4 x5 x7 x8 = y
  have hz : ∀ i, val_main_v104 (F := Ideal) i = 0 := fun i => by
    rw [val_main_v104_apply, val_main_cst_10_apply]
    exact Ideal.ofBits_zero_f32
  generalize val_main_v104 (F := Ideal) = z at hz
  pointwise
  by_cases hh : h.val < 4 <;> by_cases hr : r.val < 64
  · refine (dif_pos hh).trans ((dif_pos hr).trans (Eq.trans ?_ (if_pos (by omega)).symm))
    exact congrArg (fun i => y (ix4 b p h i)) (Fin.ext (by show r.val = r.val % 64; omega))
  · refine (dif_pos hh).trans ((dif_neg hr).trans (Eq.trans ?_ (if_neg (by omega)).symm))
    exact hz _
  · refine (dif_neg hh).trans ((dif_pos hr).trans (Eq.trans ?_ (if_neg (by omega)).symm))
    exact hz _
  · refine (dif_neg hh).trans ((dif_neg hr).trans (Eq.trans ?_ (if_pos (by omega)).symm))
    exact congrArg₂ (fun a i => y (ix4 b p a i)) (Fin.ext (by show 4 + (h.val - 4) = h.val; omega))
      (Fin.ext (by show r.val - 64 = r.val % 64; omega))

/-- The queries, each head's in its group's half of the rows. -/
theorem v121_apply (b j : Fin 16) (h : Fin 8) (r : Fin 128) (p : Fin 256) :
    val_main_v121 (F := Ideal) x0 x1 x2 x3 x4 x5 x7 x8 (ix5 b j h r p) = queriesAt x0 x1 x2 x3 x4 x5 x7 x8 b j h r p := by
  have e : val_main_v121 (F := Ideal) x0 x1 x2 x3 x4 x5 x7 x8 (ix5 b j h r p)
      = val_main_v109 (F := Ideal) x0 x1 x2 x3 x4 x5 x7 x8 (ix4 b ⟨256 * j + p, by omega⟩ h r) := by
    rw [val_main_v121_apply, val_main_v111_apply, val_main_v110_apply]
    refine congrArg (val_main_v109 (F := Ideal) x0 x1 x2 x3 x4 x5 x7 x8) ?_
    blk_ext [idx_main_v110, idx_main_v111]
  rw [e, v109_apply, queriesAt, val_main_v103_apply, v55_apply, val_main_v102_apply, val_main_cst_9_apply]
  rfl

/-- The keys. -/
theorem v123_apply (b : Fin 16) (p : Fin 4096) (n : Fin 128) :
    val_main_v123 (F := Ideal) x0 x1 x2 x3 x4 x6 x7 x8 (ix3 b p n) = keysAt x0 x1 x2 x3 x4 x6 x7 x8 b p n := by
  have e : val_main_v123 (F := Ideal) x0 x1 x2 x3 x4 x6 x7 x8 (ix3 b p n)
      = val_main_v91 (F := Ideal) x0 x1 x2 x3 x4 x6 x7 x8 (ix4 b p ⟨n / 64, by omega⟩ ⟨n % 64, by omega⟩) := by
    rw [val_main_v123_apply, val_main_v122_apply]
    refine congrArg (val_main_v91 (F := Ideal) x0 x1 x2 x3 x4 x6 x7 x8) ?_
    blk_ext [idx_main_v122]
  rw [e, v91_apply, keysAt]

theorem v93_apply (b : Fin 16) (p : Fin 4096) (g : Fin 2) (i : Fin 64) : val_main_v93 (F := Ideal) x0 x1 x2 x3 x4 (ix4 b p g i)
    = projected x0 x1 x2 x3 x4 b p ⟨640 + (64 * g + i), by omega⟩ := by
  rw [val_main_v93_apply, val_main_v92_apply, ← v19_apply]
  refine congrArg _ ?_
  blk_ext [idx_main_v92, idx_main_v93]

theorem v113_apply (b : Fin 16) (p : Fin 4096) (g : Fin 2) (r : Fin 80) :
    val_main_v113 (F := Ideal) x0 x1 x2 x3 x4 (ix4 b p g r)
      = if h : r.val < 64 then projected x0 x1 x2 x3 x4 b p ⟨640 + (64 * g + r), by omega⟩ else 1 := by
  have hy := v93_apply x0 x1 x2 x3 x4 b p g
  unfold val_main_v113
  have hz : ∀ i, val_main_v112 (F := Ideal) i = 1 := fun i => by
    rw [val_main_v112_apply, val_main_cst_11_apply]
    exact Ideal.ofBits_one_f32
  generalize val_main_v93 (F := Ideal) x0 x1 x2 x3 x4 = y at hy
  generalize val_main_v112 (F := Ideal) = z at hz
  pointwise
  by_cases hr : r.val < 64
  · rw [dif_pos hr, dif_pos hr]
    exact hy ⟨r.val, hr⟩
  · rw [dif_neg hr, dif_neg hr]
    exact hz _

/-- The values and the rows of ones. -/
theorem v124_apply (b : Fin 16) (g : Fin 2) (j : Fin 16) (r : Fin 80) (p : Fin 256) :
    val_main_v124 (F := Ideal) x0 x1 x2 x3 x4 (ix5 b g j r p) = valuesAt x0 x1 x2 x3 x4 b g j r p := by
  have e : val_main_v124 (F := Ideal) x0 x1 x2 x3 x4 (ix5 b g j r p)
      = val_main_v113 (F := Ideal) x0 x1 x2 x3 x4 (ix4 b ⟨256 * j + p, by omega⟩ g r) := by
    rw [val_main_v124_apply, val_main_v115_apply, val_main_v114_apply]
    refine congrArg (val_main_v113 (F := Ideal) x0 x1 x2 x3 x4) ?_
    blk_ext [idx_main_v114, idx_main_v115]
  rw [e, v113_apply, valuesAt]

/-- The pooling mixer's columns. -/
theorem v125_apply (b : Fin 16) (p : Fin 4096) (n : Fin 256) :
    val_main_v125 (F := Ideal) x0 x1 x2 x3 x4 (ix3 b p n) = poolsAt x0 x1 x2 x3 x4 b p n := by
  rw [val_main_v125_apply, poolsAt, ← v19_apply]
  refine congrArg _ ?_
  blk_ext [idx_main_v125]

theorem v95_apply (b : Fin 16) (p : Fin 4096) (g : Fin 4) (i : Fin 64) : val_main_v95 (F := Ideal) x0 x1 x2 x3 x4 (ix4 b p g i)
    = projected x0 x1 x2 x3 x4 b p ⟨1024 + (64 * g + i), by omega⟩ := by
  rw [val_main_v95_apply, val_main_v94_apply, ← v19_apply]
  refine congrArg _ ?_
  blk_ext [idx_main_v94, idx_main_v95]

theorem v98_apply (b : Fin 16) (p : Fin 4096) (n : Fin 256) : val_main_v98 (F := Ideal) x0 x1 x2 x3 x4 x9 (ix3 b p n)
    = ∑ k : Fin 64, projected x0 x1 x2 x3 x4 b p ⟨1024 + (64 * (n / 64) + k), by omega⟩ * x9 (ix3 ⟨n / 64, by omega⟩ k ⟨n % 64, by omega⟩) := by
  have e : idx_main_v97 (idx_main_v98 (ix3 b p n)) = ix4 ⟨n / 64, by omega⟩ ⟨n % 64, by omega⟩ b p := by
    blk_ext [idx_main_v97, idx_main_v98]
  rw [val_main_v98_apply, val_main_v97_apply, e, val_main_v96_apply]
  refine Finset.sum_congr rfl fun k _ => (mul_comm _ _).trans (congrArg₂ (· * ·) ?_ (congrArg x9 ?_))
  · refine Eq.trans (congrArg _ ?_) (v95_apply x0 x1 x2 x3 x4 b p ⟨n / 64, by omega⟩ k)
    blk_ext [ridx_main_v96]
  · blk_ext [lidx_main_v96]

theorem v101_apply (b : Fin 16) (p : Fin 4096) (n : Fin 256) : val_main_v101 (F := Ideal) x0 x1 x2 x3 x4 x10 (ix3 b p n)
    = ∑ k : Fin 64, projected x0 x1 x2 x3 x4 b p ⟨1024 + (64 * (n / 64) + k), by omega⟩ * x10 (ix3 ⟨n / 64, by omega⟩ k ⟨n % 64, by omega⟩) :=
  v98_apply x0 x1 x2 x3 x4 x10 b p n

theorem v118_apply (b : Fin 16) (w : Fin 2) (p : Fin 4096) (n : Fin 256) :
    val_main_v118 (F := Ideal) x0 x1 x2 x3 x4 x9 x10 (ix4 b w p n)
      = val_main_v98 (F := Ideal) x0 x1 x2 x3 x4 (if w = 0 then x9 else x10) (ix3 b p n) := by
  have e : val_main_v118 (F := Ideal) x0 x1 x2 x3 x4 x9 x10 (ix4 b w p n)
      = if w.val < 1 then val_main_v98 (F := Ideal) x0 x1 x2 x3 x4 x9 (ix3 b p n)
        else val_main_v98 (F := Ideal) x0 x1 x2 x3 x4 x10 (ix3 b p n) := by
    have ez : val_main_v101 (F := Ideal) x0 x1 x2 x3 x4 x10 = val_main_v98 (F := Ideal) x0 x1 x2 x3 x4 x10 := rfl
    unfold val_main_v118 val_main_v116 val_main_v117
    rw [ez]
    generalize val_main_v98 (F := Ideal) x0 x1 x2 x3 x4 x9 = y
    generalize val_main_v98 (F := Ideal) x0 x1 x2 x3 x4 x10 = z
    pointwise
    rfl
  rw [e]
  match w with
  | ⟨0, _⟩ => rfl
  | ⟨1, _⟩ => rfl

/-- The Fourier mixer's columns, the tokens of one parity together. -/
theorem v126_apply (b : Fin 16) (par w : Fin 2) (r : Fin 2048) (n : Fin 256) :
    val_main_v126 (F := Ideal) x0 x1 x2 x3 x4 x9 x10 (ix5 b par w r n) = fouriersAt x0 x1 x2 x3 x4 x9 x10 b par w r n := by
  have e : val_main_v126 (F := Ideal) x0 x1 x2 x3 x4 x9 x10 (ix5 b par w r n)
      = val_main_v118 (F := Ideal) x0 x1 x2 x3 x4 x9 x10 (ix4 b w ⟨par + 2 * r, by omega⟩ n) := by
    rw [val_main_v126_apply, val_main_v120_apply, val_main_v119_apply]
    refine congrArg (val_main_v118 (F := Ideal) x0 x1 x2 x3 x4 x9 x10) ?_
    blk_ext [idx_main_v119, idx_main_v120]
  rw [e, v118_apply, v98_apply, fouriersAt]

end Cert.InProjRefIdeal.Chain

end

end
-- ==== Proof.InProjTile.lean ====
module

public import proofs.«01_k».proof.Proof.InProjOut

@[expose] public section

/-! # The input projection's output blocks, from its arguments -/

noncomputable section

namespace Cert.InProjIdeal.Chain

open Cert.InProjIdeal Cert.InProjIdeal.Gen Cert.InProjMath Idealize Idealize.ShloMosaic Idealize.ShloMosaic.TcCoe

section
variable {X : Vec Ideal S16x4096x1024 .f32} {SH SC : Vec Ideal S16x1x1024 .f32} {G : Vec Ideal S1024 .f32} {W : Vec Ideal S1024x1280 .f32}
variable {QG KG : Vec Ideal S64 .f32} {C S : Vec Ideal S4096x2x16 .f32} {GR GI : Vec Ideal S4x64x64 .f32}
variable {b : Fin 16} {q : Fin 4}
variable {x0 : Vec Ideal S1x1024x1024 .f32} {x1 : Vec Ideal S1x1x1024 .f32} {x2 : Vec Ideal S1x1x1024 .f32} {x3 : Vec Ideal S1x1024 .f32} {x4 : Vec Ideal S640x1024 .bf16} {x5 : Vec Ideal S1024x640 .bf16} {x6 : Vec Ideal S128x128 .bf16} {x7 : Vec Ideal S1x128 .f32} {x8 : Vec Ideal S128x1024 .f32} {x9 : Vec Ideal S1024x128 .f32} {x10 : Vec Ideal S1024x128 .f32} {x11 : Vec Ideal S256x512 .bf16}
variable (arg2 : Memref sig .tc .vmem S1x1024x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S640x1024 .bf16) (harg6 : arg6.IsWhole) (arg7 : Memref sig .tc .vmem S1024x640 .bf16) (harg7 : arg7.IsWhole)
variable (T : Tiles X SH SC G W QG KG C S GR GI b q x0 x1 x2 x3 x4 x5 x6 x7 x8 x9 x10 x11)
include T

/-- The queries' table at token `p` of subtile `j`. -/
theorem table_tile (arg10 : Memref sig .tc .vmem S128x1024 .f32) (harg10 : arg10.IsWhole) (j : Fin 4) (p : Fin 256) (a : Fin 2) (u : Fin 4) (f : Fin 16) :
    tableQ arg10.view (harg10.unread x8) j (ix2 ⟨64 * a + 16 * u + f, by omega⟩ p)
      = ![QG (ix1 ⟨32 * a + f, by omega⟩) * scale * C (ix3 ⟨256 * (4 * q + j) + p, by omega⟩ a f),
          QG (ix1 ⟨32 * a + 16 + f, by omega⟩) * scale * S (ix3 ⟨256 * (4 * q + j) + p, by omega⟩ a f),
          QG (ix1 ⟨32 * a + 16 + f, by omega⟩) * scale * C (ix3 ⟨256 * (4 * q + j) + p, by omega⟩ a f),
          QG (ix1 ⟨32 * a + f, by omega⟩) * scale * S (ix3 ⟨256 * (4 * q + j) + p, by omega⟩ a f)] u := by
  have ep : ∀ h, (⟨q.val * 1024 + (256 * (j.val % 4) + p.val), h⟩ : Fin 4096) = ⟨256 * (4 * q + j) + p, by omega⟩ := fun h => Fin.ext (by
    show q.val * 1024 + (256 * (j.val % 4) + p.val) = 256 * (4 * q.val + j.val) + p.val
    omega)
  have e₁ : (⟨a.val * 32 + f.val, by omega⟩ : Fin 64) = ⟨32 * a + f, by omega⟩ := Fin.ext (by show a.val * 32 + f.val = 32 * a.val + f.val; omega)
  have e₂ : (⟨a.val * 32 + 16 + f.val, by omega⟩ : Fin 64) = ⟨32 * a + 16 + f, by omega⟩ :=
    Fin.ext (by show a.val * 32 + 16 + f.val = 32 * a.val + 16 + f.val; omega)
  rw [read_tableQ, T.table, ep, Host.tabQ, Host.stack_apply]
  match u with
  | 0 => exact (Host.factor_apply _ _ a f _).trans (by rw [Host.gainA_apply, e₁]; rfl)
  | 1 => exact (Host.factor_apply _ _ a f _).trans (by rw [Host.gainB_apply, e₂]; rfl)
  | 2 => exact (Host.factor_apply _ _ a f _).trans (by rw [Host.gainB_apply, e₂]; rfl)
  | 3 => exact (Host.factor_apply _ _ a f _).trans (by rw [Host.gainA_apply, e₁]; rfl)

theorem queries_tile (arg10 : Memref sig .tc .vmem S128x1024 .f32) (harg10 : arg10.IsWhole) (j : Fin 4) (h : Fin 8) (r : Fin 128) (p : Fin 256) :
    View.canon (listQ (bodyT arg2 harg2 arg3 harg3 arg4 harg4 arg5 harg5 arg6 harg6 x0 x1 x2 x3 x4) (tableQ arg10.view (harg10.unread x8)) 32)
      (ix5 0 j h r p) = queriesAt X SH SC G W QG C S b ⟨4 * q + j, by omega⟩ h r p := by
  refine (canon_queries _ _ j h r p).trans ?_
  unfold queriesAt
  refine if_congr Iff.rfl ?_ rfl
  refine (qRows_head _ _ p (fun d => QG (ix1 d)) (fun a f => C (ix3 ⟨256 * (4 * q + j) + p, by omega⟩ a f))
    (fun a f => S (ix3 ⟨256 * (4 * q + j) + p, by omega⟩ a f)) (fun a u f => table_tile T arg10 harg10 j p a u f) _).trans ?_
  unfold queryAt
  refine congrArg (fun y => head y (fun d => QG (ix1 d)) (fun a f => C (ix3 ⟨256 * (4 * q + j) + p, by omega⟩ a f))
    (fun a f => S (ix3 ⟨256 * (4 * q + j) + p, by omega⟩ a f)) _ * scale) (funext fun i => ?_)
  refine (qPart_apply _ _ i p).trans ?_
  have e : ∀ h', (⟨64 * (h.val % 8) + i.val, h'⟩ : Fin 640) = ⟨(⟨64 * h + i, by omega⟩ : Fin 512).val, by show 64 * h.val + i.val < 640; omega⟩ := fun _ =>
    Fin.ext (by show 64 * (h.val % 8) + i.val = 64 * h.val + i.val; omega)
  refine (congrArg (fun n => bodyT arg2 harg2 arg3 harg3 arg4 harg4 arg5 harg5 arg6 harg6 x0 x1 x2 x3 x4 j (ix2 n p)) (e _)).trans ?_
  exact bodyT_query arg2 harg2 arg3 harg3 arg4 harg4 arg5 harg5 arg6 harg6 T j p ⟨64 * h + i, by omega⟩

theorem values_tile (g : Fin 2) (j : Fin 4) (r : Fin 80) (p : Fin 256) :
    View.canon (listV (bodyT arg2 harg2 arg3 harg3 arg4 harg4 arg5 harg5 arg6 harg6 x0 x1 x2 x3 x4) 8) (ix5 0 g j r p)
      = valuesAt X SH SC G W b g ⟨4 * q + j, by omega⟩ r p := by
  refine (canon_values _ g j r p).trans ?_
  unfold valuesAt
  by_cases hr : r.val < 64
  · refine (dif_pos (show r.val < 64 from hr)).trans (Eq.trans ?_ (dif_pos hr).symm)
    refine (vRows_apply _ _ ⟨r, hr⟩ p).trans ?_
    have e : ∀ h', (⟨512 + (64 * (g.val % 2) + r.val), h'⟩ : Fin 640) = ⟨512 + (⟨64 * g + r, by omega⟩ : Fin 128).val, by show 512 + (64 * g.val + r.val) < 640; omega⟩ := fun _ =>
      Fin.ext (by show 512 + (64 * (g.val % 2) + r.val) = 512 + (64 * g.val + r.val); omega)
    refine (congrArg (fun n => bodyT arg2 harg2 arg3 harg3 arg4 harg4 arg5 harg5 arg6 harg6 x0 x1 x2 x3 x4 j (ix2 n p)) (e _)).trans ?_
    exact bodyT_value arg2 harg2 arg3 harg3 arg4 harg4 arg5 harg5 arg6 harg6 T j p ⟨64 * g + r, by omega⟩
  · refine (dif_neg (show ¬ r.val < 64 from hr)).trans ?_
    rw [dif_neg hr]

theorem keys_tile (arg8 : Memref sig .tc .vmem S128x128 .bf16) (harg8 : arg8.IsWhole) (arg9 : Memref sig .tc .vmem S1x128 .f32) (harg9 : arg9.IsWhole) (arg11 : Memref sig .tc .vmem S1024x128 .f32) (harg11 : arg11.IsWhole) (arg12 : Memref sig .tc .vmem S1024x128 .f32) (harg12 : arg12.IsWhole) (y : Fin 1024) (n : Fin 128) :
    View.canon (listK (bodyR arg2 harg2 arg3 harg3 arg4 harg4 arg5 harg5 arg7 harg7 x0 x1 x2 x3 x5)
        (arg8.view.readAt (Elt Ideal) (Rect.unit (s := S128x128) ![0, 0] S128x128.size inb_S128x128_S128x128_0_0).toLoadRect (harg8.unread x6))
        (arg9.view.readAt (Elt Ideal) (Rect.unit (s := S1x128) ![0, 0] S1x128.size inb_S1x128_S1x128_0_0).toLoadRect (harg9.unread x7))
        (tableK arg11.view (harg11.unread x9)) (tableK arg12.view (harg12.unread x10)) 4) (ix3 0 y n)
      = keysAt X SH SC G W KG C S b ⟨1024 * q + y, by omega⟩ n := by
  rw [read_plane arg8 harg8 x6, read_plane arg9 harg9 x7]
  refine (canon_keys _ _ _ _ _ y n).trans ?_
  have ep : ∀ h, (⟨q.val * 1024 + (256 * (y.val / 256 % 4) + y.val % 256), h⟩ : Fin 4096) = ⟨1024 * q + y, by omega⟩ := fun h => Fin.ext (by
    show q.val * 1024 + (256 * (y.val / 256 % 4) + y.val % 256) = 1024 * q.val + y.val
    omega)
  have en : n = ⟨64 * (⟨n / 64, by omega⟩ : Fin 2).val + (⟨n % 64, by omega⟩ : Fin 64).val, by show 64 * (n.val / 64) + n.val % 64 < 128; omega⟩ :=
    Fin.ext (by show n.val = 64 * (n.val / 64) + n.val % 64; omega)
  have lane : ∀ (h : ℕ) (a : Fin 2) (f : Fin 16),
      (64 * h + (32 * a.val + f.val)) % 64 / 32 = a.val ∧ (64 * h + (32 * a.val + f.val)) % 32 = f.val
        ∧ (64 * h + (32 * a.val + 16 + f.val)) % 64 / 32 = a.val ∧ (64 * h + (32 * a.val + 16 + f.val)) % 32 = 16 + f.val := fun h a f => by
    omega
  refine (congrArg (fun n => kRows _ _ _ _ _ (ix3 0 _ n)) en).trans ?_
  refine (kRows_head _ _ _ _ _ (fun d => KG (ix1 d)) (fun a f => C (ix3 ⟨1024 * q + y, by omega⟩ a f))
    (fun a f => S (ix3 ⟨1024 * q + y, by omega⟩ a f)) (fun a b => ?_) (fun n => ?_) ⟨y % 256, by omega⟩ ⟨n / 64, by omega⟩
    (fun a f => ?_) (fun a f => ?_) (fun a f => ?_) (fun a f => ?_) ⟨n % 64, by omega⟩).trans ?_
  · rw [T.mean, Host.meanM_apply, Host.eye2_apply]
    simp only [Fin.mk.injEq]
    rfl
  · rw [T.keyGain, Host.gainK_apply]
  · refine (read_tableK arg11 harg11 x9 (y / 256) ⟨y % 256, by omega⟩ _).trans ?_
    rw [T.cosines, ep, Host.both_apply]
    simp only [lane]
    exact Host.cosK_low C _ a f
  · refine (read_tableK arg11 harg11 x9 (y / 256) ⟨y % 256, by omega⟩ _).trans ?_
    rw [T.cosines, ep, Host.both_apply]
    simp only [lane]
    exact Host.cosK_high C _ a f
  · refine (read_tableK arg12 harg12 x10 (y / 256) ⟨y % 256, by omega⟩ _).trans ?_
    rw [T.sines, ep, Host.both_apply]
    simp only [lane]
    exact Host.sinK_low S _ a f
  · refine (read_tableK arg12 harg12 x10 (y / 256) ⟨y % 256, by omega⟩ _).trans ?_
    rw [T.sines, ep, Host.both_apply]
    simp only [lane]
    exact Host.sinK_high S _ a f
  · unfold keysAt
    refine congrArg (fun z => head z (fun d => KG (ix1 d)) (fun a f => C (ix3 ⟨1024 * q + y, by omega⟩ a f))
      (fun a f => S (ix3 ⟨1024 * q + y, by omega⟩ a f)) _) (funext fun i => ?_)
    refine (bodyR_key arg2 harg2 arg3 harg3 arg4 harg4 arg5 harg5 arg7 harg7 T ⟨y / 256, by omega⟩ ⟨y % 256, by omega⟩ ⟨64 * (n / 64) + i, by omega⟩).trans ?_
    exact congrArg (fun t => projected X SH SC G W b t _) (Fin.ext (by
      show 256 * (4 * q.val + y.val / 256) + y.val % 256 = 1024 * q.val + y.val
      omega))

theorem pools_tile (y : Fin 1024) (n : Fin 256) :
    View.canon (listU (bodyR arg2 harg2 arg3 harg3 arg4 harg4 arg5 harg5 arg7 harg7 x0 x1 x2 x3 x5) 4) (ix3 0 y n)
      = poolsAt X SH SC G W b ⟨1024 * q + y, by omega⟩ n := by
  refine (canon_pools _ y n).trans ?_
  refine (pool_apply _ ⟨y % 256, by omega⟩ n).trans ?_
  refine (bodyR_rest arg2 harg2 arg3 harg3 arg4 harg4 arg5 harg5 arg7 harg7 T ⟨y / 256, by omega⟩ ⟨y % 256, by omega⟩ ⟨n, by omega⟩).trans ?_
  exact congrArg (fun t => projected X SH SC G W b t _) (Fin.ext (by
    show 256 * (4 * q.val + y.val / 256) + y.val % 256 = 1024 * q.val + y.val
    omega))

omit T in
/-- A column of the block diagonal weights. -/
theorem diagonal_sum (g : Vec Ideal S4x64x64 .f32) (x : Fin 256 → EReal) (n : Fin 256) :
    ∑ k : Fin 256, x k * Host.diag4 g (ix2 k n)
      = ∑ k : Fin 64, x ⟨64 * (n / 64) + k, by omega⟩ * g (ix3 ⟨n / 64, by omega⟩ k ⟨n % 64, by omega⟩) := by
  refine Eq.trans (Finset.sum_congr rfl fun k _ => ?_)
    ((sum_own 4 x (fun k => g (ix3 ⟨n / 64, by omega⟩ k ⟨n % 64, by omega⟩)) ⟨n / 64, by omega⟩).trans
      (Finset.sum_congr rfl fun i _ => ?_))
  · rw [Host.diag4_apply, Host.eye4_apply]
    simp only [Fin.mk.injEq]
    by_cases h : k.val / 64 = n.val / 64
    · simp only [if_pos h, h]
    · simp only [if_neg h, zero_mul]
  · exact congrArg (fun a => x a * _) (Fin.ext (by show n.val / 64 * 64 + i.val = 64 * (n.val / 64) + i.val; omega))

theorem fouriers_tile (vs : View sig .tc .vmem S4x256x128 .f32) (arg13 : Memref sig .tc .vmem S256x512 .bf16) (harg13 : arg13.IsWhole) (par w : Fin 2) (r : Fin 512) (n : Fin 256) :
    View.canon (listF (bodyR arg2 harg2 arg3 harg3 arg4 harg4 arg5 harg5 arg7 harg7 x0 x1 x2 x3 x5) (bodyAb arg13 harg13 x11) vs 32)
      (ix5 0 par w r n) = fouriersAt X SH SC G W GR GI b par w ⟨512 * q + r, by omega⟩ n := by
  refine (canon_fouriers _ _ vs par w r n).trans ?_
  refine (fPart_apply _ _ _ ⟨par + 2 * (r % 128), by omega⟩ ⟨n % 128, by omega⟩).trans ?_
  have row : ∀ k : Fin 256, (bodyR arg2 harg2 arg3 harg3 arg4 harg4 arg5 harg5 arg7 harg7 x0 x1 x2 x3 x5) (r.val / 128) (ix2 ⟨par + 2 * (r % 128), by omega⟩ ⟨384 + k, by omega⟩)
      = projected X SH SC G W b ⟨par + 2 * (512 * q + r), by omega⟩ ⟨1024 + k, by omega⟩ := fun k => by
    have e : (⟨384 + k.val, by omega⟩ : Fin 640) = ⟨128 + (⟨256 + k, by omega⟩ : Fin 512).val, by show 128 + (256 + k.val) < 640; omega⟩ :=
      Fin.ext (by show 384 + k.val = 128 + (256 + k.val); omega)
    refine (congrArg (fun n => (bodyR arg2 harg2 arg3 harg3 arg4 harg4 arg5 harg5 arg7 harg7 x0 x1 x2 x3 x5) (r.val / 128) (ix2 ⟨par + 2 * (r % 128), by omega⟩ n)) e).trans ?_
    refine (bodyR_rest arg2 harg2 arg3 harg3 arg4 harg4 arg5 harg5 arg7 harg7 T ⟨r / 128, by omega⟩ ⟨par + 2 * (r % 128), by omega⟩ ⟨256 + k, by omega⟩).trans ?_
    refine congrArg₂ (fun t n => projected X SH SC G W b t n) (Fin.ext ?_) (Fin.ext ?_)
    · show 256 * (4 * q.val + r.val / 128) + (par.val + 2 * (r.val % 128)) = par.val + 2 * (512 * q.val + r.val)
      omega
    · show 768 + (256 + k.val) = 1024 + k.val
      omega
  have weight : ∀ k : Fin 256, bodyAb arg13 harg13 x11 (ix2 k ⟨128 * ((2 * w.val + n.val / 128) % 4) + n % 128, by omega⟩)
      = Host.diag4 (if w = 0 then GR else GI) (ix2 k n) := fun k => by
    unfold bodyAb
    rw [read_plane arg13 harg13 x11, T.blocks]
    obtain rfl | rfl : w = 0 ∨ w = 1 := by omega
    · rw [if_pos rfl, ← Host.wF_real GR GI]
      exact congrArg (fun n => Host.wF GR GI (ix2 k n)) (Fin.ext (by show 128 * ((2 * 0 + n.val / 128) % 4) + n.val % 128 = n.val; omega))
    · rw [if_neg (by decide), ← Host.wF_imag GR GI]
      exact congrArg (fun n => Host.wF GR GI (ix2 k n)) (Fin.ext (by show 128 * ((2 * 1 + n.val / 128) % 4) + n.val % 128 = 256 + n.val; omega))
  refine (Finset.sum_congr rfl fun k _ => congrArg₂ (· * ·) (row k) (weight k)).trans ?_
  exact diagonal_sum _ (fun k => projected X SH SC G W b ⟨par + 2 * (512 * q + r), by omega⟩ ⟨1024 + k, by omega⟩) n

end

end Cert.InProjIdeal.Chain

end

end
-- ==== Proof.InProjOperands.lean ====
module

public import proofs.«01_k».proof.Proof.Gen.InProjIdeal.Value
public import proofs.«01_k».proof.Proof.InProjHost

@[expose] public section

/-! # The input projection's operands after the host operations -/

noncomputable section

namespace Cert.InProjIdeal.Host

open Cert.InProjIdeal Cert.InProjIdeal.Gen Idealize Idealize.ShloMosaic Idealize.ShloMosaic.TcCoe

variable (m : (ℓ : Loc nD τ sig) → Buf (Elt Ideal) ℓ)

theorem V_v4 (c : Dev nD) : V m c main_v4 = (wT (m ((c : Thread nD τ).loc main_arg4)) : Vec Ideal S640x1024 .f32) := by
  unfold V
  after_results
  rfl

theorem V_v8 (c : Dev nD) : V m c main_v8 = (wR (m ((c : Thread nD τ).loc main_arg4)) : Vec Ideal S1024x640 .f32) := by
  unfold V
  after_results
  rfl

theorem V_v34 (c : Dev nD) : V m c main_v34
    = (wF (m ((c : Thread nD τ).loc main_arg9)) (m ((c : Thread nD τ).loc main_arg10)) : Vec Ideal S256x512 .f32) := by
  unfold V
  after_results
  rfl

theorem V_v48 (c : Dev nD) : V m c main_v48 = (meanM : Vec Ideal S128x128 .f32) := by
  unfold V
  after_results
  rfl

theorem V_v52 (c : Dev nD) : V m c main_v52 = (gainK (m ((c : Thread nD τ).loc main_arg6)) : Vec Ideal S1x128 .f32) := by
  unfold V
  after_results
  rfl

theorem V_v53 (c : Dev nD) : V m c main_v53 = (rowG (m ((c : Thread nD τ).loc main_arg3)) : Vec Ideal S1x1024 .f32) := by
  unfold V
  after_results
  rfl

theorem V_v61 (c : Dev nD) : V m c main_v61 = (both (cosK (m ((c : Thread nD τ).loc main_arg7))) : Vec Ideal S4096x128 .f32) := by
  unfold V
  after_results
  rfl

theorem V_v64 (c : Dev nD) : V m c main_v64 = (both (sinK (m ((c : Thread nD τ).loc main_arg8))) : Vec Ideal S4096x128 .f32) := by
  unfold V
  after_results
  rfl

theorem V_v89 (c : Dev nD) : V m c main_v89 = (tabQ (m ((c : Thread nD τ).loc main_arg5)) (m ((c : Thread nD τ).loc main_arg7))
    (m ((c : Thread nD τ).loc main_arg8)) : Vec Ideal S128x4096 .f32) := by
  unfold V
  after_results
  rfl

end Cert.InProjIdeal.Host

end

end
-- ==== Proof.InProjArray.lean ====
module

public import proofs.«01_k».proof.Proof.InProjTile
public import proofs.«01_k».proof.Proof.InProjOperands
public import Idealize.ShloMosaic.Lib.Pipeline.Covers

@[expose] public section

/-! # What the input projection's output arrays hold after the run -/

noncomputable section

namespace Cert.InProjIdeal.Chain

open Cert.InProjIdeal Cert.InProjIdeal.Gen Cert.InProjMath Idealize Idealize.ShloMosaic Idealize.ShloMosaic.TcCoe

variable (m : (ℓ : Loc nD τ sig) → Buf (Elt Ideal) ℓ) (c : Dev nD)

abbrev argX : Vec Ideal S16x4096x1024 .f32 := m ((c : Thread nD τ).loc main_arg0)
abbrev argSH : Vec Ideal S16x1x1024 .f32 := m ((c : Thread nD τ).loc main_arg1)
abbrev argSC : Vec Ideal S16x1x1024 .f32 := m ((c : Thread nD τ).loc main_arg2)
abbrev argG : Vec Ideal S1024 .f32 := m ((c : Thread nD τ).loc main_arg3)
abbrev argW : Vec Ideal S1024x1280 .f32 := m ((c : Thread nD τ).loc main_arg4)
abbrev argQG : Vec Ideal S64 .f32 := m ((c : Thread nD τ).loc main_arg5)
abbrev argKG : Vec Ideal S64 .f32 := m ((c : Thread nD τ).loc main_arg6)
abbrev argC : Vec Ideal S4096x2x16 .f32 := m ((c : Thread nD τ).loc main_arg7)
abbrev argS : Vec Ideal S4096x2x16 .f32 := m ((c : Thread nD τ).loc main_arg8)
abbrev argGR : Vec Ideal S4x64x64 .f32 := m ((c : Thread nD τ).loc main_arg9)
abbrev argGI : Vec Ideal S4x64x64 .f32 := m ((c : Thread nD τ).loc main_arg10)

/-! ## The arrays -/

section
variable (X : Vec Ideal S16x4096x1024 .f32) (SH SC : Vec Ideal S16x1x1024 .f32) (G : Vec Ideal S1024 .f32) (W : Vec Ideal S1024x1280 .f32)
variable (QG KG : Vec Ideal S64 .f32) (C S : Vec Ideal S4096x2x16 .f32) (GR GI : Vec Ideal S4x64x64 .f32)

def arrQ : Vec Ideal S16x16x8x128x256 .bf16 := fun y => queriesAt X SH SC G W QG C S (y 0) (y 1) (y 2) (y 3) (y 4)

def arrK : Vec Ideal S16x4096x128 .bf16 := fun y => keysAt X SH SC G W KG C S (y 0) (y 1) (y 2)

def arrV : Vec Ideal S16x2x16x80x256 .bf16 := fun y => valuesAt X SH SC G W (y 0) (y 1) (y 2) (y 3) (y 4)

def arrU : Vec Ideal S16x4096x256 .f32 := fun y => poolsAt X SH SC G W (y 0) (y 1) (y 2)

def arrF : Vec Ideal S16x2x2x2048x256 .bf16 := fun y => fouriersAt X SH SC G W GR GI (y 0) (y 1) (y 2) (y 3) (y 4)

end

/-! ## The blocks are tiles of the arguments -/

theorem index0 (t : Fin cfg0.N) : win0_0.index t = ![(grid0.coords t 0).val, (grid0.coords t 1).val, 0] := by
  revert t; decide +kernel
theorem index1 (t : Fin cfg0.N) : win0_1.index t = ![(grid0.coords t 0).val, 0, 0] := by
  revert t; decide +kernel
theorem index2 (t : Fin cfg0.N) : win0_2.index t = ![(grid0.coords t 0).val, 0, 0] := by
  revert t; decide +kernel
theorem index3 (t : Fin cfg0.N) : win0_3.index t = ![0, 0] := by
  revert t; decide +kernel
theorem index4 (t : Fin cfg0.N) : win0_4.index t = ![0, 0] := by
  revert t; decide +kernel
theorem index5 (t : Fin cfg0.N) : win0_5.index t = ![0, 0] := by
  revert t; decide +kernel
theorem index6 (t : Fin cfg0.N) : win0_6.index t = ![0, 0] := by
  revert t; decide +kernel
theorem index7 (t : Fin cfg0.N) : win0_7.index t = ![0, 0] := by
  revert t; decide +kernel
theorem index8 (t : Fin cfg0.N) : win0_8.index t = ![0, (grid0.coords t 1).val] := by
  revert t; decide +kernel
theorem index9 (t : Fin cfg0.N) : win0_9.index t = ![(grid0.coords t 1).val, 0] := by
  revert t; decide +kernel
theorem index10 (t : Fin cfg0.N) : win0_10.index t = ![(grid0.coords t 1).val, 0] := by
  revert t; decide +kernel
theorem index11 (t : Fin cfg0.N) : win0_11.index t = ![0, 0] := by
  revert t; decide +kernel
theorem index12 (t : Fin cfg0.N) : win0_12.index t = ![(grid0.coords t 0).val, (grid0.coords t 1).val, 0, 0, 0] := by
  revert t; decide +kernel
theorem index13 (t : Fin cfg0.N) : win0_13.index t = ![(grid0.coords t 0).val, (grid0.coords t 1).val, 0] := by
  revert t; decide +kernel
theorem index14 (t : Fin cfg0.N) : win0_14.index t = ![(grid0.coords t 0).val, 0, (grid0.coords t 1).val, 0, 0] := by
  revert t; decide +kernel
theorem index15 (t : Fin cfg0.N) : win0_15.index t = ![(grid0.coords t 0).val, (grid0.coords t 1).val, 0] := by
  revert t; decide +kernel
theorem index16 (t : Fin cfg0.N) : win0_16.index t = ![(grid0.coords t 0).val, 0, 0, (grid0.coords t 1).val, 0] := by
  revert t; decide +kernel

section
variable (t : Fin cfg0.N)

theorem row_lt (p : Fin 1024) : (grid0.coords t 1).val * 1024 + p.val < 4096 := by
  have := (grid0.coords t 1).isLt
  change _ < 4 at this
  omega

theorem tile_tokens (p k : Fin 1024) : (iblk m c 0 t : Vec Ideal S1x1024x1024 .f32) (ix3 0 p k)
    = argX m c (ix3 (grid0.coords t 0) ⟨(grid0.coords t 1).val * 1024 + p, row_lt t p⟩ k) := by
  rw [argX, ← V_main_arg0 m c]
  blk_ext [iblk, index0 t]

theorem tile_shift (k : Fin 1024) : (iblk m c 1 t : Vec Ideal S1x1x1024 .f32) (ix3 0 0 k) = argSH m c (ix3 (grid0.coords t 0) 0 k) := by
  rw [argSH, ← V_main_arg1 m c]
  blk_ext [iblk, index1 t]

theorem tile_gain (k : Fin 1024) : (iblk m c 2 t : Vec Ideal S1x1x1024 .f32) (ix3 0 0 k) = argSC m c (ix3 (grid0.coords t 0) 0 k) := by
  rw [argSC, ← V_main_arg2 m c]
  blk_ext [iblk, index2 t]

theorem tile_row : (iblk m c 3 t : Vec Ideal S1x1024 .f32) = Host.rowG (argG m c) := by
  rw [← Host.V_v53 m c]
  funext y
  blk_ext [iblk, index3 t]

theorem tile_rows : (iblk m c 4 t : Vec Ideal S640x1024 .bf16) = (Host.wT (argW m c) : Vec Ideal S640x1024 .f32) := by
  rw [← Host.V_v4 m c]
  funext y
  blk_ext [iblk, index4 t]

theorem tile_columns : (iblk m c 5 t : Vec Ideal S1024x640 .bf16) = (Host.wR (argW m c) : Vec Ideal S1024x640 .f32) := by
  rw [← Host.V_v8 m c]
  funext y
  blk_ext [iblk, index5 t]

theorem tile_mean : (iblk m c 6 t : Vec Ideal S128x128 .bf16) = (Host.meanM : Vec Ideal S128x128 .f32) := by
  rw [← Host.V_v48 m c]
  funext y
  blk_ext [iblk, index6 t]

theorem tile_keyGain : (iblk m c 7 t : Vec Ideal S1x128 .f32) = Host.gainK (argKG m c) := by
  rw [← Host.V_v52 m c]
  funext y
  blk_ext [iblk, index7 t]

theorem tile_table (r : Fin 128) (p : Fin 1024) : (iblk m c 8 t : Vec Ideal S128x1024 .f32) (ix2 r p)
    = Host.tabQ (argQG m c) (argC m c) (argS m c) (ix2 r ⟨(grid0.coords t 1).val * 1024 + p, row_lt t p⟩) := by
  rw [← Host.V_v89 m c]
  blk_ext [iblk, index8 t]

theorem tile_cosines (p : Fin 1024) (n : Fin 128) : (iblk m c 9 t : Vec Ideal S1024x128 .f32) (ix2 p n)
    = Host.both (Host.cosK (argC m c)) (ix2 ⟨(grid0.coords t 1).val * 1024 + p, row_lt t p⟩ n) := by
  rw [← Host.V_v61 m c]
  blk_ext [iblk, index9 t]

theorem tile_sines (p : Fin 1024) (n : Fin 128) : (iblk m c 10 t : Vec Ideal S1024x128 .f32) (ix2 p n)
    = Host.both (Host.sinK (argS m c)) (ix2 ⟨(grid0.coords t 1).val * 1024 + p, row_lt t p⟩ n) := by
  rw [← Host.V_v64 m c]
  blk_ext [iblk, index10 t]

theorem tile_blocks : (iblk m c 11 t : Vec Ideal S256x512 .bf16) = (Host.wF (argGR m c) (argGI m c) : Vec Ideal S256x512 .f32) := by
  rw [← Host.V_v34 m c]
  funext y
  blk_ext [iblk, index11 t]

/-- The input blocks at grid point `t` are tile `t`'s. -/
theorem tiles : Tiles (argX m c) (argSH m c) (argSC m c) (argG m c) (argW m c) (argQG m c) (argKG m c) (argC m c) (argS m c)
    (argGR m c) (argGI m c) (grid0.coords t 0) (grid0.coords t 1) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) :=
  ⟨tile_tokens m c t, tile_shift m c t, tile_gain m c t, tile_row m c t, tile_rows m c t, tile_columns m c t, tile_mean m c t,
    tile_keyGain m c t, tile_table m c t, tile_cosines m c t, tile_sines m c t, tile_blocks m c t⟩

end

/-! ## What a grid point leaves -/

section
variable (t : Fin cfg0.N)

theorem point_queries (j : Fin 4) (h : Fin 8) (r : Fin 128) (p : Fin 256) : (outsAt0 m c t).1 (ix5 0 j h r p)
    = queriesAt (argX m c) (argSH m c) (argSC m c) (argG m c) (argW m c) (argQG m c) (argC m c) (argS m c) (grid0.coords t 0)
        ⟨4 * (grid0.coords t 1).val + j, by have := (grid0.coords t 1).isLt; change _ < 4 at this; omega⟩ h r p := by
  dsimp only [outsAt0]
  rw [out0_A_12, View.read_writes_junk_eq_canon, queries_eq]
  exact queries_tile _ _ _ _ _ _ _ _ _ _ (tiles m c t) _ _ j h r p

theorem point_keys (y : Fin 1024) (n : Fin 128) : (outsAt0 m c t).2.1 (ix3 0 y n)
    = keysAt (argX m c) (argSH m c) (argSC m c) (argG m c) (argW m c) (argKG m c) (argC m c) (argS m c) (grid0.coords t 0)
        ⟨1024 * (grid0.coords t 1).val + y, by have := (grid0.coords t 1).isLt; change _ < 4 at this; omega⟩ n := by
  dsimp only [outsAt0]
  rw [out0_A_13, View.read_writes_junk_eq_canon, keys_eq]
  exact keys_tile _ _ _ _ _ _ _ _ _ _ (tiles m c t) _ _ _ _ _ _ _ _ y n

theorem point_values (g : Fin 2) (j : Fin 4) (r : Fin 80) (p : Fin 256) : (outsAt0 m c t).2.2.1 (ix5 0 g j r p)
    = valuesAt (argX m c) (argSH m c) (argSC m c) (argG m c) (argW m c) (grid0.coords t 0) g
        ⟨4 * (grid0.coords t 1).val + j, by have := (grid0.coords t 1).isLt; change _ < 4 at this; omega⟩ r p := by
  dsimp only [outsAt0]
  rw [out0_A_14, View.read_writes_junk_eq_canon, values_eq]
  exact values_tile _ _ _ _ _ _ _ _ _ _ (tiles m c t) g j r p

theorem point_pools (y : Fin 1024) (n : Fin 256) : (outsAt0 m c t).2.2.2.1 (ix3 0 y n)
    = poolsAt (argX m c) (argSH m c) (argSC m c) (argG m c) (argW m c) (grid0.coords t 0)
        ⟨1024 * (grid0.coords t 1).val + y, by have := (grid0.coords t 1).isLt; change _ < 4 at this; omega⟩ n := by
  dsimp only [outsAt0]
  rw [out0_A_15, View.read_writes_junk_eq_canon, pools_eq]
  exact pools_tile _ _ _ _ _ _ _ _ _ _ (tiles m c t) y n

theorem point_fouriers (par w : Fin 2) (r : Fin 512) (n : Fin 256) : (outsAt0 m c t).2.2.2.2 (ix5 0 par w r n)
    = fouriersAt (argX m c) (argSH m c) (argSC m c) (argG m c) (argW m c) (argGR m c) (argGI m c) (grid0.coords t 0) par w
        ⟨512 * (grid0.coords t 1).val + r, by have := (grid0.coords t 1).isLt; change _ < 4 at this; omega⟩ n := by
  dsimp only [outsAt0]
  rw [out0_A_16, View.read_writes_junk_eq_canon, fouriers_eq]
  exact fouriers_tile _ _ _ _ _ _ _ _ _ _ (tiles m c t) _ _ _ par w r n

end

/-! ## Every block is written -/

/-- The grid's point for tile `q` of batch `b`. -/
def point (b : Fin 16) (q : Fin 4) : grid0.Coords := fun a => match a with
  | ⟨0, _⟩ => b
  | ⟨1, _⟩ => q

theorem small (n : ℕ) (h : n < 2 ^ 32) : (BitVec.ofNat 32 n).toNat = n := by
  rw [BitVec.toNat_ofNat]
  exact Nat.mod_eq_of_lt h

theorem covers12 : (cfg0.win 12).Covers :=
  (cfg0.win 12).covers_of_indexMap_surj rfl (by decide) fun β =>
    have hb : (β ⟨0, by decide⟩).val < 16 := lt_of_lt_of_eq (β ⟨0, by decide⟩).isLt (by decide : (cfg0.win 12).nblk ⟨0, by decide⟩ = 16)
    have hq : (β ⟨1, by decide⟩).val < 4 := lt_of_lt_of_eq (β ⟨1, by decide⟩).isLt (by decide : (cfg0.win 12).nblk ⟨1, by decide⟩ = 4)
    ⟨point ⟨(β ⟨0, by decide⟩).val, hb⟩ ⟨(β ⟨1, by decide⟩).val, hq⟩, fun a => by
      match a with
      | ⟨0, _⟩ => exact small (β ⟨0, by decide⟩).val (by omega)
      | ⟨1, _⟩ => exact small (β ⟨1, by decide⟩).val (by omega)
      | ⟨2, _⟩ => exact (Nat.lt_one_iff.1 (lt_of_lt_of_eq (β ⟨2, by decide⟩).isLt (by decide : (cfg0.win 12).nblk ⟨2, by decide⟩ = 1))).symm
      | ⟨3, _⟩ => exact (Nat.lt_one_iff.1 (lt_of_lt_of_eq (β ⟨3, by decide⟩).isLt (by decide : (cfg0.win 12).nblk ⟨3, by decide⟩ = 1))).symm
      | ⟨4, _⟩ => exact (Nat.lt_one_iff.1 (lt_of_lt_of_eq (β ⟨4, by decide⟩).isLt (by decide : (cfg0.win 12).nblk ⟨4, by decide⟩ = 1))).symm⟩

theorem covers13 : (cfg0.win 13).Covers :=
  (cfg0.win 13).covers_of_indexMap_surj rfl (by decide) fun β =>
    have hb : (β ⟨0, by decide⟩).val < 16 := lt_of_lt_of_eq (β ⟨0, by decide⟩).isLt (by decide : (cfg0.win 13).nblk ⟨0, by decide⟩ = 16)
    have hq : (β ⟨1, by decide⟩).val < 4 := lt_of_lt_of_eq (β ⟨1, by decide⟩).isLt (by decide : (cfg0.win 13).nblk ⟨1, by decide⟩ = 4)
    ⟨point ⟨(β ⟨0, by decide⟩).val, hb⟩ ⟨(β ⟨1, by decide⟩).val, hq⟩, fun a => by
      match a with
      | ⟨0, _⟩ => exact small (β ⟨0, by decide⟩).val (by omega)
      | ⟨1, _⟩ => exact small (β ⟨1, by decide⟩).val (by omega)
      | ⟨2, _⟩ => exact (Nat.lt_one_iff.1 (lt_of_lt_of_eq (β ⟨2, by decide⟩).isLt (by decide : (cfg0.win 13).nblk ⟨2, by decide⟩ = 1))).symm⟩

theorem covers14 : (cfg0.win 14).Covers :=
  (cfg0.win 14).covers_of_indexMap_surj rfl (by decide) fun β =>
    have hb : (β ⟨0, by decide⟩).val < 16 := lt_of_lt_of_eq (β ⟨0, by decide⟩).isLt (by decide : (cfg0.win 14).nblk ⟨0, by decide⟩ = 16)
    have hq : (β ⟨2, by decide⟩).val < 4 := lt_of_lt_of_eq (β ⟨2, by decide⟩).isLt (by decide : (cfg0.win 14).nblk ⟨2, by decide⟩ = 4)
    ⟨point ⟨(β ⟨0, by decide⟩).val, hb⟩ ⟨(β ⟨2, by decide⟩).val, hq⟩, fun a => by
      match a with
      | ⟨0, _⟩ => exact small (β ⟨0, by decide⟩).val (by omega)
      | ⟨1, _⟩ => exact (Nat.lt_one_iff.1 (lt_of_lt_of_eq (β ⟨1, by decide⟩).isLt (by decide : (cfg0.win 14).nblk ⟨1, by decide⟩ = 1))).symm
      | ⟨2, _⟩ => exact small (β ⟨2, by decide⟩).val (by omega)
      | ⟨3, _⟩ => exact (Nat.lt_one_iff.1 (lt_of_lt_of_eq (β ⟨3, by decide⟩).isLt (by decide : (cfg0.win 14).nblk ⟨3, by decide⟩ = 1))).symm
      | ⟨4, _⟩ => exact (Nat.lt_one_iff.1 (lt_of_lt_of_eq (β ⟨4, by decide⟩).isLt (by decide : (cfg0.win 14).nblk ⟨4, by decide⟩ = 1))).symm⟩

theorem covers15 : (cfg0.win 15).Covers :=
  (cfg0.win 15).covers_of_indexMap_surj rfl (by decide) fun β =>
    have hb : (β ⟨0, by decide⟩).val < 16 := lt_of_lt_of_eq (β ⟨0, by decide⟩).isLt (by decide : (cfg0.win 15).nblk ⟨0, by decide⟩ = 16)
    have hq : (β ⟨1, by decide⟩).val < 4 := lt_of_lt_of_eq (β ⟨1, by decide⟩).isLt (by decide : (cfg0.win 15).nblk ⟨1, by decide⟩ = 4)
    ⟨point ⟨(β ⟨0, by decide⟩).val, hb⟩ ⟨(β ⟨1, by decide⟩).val, hq⟩, fun a => by
      match a with
      | ⟨0, _⟩ => exact small (β ⟨0, by decide⟩).val (by omega)
      | ⟨1, _⟩ => exact small (β ⟨1, by decide⟩).val (by omega)
      | ⟨2, _⟩ => exact (Nat.lt_one_iff.1 (lt_of_lt_of_eq (β ⟨2, by decide⟩).isLt (by decide : (cfg0.win 15).nblk ⟨2, by decide⟩ = 1))).symm⟩

theorem covers16 : (cfg0.win 16).Covers :=
  (cfg0.win 16).covers_of_indexMap_surj rfl (by decide) fun β =>
    have hb : (β ⟨0, by decide⟩).val < 16 := lt_of_lt_of_eq (β ⟨0, by decide⟩).isLt (by decide : (cfg0.win 16).nblk ⟨0, by decide⟩ = 16)
    have hq : (β ⟨3, by decide⟩).val < 4 := lt_of_lt_of_eq (β ⟨3, by decide⟩).isLt (by decide : (cfg0.win 16).nblk ⟨3, by decide⟩ = 4)
    ⟨point ⟨(β ⟨0, by decide⟩).val, hb⟩ ⟨(β ⟨3, by decide⟩).val, hq⟩, fun a => by
      match a with
      | ⟨0, _⟩ => exact small (β ⟨0, by decide⟩).val (by omega)
      | ⟨1, _⟩ => exact (Nat.lt_one_iff.1 (lt_of_lt_of_eq (β ⟨1, by decide⟩).isLt (by decide : (cfg0.win 16).nblk ⟨1, by decide⟩ = 1))).symm
      | ⟨2, _⟩ => exact (Nat.lt_one_iff.1 (lt_of_lt_of_eq (β ⟨2, by decide⟩).isLt (by decide : (cfg0.win 16).nblk ⟨2, by decide⟩ = 1))).symm
      | ⟨3, _⟩ => exact small (β ⟨3, by decide⟩).val (by omega)
      | ⟨4, _⟩ => exact (Nat.lt_one_iff.1 (lt_of_lt_of_eq (β ⟨4, by decide⟩).isLt (by decide : (cfg0.win 16).nblk ⟨4, by decide⟩ = 1))).symm⟩

/-! ## The arrays after the run -/

/-- The queries after the run. -/
theorem queries_arr : (dats m 0 c).arrAt 12 cfg0.N
    = arrQ (argX m c) (argSH m c) (argSC m c) (argG m c) (argW m c) (argQG m c) (argC m c) (argS m c) := by
  refine (dats m 0 c).arrAt_eq_of_covers 12 _ covers12 fun t hf y => ?_
  blk_simp
  rw [after0_12]
  have h0 : (grid0.coords t 0).val < 16 := (grid0.coords t 0).isLt
  have hq : (grid0.coords t 1).val < 4 := (grid0.coords t 1).isLt
  have h1 : (y 1).val < 4 := (y 1).isLt
  have h2 : (y 2).val < 8 := (y 2).isLt
  have h3 : (y 3).val < 128 := (y 3).isLt
  have h4 : (y 4).val < 256 := (y 4).isLt
  have e : @Eq S16x16x8x128x256.Idx (((cfg0.win 12).blk t).view.emb y)
      (ix5 ⟨(grid0.coords t 0).val, h0⟩ ⟨4 * (grid0.coords t 1).val + (y 1).val, by omega⟩ ⟨(y 2).val, h2⟩ ⟨(y 3).val, h3⟩ ⟨(y 4).val, h4⟩) := by
    funext a
    match a with
    | ⟨0, _⟩ => exact Fin.ext (by blk_simp [index12 t])
    | ⟨1, _⟩ => exact Fin.ext (by blk_simp [index12 t]; show (grid0.coords t 1).val * 4 + (y 1).val = 4 * (grid0.coords t 1).val + (y 1).val; omega)
    | ⟨2, _⟩ => exact Fin.ext (by blk_simp [index12 t]; rfl)
    | ⟨3, _⟩ => exact Fin.ext (by blk_simp [index12 t]; rfl)
    | ⟨4, _⟩ => exact Fin.ext (by blk_simp [index12 t]; rfl)
  have hy : (y : S1x4x8x128x256.Idx) = ix5 0 ⟨(y 1).val, h1⟩ ⟨(y 2).val, h2⟩ ⟨(y 3).val, h3⟩ ⟨(y 4).val, h4⟩ := by
    funext a
    match a with
    | ⟨0, _⟩ => exact Fin.ext (by have := (y 0).isLt; change _ < 1 at this; show (y 0).val = 0; omega)
    | ⟨1, _⟩ => rfl
    | ⟨2, _⟩ => rfl
    | ⟨3, _⟩ => rfl
    | ⟨4, _⟩ => rfl
  refine (congrArg _ hy).trans ((point_queries m c t _ _ _ _).trans ?_)
  refine Eq.trans ?_ (congrArg _ e).symm
  rfl

/-- The keys after the run. -/
theorem keys_arr : (dats m 0 c).arrAt 13 cfg0.N
    = arrK (argX m c) (argSH m c) (argSC m c) (argG m c) (argW m c) (argKG m c) (argC m c) (argS m c) := by
  refine (dats m 0 c).arrAt_eq_of_covers 13 _ covers13 fun t hf y => ?_
  blk_simp
  rw [after0_13]
  have h0 : (grid0.coords t 0).val < 16 := (grid0.coords t 0).isLt
  have hq : (grid0.coords t 1).val < 4 := (grid0.coords t 1).isLt
  have h1 : (y 1).val < 1024 := (y 1).isLt
  have h2 : (y 2).val < 128 := (y 2).isLt
  have e : @Eq S16x4096x128.Idx (((cfg0.win 13).blk t).view.emb y)
      (ix3 ⟨(grid0.coords t 0).val, h0⟩ ⟨1024 * (grid0.coords t 1).val + (y 1).val, by omega⟩ ⟨(y 2).val, h2⟩) := by
    funext a
    match a with
    | ⟨0, _⟩ => exact Fin.ext (by blk_simp [index13 t])
    | ⟨1, _⟩ => exact Fin.ext (by blk_simp [index13 t]; show (grid0.coords t 1).val * 1024 + (y 1).val = 1024 * (grid0.coords t 1).val + (y 1).val; omega)
    | ⟨2, _⟩ => exact Fin.ext (by blk_simp [index13 t]; rfl)
  have hy : (y : S1x1024x128.Idx) = ix3 0 ⟨(y 1).val, h1⟩ ⟨(y 2).val, h2⟩ := by
    funext a
    match a with
    | ⟨0, _⟩ => exact Fin.ext (by have := (y 0).isLt; change _ < 1 at this; show (y 0).val = 0; omega)
    | ⟨1, _⟩ => rfl
    | ⟨2, _⟩ => rfl
  refine (congrArg _ hy).trans ((point_keys m c t _ _).trans ?_)
  refine Eq.trans ?_ (congrArg _ e).symm
  rfl

/-- The values after the run. -/
theorem values_arr : (dats m 0 c).arrAt 14 cfg0.N
    = arrV (argX m c) (argSH m c) (argSC m c) (argG m c) (argW m c) := by
  refine (dats m 0 c).arrAt_eq_of_covers 14 _ covers14 fun t hf y => ?_
  blk_simp
  rw [after0_14]
  have h0 : (grid0.coords t 0).val < 16 := (grid0.coords t 0).isLt
  have hq : (grid0.coords t 1).val < 4 := (grid0.coords t 1).isLt
  have h1 : (y 1).val < 2 := (y 1).isLt
  have h2 : (y 2).val < 4 := (y 2).isLt
  have h3 : (y 3).val < 80 := (y 3).isLt
  have h4 : (y 4).val < 256 := (y 4).isLt
  have e : @Eq S16x2x16x80x256.Idx (((cfg0.win 14).blk t).view.emb y)
      (ix5 ⟨(grid0.coords t 0).val, h0⟩ ⟨(y 1).val, h1⟩ ⟨4 * (grid0.coords t 1).val + (y 2).val, by omega⟩ ⟨(y 3).val, h3⟩ ⟨(y 4).val, h4⟩) := by
    funext a
    match a with
    | ⟨0, _⟩ => exact Fin.ext (by blk_simp [index14 t])
    | ⟨1, _⟩ => exact Fin.ext (by blk_simp [index14 t]; rfl)
    | ⟨2, _⟩ => exact Fin.ext (by blk_simp [index14 t]; show (grid0.coords t 1).val * 4 + (y 2).val = 4 * (grid0.coords t 1).val + (y 2).val; omega)
    | ⟨3, _⟩ => exact Fin.ext (by blk_simp [index14 t]; rfl)
    | ⟨4, _⟩ => exact Fin.ext (by blk_simp [index14 t]; rfl)
  have hy : (y : S1x2x4x80x256.Idx) = ix5 0 ⟨(y 1).val, h1⟩ ⟨(y 2).val, h2⟩ ⟨(y 3).val, h3⟩ ⟨(y 4).val, h4⟩ := by
    funext a
    match a with
    | ⟨0, _⟩ => exact Fin.ext (by have := (y 0).isLt; change _ < 1 at this; show (y 0).val = 0; omega)
    | ⟨1, _⟩ => rfl
    | ⟨2, _⟩ => rfl
    | ⟨3, _⟩ => rfl
    | ⟨4, _⟩ => rfl
  refine (congrArg _ hy).trans ((point_values m c t _ _ _ _).trans ?_)
  refine Eq.trans ?_ (congrArg _ e).symm
  rfl

/-- The pooling mixer's columns after the run. -/
theorem pools_arr : (dats m 0 c).arrAt 15 cfg0.N
    = arrU (argX m c) (argSH m c) (argSC m c) (argG m c) (argW m c) := by
  refine (dats m 0 c).arrAt_eq_of_covers 15 _ covers15 fun t hf y => ?_
  blk_simp
  rw [after0_15]
  have h0 : (grid0.coords t 0).val < 16 := (grid0.coords t 0).isLt
  have hq : (grid0.coords t 1).val < 4 := (grid0.coords t 1).isLt
  have h1 : (y 1).val < 1024 := (y 1).isLt
  have h2 : (y 2).val < 256 := (y 2).isLt
  have e : @Eq S16x4096x256.Idx (((cfg0.win 15).blk t).view.emb y)
      (ix3 ⟨(grid0.coords t 0).val, h0⟩ ⟨1024 * (grid0.coords t 1).val + (y 1).val, by omega⟩ ⟨(y 2).val, h2⟩) := by
    funext a
    match a with
    | ⟨0, _⟩ => exact Fin.ext (by blk_simp [index15 t])
    | ⟨1, _⟩ => exact Fin.ext (by blk_simp [index15 t]; show (grid0.coords t 1).val * 1024 + (y 1).val = 1024 * (grid0.coords t 1).val + (y 1).val; omega)
    | ⟨2, _⟩ => exact Fin.ext (by blk_simp [index15 t]; rfl)
  have hy : (y : S1x1024x256.Idx) = ix3 0 ⟨(y 1).val, h1⟩ ⟨(y 2).val, h2⟩ := by
    funext a
    match a with
    | ⟨0, _⟩ => exact Fin.ext (by have := (y 0).isLt; change _ < 1 at this; show (y 0).val = 0; omega)
    | ⟨1, _⟩ => rfl
    | ⟨2, _⟩ => rfl
  refine (congrArg _ hy).trans ((point_pools m c t _ _).trans ?_)
  refine Eq.trans ?_ (congrArg _ e).symm
  rfl

/-- The Fourier mixer's columns after the run. -/
theorem fouriers_arr : (dats m 0 c).arrAt 16 cfg0.N
    = arrF (argX m c) (argSH m c) (argSC m c) (argG m c) (argW m c) (argGR m c) (argGI m c) := by
  refine (dats m 0 c).arrAt_eq_of_covers 16 _ covers16 fun t hf y => ?_
  blk_simp
  rw [after0_16]
  have h0 : (grid0.coords t 0).val < 16 := (grid0.coords t 0).isLt
  have hq : (grid0.coords t 1).val < 4 := (grid0.coords t 1).isLt
  have h1 : (y 1).val < 2 := (y 1).isLt
  have h2 : (y 2).val < 2 := (y 2).isLt
  have h3 : (y 3).val < 512 := (y 3).isLt
  have h4 : (y 4).val < 256 := (y 4).isLt
  have e : @Eq S16x2x2x2048x256.Idx (((cfg0.win 16).blk t).view.emb y)
      (ix5 ⟨(grid0.coords t 0).val, h0⟩ ⟨(y 1).val, h1⟩ ⟨(y 2).val, h2⟩ ⟨512 * (grid0.coords t 1).val + (y 3).val, by omega⟩ ⟨(y 4).val, h4⟩) := by
    funext a
    match a with
    | ⟨0, _⟩ => exact Fin.ext (by blk_simp [index16 t])
    | ⟨1, _⟩ => exact Fin.ext (by blk_simp [index16 t]; rfl)
    | ⟨2, _⟩ => exact Fin.ext (by blk_simp [index16 t]; rfl)
    | ⟨3, _⟩ => exact Fin.ext (by blk_simp [index16 t]; show (grid0.coords t 1).val * 512 + (y 3).val = 512 * (grid0.coords t 1).val + (y 3).val; omega)
    | ⟨4, _⟩ => exact Fin.ext (by blk_simp [index16 t]; rfl)
  have hy : (y : S1x2x2x512x256.Idx) = ix5 0 ⟨(y 1).val, h1⟩ ⟨(y 2).val, h2⟩ ⟨(y 3).val, h3⟩ ⟨(y 4).val, h4⟩ := by
    funext a
    match a with
    | ⟨0, _⟩ => exact Fin.ext (by have := (y 0).isLt; change _ < 1 at this; show (y 0).val = 0; omega)
    | ⟨1, _⟩ => rfl
    | ⟨2, _⟩ => rfl
    | ⟨3, _⟩ => rfl
    | ⟨4, _⟩ => rfl
  refine (congrArg _ hy).trans ((point_fouriers m c t _ _ _ _).trans ?_)
  refine Eq.trans ?_ (congrArg _ e).symm
  rfl

end Cert.InProjIdeal.Chain

end

end
-- ==== Proof.InProjClaim.lean ====
module

public import proofs.«01_k».proof.Defs
public import Idealize.ShloMosaic.Lib.Quiescent
public import proofs.«01_k».proof.Proof.Gen.InProjRefIdeal.Run
public import proofs.«01_k».proof.Proof.InProjReference
public import proofs.«01_k».proof.Proof.InProjArray

@[expose] public section

/-! # The input projection's algebraic claim: the kernel call and the reference end with the same five arrays -/

noncomputable section

namespace Cert.InProjClaim

open Idealize Idealize.ShloMosaic Idealize.SL.Sem Cert.InProjIdeal Cert.InProjIdeal.Chain Cert.InProjRefIdeal.Chain Cert.InProjRefIdeal.Read

/-- The reference runs, keeps its arguments and, having no semaphores, ends with none raised. -/
theorem referenceFrame : Cert.quiescent_InProjRefIdeal (hInProjRefIdeal := Cert.InProjRefIdeal.Gen.facts) := fun m g _ =>
  (θ_run (Cert.InProjRefIdeal.defs (F := Ideal)) _ _).mono
    (fun r h => ⟨fun c => (h c).2.2.2.2.2, sem_eq_zero_of_no_sems (by decide) r.2⟩) (Cert.InProjRefIdeal.Value.run m g)

/-! ## The reference's arrays -/

section
variable (x0 : Vec Ideal S16x4096x1024 .f32) (x1 x2 : Vec Ideal S16x1x1024 .f32) (x3 : Vec Ideal S1024 .f32)
  (x4 : Vec Ideal S1024x1280 .f32) (x5 x6 : Vec Ideal S64 .f32) (x7 x8 : Vec Ideal S4096x2x16 .f32) (x9 x10 : Vec Ideal S4x64x64 .f32)

theorem ix3_eta {a b d : ℕ} (i : (⟨3, ![a, b, d]⟩ : Shape).Idx) : i = ix3 (i 0) (i 1) (i 2) := by
  funext e
  match e with
  | ⟨0, _⟩ => rfl
  | ⟨1, _⟩ => rfl
  | ⟨2, _⟩ => rfl

theorem ix5_eta {a b d e f : ℕ} (i : (⟨5, ![a, b, d, e, f]⟩ : Shape).Idx) : i = ix5 (i 0) (i 1) (i 2) (i 3) (i 4) := by
  funext e
  match e with
  | ⟨0, _⟩ => rfl
  | ⟨1, _⟩ => rfl
  | ⟨2, _⟩ => rfl
  | ⟨3, _⟩ => rfl
  | ⟨4, _⟩ => rfl

theorem queries_eq : val_main_v121 (F := Ideal) x0 x1 x2 x3 x4 x5 x7 x8 = arrQ x0 x1 x2 x3 x4 x5 x7 x8 := funext fun i =>
  (congrArg _ (ix5_eta i)).trans (v121_apply x0 x1 x2 x3 x4 x5 x7 x8 (i 0) (i 1) (i 2) (i 3) (i 4))

theorem keys_eq : val_main_v123 (F := Ideal) x0 x1 x2 x3 x4 x6 x7 x8 = arrK x0 x1 x2 x3 x4 x6 x7 x8 := funext fun i =>
  (congrArg _ (ix3_eta i)).trans (v123_apply x0 x1 x2 x3 x4 x6 x7 x8 (i 0) (i 1) (i 2))

theorem values_eq : val_main_v124 (F := Ideal) x0 x1 x2 x3 x4 = arrV x0 x1 x2 x3 x4 := funext fun i =>
  (congrArg _ (ix5_eta i)).trans (v124_apply x0 x1 x2 x3 x4 (i 0) (i 1) (i 2) (i 3) (i 4))

theorem pools_eq : val_main_v125 (F := Ideal) x0 x1 x2 x3 x4 = arrU x0 x1 x2 x3 x4 := funext fun i =>
  (congrArg _ (ix3_eta i)).trans (v125_apply x0 x1 x2 x3 x4 (i 0) (i 1) (i 2))

theorem fouriers_eq : val_main_v126 (F := Ideal) x0 x1 x2 x3 x4 x9 x10 = arrF x0 x1 x2 x3 x4 x9 x10 := funext fun i =>
  (congrArg _ (ix5_eta i)).trans (v126_apply x0 x1 x2 x3 x4 x9 x10 (i 0) (i 1) (i 2) (i 3) (i 4))

end

/-- From equal arguments the call and the reference both run and their results are equal. -/
theorem algebraic : Cert.algebraic_InProjIdeal_InProjRefIdeal (hInProjIdeal := Cert.InProjIdeal.Gen.facts)
    (hInProjRefIdeal := Cert.InProjRefIdeal.Gen.facts) := by
  intro m g m' g' _ hargs
  refine ⟨_, _, _, _, _, (θ_run (defs (F := Ideal)) _ _).mono (fun r h c => ⟨(h c).1.trans (queries_arr m c),
      (h c).2.1.trans (keys_arr m c), (h c).2.2.1.trans (values_arr m c), (h c).2.2.2.1.trans (pools_arr m c),
      (h c).2.2.2.2.1.trans (fouriers_arr m c), (h c).2.2.2.2.2⟩)
    (Value.run_blocks m g), ?_⟩
  refine (θ_run (Cert.InProjRefIdeal.defs (F := Ideal)) _ _).mono (fun r h c => ⟨(h c).1.trans ?_, (h c).2.1.trans ?_,
      (h c).2.2.1.trans ?_, (h c).2.2.2.1.trans ?_, (h c).2.2.2.2.1.trans ?_, (h c).2.2.2.2.2⟩)
    (Cert.InProjRefIdeal.Value.run m' g')
  all_goals obtain ⟨h0, h1, h2, h3, h4, h5, h6, h7, h8, h9, h10⟩ := hargs c
  · rw [val_main_v121_eq, h0, h1, h2, h3, h4, h5, h7, h8]
    exact queries_eq _ _ _ _ _ _ _ _
  · rw [val_main_v123_eq, h0, h1, h2, h3, h4, h6, h7, h8]
    exact keys_eq _ _ _ _ _ _ _ _
  · rw [val_main_v124_eq, h0, h1, h2, h3, h4]
    exact values_eq _ _ _ _ _
  · rw [val_main_v125_eq, h0, h1, h2, h3, h4]
    exact pools_eq _ _ _ _ _
  · rw [val_main_v126_eq, h0, h1, h2, h3, h4, h9, h10]
    exact fouriers_eq _ _ _ _ _ _ _

end Cert.InProjClaim

end

end
-- ==== Proof.AdaArray.lean ====
module

public import proofs.«01_k».proof.Proof.FfnMath
public import proofs.«01_k».proof.Proof.Gen.AdaIdeal.Value
public import Idealize.ShloMosaic.Lib.Pipeline.Covers
public import Idealize.ShloMosaic.Lib.Pipeline.ValueKit
public import Idealize.ShloMosaic.Lib.Pointwise

@[expose] public section

/-! # What the modulation call's output array holds after the run -/

noncomputable section

namespace Cert.AdaIdeal.Chain

open Cert.AdaIdeal Cert.AdaIdeal.Gen Cert.FfnMath Idealize Idealize.ShloMosaic Idealize.ShloMosaic.TcCoe

/-- `silu` of a conditioning value. -/
def act (c : EReal) : EReal := Ideal.div c (1 + Ideal.exp (-c))

/-- The modulation of all layers: `silu c @ w + b`. -/
def outArr (x0 : Vec Ideal S24x1024 .f32) (x1 : Vec Ideal S2x1024x6144 .f32) (x2 : Vec Ideal S2x6144 .f32) : Vec Ideal S2x24x6144 .f32 :=
  fun i => ∑ k : Fin 1024, act (x0 (ix2 (i 1) k)) * x1 (ix3 (i 0) k (i 2)) + x2 (ix2 (i 0) (i 2))

/-- Layer `l`'s column tile `q` of the weights. -/
def tileW (w : Vec Ideal S2x1024x6144 .f32) (l : Fin 2) (q : Fin 4) : Vec Ideal S1x1024x1536 .f32 :=
  fun y => w (ix3 l (y 1) ⟨q * 1536 + (y 2).val, by have := (y 2).isLt; change _ < 1536 at this; omega⟩)

/-- Layer `l`'s column tile `q` of the bias. -/
def tileB (b : Vec Ideal S2x6144 .f32) (l : Fin 2) (q : Fin 4) : Vec Ideal S1x1x1536 .f32 :=
  fun y => b (ix2 l ⟨q * 1536 + (y 2).val, by have := (y 2).isLt; change _ < 1536 at this; omega⟩)

theorem payload_apply (v0 : Vec Ideal S24x1024 .f32) (v7 : Vec Ideal S1x1024x1536 .f32) (v10 : Vec Ideal S1x1x1536 .f32) (r : Fin 24)
    (j : Fin 1536) :
    k0_pay1 v0 v7 v10 (ix3 0 r j) = ∑ k : Fin 1024, act (v0 (ix2 r k)) * v7 (ix3 0 k j) + v10 (ix3 0 0 j) := by
  unfold k0_pay1 act
  pointwise
  simp only [zero_sub]

theorem ld_full0 (x : Vec Ideal S24x1024 .f32) : View.ld x r0_0 = x :=
  funext fun y => congrArg x (funext fun e => by
    match e with
    | ⟨0, _⟩ => exact Fin.ext (by show 0 + 1 * (y 0).val = (y 0).val; omega)
    | ⟨1, _⟩ => exact Fin.ext (by show 0 + 1 * (y 1).val = (y 1).val; omega))

theorem ld_full1 (x : Vec Ideal S1x1024x1536 .f32) : View.ld x r0_1 = x :=
  funext fun y => congrArg x (funext fun e => by
    match e with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega))

theorem ld_full2 (x : Vec Ideal S1x1x1536 .f32) : View.ld x r0_2 = x :=
  funext fun y => congrArg x (funext fun e => by
    match e with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega))

theorem out_apply (x0 : Vec Ideal S24x1024 .f32) (x1 : Vec Ideal S1x1024x1536 .f32) (x2 : Vec Ideal S1x1x1536 .f32) (r : Fin 24)
    (j : Fin 1536) :
    out0_3 x0 x1 x2 (ix3 0 r j) = ∑ k : Fin 1024, act (x0 (ix2 r k)) * x1 (ix3 0 k j) + x2 (ix3 0 0 j) := by
  unfold out0_3
  refine (congrFun (View.canon_cons_unit_lit (S := S1x24x1536) _ _ _ (by decide)) _).trans ?_
  rw [ld_full0, ld_full1, ld_full2, payload_apply]

variable (m : (ℓ : Loc nD τ sig) → Buf (Elt Ideal) ℓ)

theorem reshape_bias (b : Vec Ideal S2x6144 .f32) (l : Fin 2) (j : Fin 6144) :
    shapeCast S2x1x6144 b shapeCasts_S2x6144_S2x1x6144 (ix3 l 0 j) = b (ix2 l j) := by
  pointwise

/-- The bias as the call finds it. -/
theorem V_v0 (c : Dev nD) : V m c main_v0
    = fun y : S2x1x6144.Idx => (m ((c : Thread nD τ).loc main_arg2) : Vec Ideal S2x6144 .f32) (ix2 (y 0) (y 2)) := by
  unfold V
  after_results
  funext y
  have hy : (y : S2x1x6144.Idx) = ix3 (y 0) 0 (y 2) := by
    funext a
    match a with
    | ⟨0, _⟩ => rfl
    | ⟨1, _⟩ => exact Fin.ext (by have := (y 1).isLt; change _ < 1 at this; show (y 1).val = 0; omega)
    | ⟨2, _⟩ => rfl
  show shapeCast S2x1x6144 (m ((c : Thread nD τ).loc main_arg2) : Vec Ideal S2x6144 .f32) shapeCasts_S2x6144_S2x1x6144 y = _
  rw [hy]
  exact reshape_bias _ _ _

theorem index0 (t : Fin cfg0.N) : win0_0.index t = ![0, 0] := by
  revert t; decide +kernel
theorem index1 (t : Fin cfg0.N) : win0_1.index t = ![(grid0.coords t 0).val, 0, (grid0.coords t 1).val] := by
  revert t; decide +kernel
theorem index2 (t : Fin cfg0.N) : win0_2.index t = ![(grid0.coords t 0).val, 0, (grid0.coords t 1).val] := by
  revert t; decide +kernel
theorem index3 (t : Fin cfg0.N) : win0_3.index t = ![(grid0.coords t 0).val, 0, (grid0.coords t 1).val] := by
  revert t; decide +kernel

theorem block0 (c : Dev nD) (t : Fin cfg0.N) :
    (iblk m c 0 t : Vec Ideal S24x1024 .f32) = m ((c : Thread nD τ).loc main_arg0) := by
  have e := V_main_arg0 m c
  rw [← e]
  funext y
  blk_ext [iblk, index0 t]

theorem block1 (c : Dev nD) (t : Fin cfg0.N) :
    (iblk m c 1 t : Vec Ideal S1x1024x1536 .f32) = tileW (m ((c : Thread nD τ).loc main_arg1)) (grid0.coords t 0) (grid0.coords t 1) := by
  have e := V_main_arg1 m c
  funext y
  unfold tileW
  rw [← e]
  blk_ext [iblk, index1 t]

theorem block2 (c : Dev nD) (t : Fin cfg0.N) :
    (iblk m c 2 t : Vec Ideal S1x1x1536 .f32) = tileB (m ((c : Thread nD τ).loc main_arg2)) (grid0.coords t 0) (grid0.coords t 1) := by
  funext y
  unfold tileB
  refine Eq.trans ?_ (congrFun (V_v0 m c) (ix3 (grid0.coords t 0) 0 ⟨(grid0.coords t 1).val * 1536 + (y 2).val, by
    have := (y 2).isLt; change _ < 1536 at this; have := (grid0.coords t 1).isLt; change _ < 4 at this; omega⟩))
  blk_ext [iblk, index2 t]

/-- Every block of the output is written. -/
theorem covers3 : (cfg0.win 3).Covers :=
  (cfg0.win 3).covers_of_indexMap_surj rfl (by decide) fun β =>
    ⟨fun a => match a with
      | ⟨0, _⟩ => ⟨(β ⟨0, by decide⟩).val, lt_of_lt_of_eq (β ⟨0, by decide⟩).isLt (by decide : (cfg0.win 3).nblk ⟨0, by decide⟩ = 2)⟩
      | ⟨1, _⟩ => ⟨(β ⟨2, by decide⟩).val, lt_of_lt_of_eq (β ⟨2, by decide⟩).isLt (by decide : (cfg0.win 3).nblk ⟨2, by decide⟩ = 4)⟩,
    fun a => by
      match a with
      | ⟨0, _⟩ =>
        have := lt_of_lt_of_eq (β ⟨0, by decide⟩).isLt (by decide : (cfg0.win 3).nblk ⟨0, by decide⟩ = 2)
        show (BitVec.ofNat 32 (β ⟨0, by decide⟩).val).toNat = _
        rw [BitVec.toNat_ofNat]; omega
      | ⟨1, _⟩ =>
        have := lt_of_lt_of_eq (β ⟨1, by decide⟩).isLt (by decide : (cfg0.win 3).nblk ⟨1, by decide⟩ = 1)
        show 0 = _
        omega
      | ⟨2, _⟩ =>
        have := lt_of_lt_of_eq (β ⟨2, by decide⟩).isLt (by decide : (cfg0.win 3).nblk ⟨2, by decide⟩ = 4)
        show (BitVec.ofNat 32 (β ⟨2, by decide⟩).val).toNat = _
        rw [BitVec.toNat_ofNat]; omega⟩

/-- After the run the output array is `outArr` of the arguments. -/
theorem arrAt_eq (c : Dev nD) : (dats m 0 c).arrAt 3 cfg0.N
    = outArr (m ((c : Thread nD τ).loc main_arg0)) (m ((c : Thread nD τ).loc main_arg1)) (m ((c : Thread nD τ).loc main_arg2)) := by
  refine (dats m 0 c).arrAt_eq_of_covers 3 _ covers3 fun t hf y => ?_
  blk_simp
  rw [after0_3, block0, block1, block2]
  have h1 : (y 1).val < 24 := (y 1).isLt
  have h2 : (y 2).val < 1536 := (y 2).isLt
  have h4 : (grid0.coords t 1).val < 4 := (grid0.coords t 1).isLt
  have e : (((cfg0.win 3).blk t).view.emb y : S2x24x6144.Idx)
      = ix3 (grid0.coords t 0) ⟨(y 1).val, h1⟩ ⟨(grid0.coords t 1).val * 1536 + (y 2).val, by omega⟩ := by
    funext a
    match a with
    | ⟨0, _⟩ => exact Fin.ext (by blk_simp [index3 t])
    | ⟨1, _⟩ => exact Fin.ext (by blk_simp [index3 t]; rfl)
    | ⟨2, _⟩ => exact Fin.ext (by blk_simp [index3 t]; rfl)
  have hy : (y : S1x24x1536.Idx) = ix3 0 ⟨(y 1).val, h1⟩ ⟨(y 2).val, h2⟩ := by
    funext a
    match a with
    | ⟨0, _⟩ => exact Fin.ext (by have := (y 0).isLt; change _ < 1 at this; show (y 0).val = 0; omega)
    | ⟨1, _⟩ => rfl
    | ⟨2, _⟩ => rfl
  refine (congrArg _ hy).trans ((out_apply _ _ _ _ _).trans ?_)
  refine Eq.trans ?_ (congrArg _ e).symm
  rfl

end Cert.AdaIdeal.Chain

end

end
-- ==== Proof.AdaClaim.lean ====
module

public import proofs.«01_k».proof.Defs
public import Idealize.ShloMosaic.Lib.Quiescent
public import proofs.«01_k».proof.Proof.Gen.AdaRefIdeal.Run
public import proofs.«01_k».proof.Proof.Gen.AdaRefIdeal.Read
public import proofs.«01_k».proof.Proof.AdaArray

@[expose] public section

/-! # The modulation's algebraic claim: the kernel call and the reference end with the same array -/

noncomputable section

namespace Cert.AdaRefIdeal.Chain

open Cert.AdaRefIdeal Cert.AdaRefIdeal.Gen Cert.AdaRefIdeal.Read Idealize Idealize.ShloMosaic

variable (x0 : Vec Ideal S24x1024 .f32) (x1 : Vec Ideal S2x1024x6144 .f32) (x2 : Vec Ideal S2x6144 .f32)

theorem v0_apply (r : Fin 24) (k : Fin 1024) :
    val_main_v0 (F := Ideal) x0 (ix2 r k) = Cert.AdaIdeal.Chain.act (x0 (ix2 r k)) := by
  have one₂ : val_main_call0_v2 (F := Ideal) (ix2 r k) = 1 := Ideal.ofBits_one_f32
  have one₄ : val_main_call0_v4 (F := Ideal) (ix2 r k) = 1 := Ideal.ofBits_one_f32
  rw [val_main_v0_apply, val_main_call0_v5_apply, val_main_call0_v3_apply, val_main_call0_v1_apply, val_main_call0_v0_apply, one₂, one₄]
  refine (mul_one _).symm.trans ((Cert.FfnMath.gated_eq _ 1).trans ?_)
  exact mul_one _

/-- The reference's result. -/
theorem v5_apply (l : Fin 2) (r : Fin 24) (j : Fin 6144) :
    val_main_v5 (F := Ideal) x0 x1 x2 (ix3 l r j) = Cert.AdaIdeal.Chain.outArr x0 x1 x2 (ix3 l r j) := by
  rw [val_main_v5_apply, val_main_v2_apply, val_main_v1_apply, val_main_v4_apply, val_main_v3_apply]
  refine congrArg₂ (· + ·) (Finset.sum_congr rfl fun k _ => (mul_comm _ _).trans ?_) (congrArg x2 ?_)
  · refine congrArg₂ (· * ·) (Eq.trans (congrArg _ ?_) (v0_apply x0 r k)) (congrArg x1 ?_)
    · blk_ext [ridx_main_v1, idx_main_v2]
    · blk_ext [lidx_main_v1, idx_main_v2]
  · blk_ext [idx_main_v3, idx_main_v4]

end Cert.AdaRefIdeal.Chain

namespace Cert.AdaClaim

open Idealize Idealize.ShloMosaic Idealize.SL.Sem Cert.AdaIdeal

/-- The reference runs, keeps its arguments and, having no semaphores, ends with none raised. -/
theorem referenceFrame : Cert.quiescent_AdaRefIdeal (hAdaRefIdeal := Cert.AdaRefIdeal.Gen.facts) := fun m g _ =>
  (θ_run (Cert.AdaRefIdeal.defs (F := Ideal)) _ _).mono (fun r h => ⟨fun c => (h c).2, sem_eq_zero_of_no_sems (by decide) r.2⟩)
    (Cert.AdaRefIdeal.Value.run m g)

/-- The array the call leaves is the reference's. -/
theorem outArr_eq (x0 : Vec Ideal S24x1024 .f32) (x1 : Vec Ideal S2x1024x6144 .f32) (x2 : Vec Ideal S2x6144 .f32) :
    Cert.AdaRefIdeal.Read.val_main_v5 (F := Ideal) x0 x1 x2 = Chain.outArr x0 x1 x2 := by
  funext i
  have hi : i = ix3 (i 0) (i 1) (i 2) := by
    funext a
    match a with
    | ⟨0, _⟩ => rfl
    | ⟨1, _⟩ => rfl
    | ⟨2, _⟩ => rfl
  exact (congrArg _ hi).trans (Cert.AdaRefIdeal.Chain.v5_apply x0 x1 x2 (i 0) (i 1) (i 2))

/-- From equal arguments the call and the reference both run and their results are equal. -/
theorem algebraic : Cert.algebraic_AdaIdeal_AdaRefIdeal (hAdaIdeal := Cert.AdaIdeal.Gen.facts)
    (hAdaRefIdeal := Cert.AdaRefIdeal.Gen.facts) := by
  intro m g m' g' _ hargs
  refine ⟨_, (θ_run (defs (F := Ideal)) _ _).mono (fun r h c => ⟨(h c).1.trans (Chain.arrAt_eq m c), (h c).2⟩)
    (Value.run_blocks m g), ?_⟩
  refine (θ_run (Cert.AdaRefIdeal.defs (F := Ideal)) _ _).mono (fun r h c => ⟨(h c).1.trans ?_, (h c).2⟩)
    (Cert.AdaRefIdeal.Value.run m' g')
  obtain ⟨h0, h1, h2⟩ := hargs c
  rw [Cert.AdaRefIdeal.Read.val_main_v5_eq, h0, h1, h2]
  exact outArr_eq _ _ _

end Cert.AdaClaim

end

end
-- ==== Proof.DftMath.lean ====
module

public import Idealize.ShloMosaic.PureOps.Ideal.Laws

@[expose] public section

/-! # Sums over 4096 positions, split

The kernel sums over the even positions and over the odd positions, the cosine half of the table before the sine half; the
reference sums over all positions with the cosines and over all positions with the sines. -/

noncomputable section

namespace Cert.DftMath

/-- The first half of the positions, then the second half. -/
theorem sum_halves (f : Fin 4096 → EReal) :
    ∑ q, f q = ∑ r : Fin 2048, f ⟨r, by omega⟩ + ∑ r : Fin 2048, f ⟨2048 + r, by omega⟩ :=
  Fin.sum_univ_add (a := 2048) (b := 2048) f

/-- The even positions, then the odd positions. -/
theorem sum_parity (f : Fin 4096 → EReal) :
    ∑ t, f t = ∑ r : Fin 2048, f ⟨2 * r, by omega⟩ + ∑ r : Fin 2048, f ⟨2 * r + 1, by omega⟩ := by
  have e : ∑ t, f t = ∑ x : Fin 2048 × Fin 2, f ⟨2 * x.1 + x.2, by omega⟩ :=
    (Fintype.sum_equiv (finProdFinEquiv : Fin 2048 × Fin 2 ≃ Fin 4096) _ _
      fun x => congrArg f (Fin.ext (by show 2 * x.1.val + x.2.val = x.2.val + 2 * x.1.val; omega))).symm
  rw [e, Fintype.sum_prod_type, ← Finset.sum_add_distrib]
  exact Finset.sum_congr rfl fun r _ => Fin.sum_univ_two _

/-- A sum of reals is a real. -/
theorem sum_real {n : ℕ} (f : Fin n → EReal) (h : ∀ i, ∃ r : ℝ, f i = r) : ∃ g : Fin n → ℝ, (∀ i, f i = g i) ∧ ∑ i, f i = (∑ i, g i : ℝ) := by
  choose g hg using h
  refine ⟨g, hg, ?_⟩
  rw [Finset.sum_congr rfl fun i _ => hg i]
  exact (map_sum (⟨⟨((↑) : ℝ → EReal), EReal.coe_zero⟩, EReal.coe_add⟩ : ℝ →+ EReal) g _).symm

/-- Of reals, the sum of the negated terms is the negated sum. -/
theorem sum_neg {n : ℕ} (f : Fin n → EReal) (h : ∀ i, ∃ r : ℝ, f i = r) : ∑ i, -f i = -∑ i, f i := by
  obtain ⟨g, hg, hs⟩ := sum_real f h
  rw [hs, ← EReal.coe_neg, ← Finset.sum_neg_distrib]
  rw [Finset.sum_congr rfl fun i _ => congrArg (fun x : EReal => -x) (hg i)]
  exact (map_sum (⟨⟨((↑) : ℝ → EReal), EReal.coe_zero⟩, EReal.coe_add⟩ : ℝ →+ EReal) (fun i => -g i) _).symm

/-- Taking two real sums away one by one or together. -/
theorem sub_two (a b x y : EReal) (hx : ∃ r : ℝ, x = r) (hy : ∃ r : ℝ, y = r) : a + -x + (b + -y) = a + b - (x + y) := by
  obtain ⟨x, rfl⟩ := hx
  obtain ⟨y, rfl⟩ := hy
  rw [sub_eq_add_neg, ← EReal.coe_add, ← EReal.coe_neg (x + y), neg_add, EReal.coe_add, EReal.coe_neg, EReal.coe_neg]
  exact add_add_add_comm _ _ _ _

end Cert.DftMath

end

end
-- ==== Proof.DftArray.lean ====
module

public import proofs.«01_k».proof.Proof.Gen.DftIdeal.Value
public import Idealize.ShloMosaic.Lib.Pipeline.Covers
public import Idealize.ShloMosaic.Lib.Pipeline.ValueKit
public import Idealize.ShloMosaic.Lib.Pointwise

@[expose] public section

/-! # What the Fourier transform call's output array holds after the run

The call multiplies the even positions by their half of the tables and the odd positions by theirs; the frequencies below 2048
get the sum of the two products, those from 2048 on the difference. -/

noncomputable section

namespace Cert.DftIdeal.Chain

open Cert.DftIdeal Cert.DftIdeal.Gen Idealize Idealize.ShloMosaic Idealize.ShloMosaic.TcCoe

/-- Frequency `i`'s product over the positions of parity `p`. -/
def part (tab : Vec Ideal S2048x4096 .bf16) (vf : Vec Ideal S16x2x2x2048x256 .bf16) (b : Fin 16) (p : Fin 2) (i : Fin 2048)
    (n : Fin 256) : EReal :=
  ∑ q : Fin 4096, tab (ix2 i q) * vf (ix5 b p ⟨q / 2048, by omega⟩ ⟨q % 2048, by omega⟩ n)

/-- The transform. -/
def outArr (te td : Vec Ideal S2048x4096 .bf16) (vf : Vec Ideal S16x2x2x2048x256 .bf16) : Vec Ideal S16x2x2048x256 .bf16 :=
  fun y => if (y 1).val = 0 then part te vf (y 0) 0 (y 2) (y 3) + part td vf (y 0) 1 (y 2) (y 3)
    else part te vf (y 0) 0 (y 2) (y 3) - part td vf (y 0) 1 (y 2) (y 3)

/-- Rows `512 a` and on of a table. -/
def tile (tab : Vec Ideal S2048x4096 .bf16) (a : Fin 4) : Vec Ideal S512x4096 .bf16 :=
  fun y => tab (ix2 ⟨a * 512 + (y 0).val, by have := (y 0).isLt; change _ < 512 at this; omega⟩ (y 1))

/-- One example's positions. -/
def example1 (vf : Vec Ideal S16x2x2x2048x256 .bf16) (b : Fin 16) : Vec Ideal S1x2x4096x256 .bf16 :=
  fun y => vf (ix5 b (y 1) ⟨(y 2).val / 2048, by have := (y 2).isLt; change _ < 4096 at this; omega⟩
    ⟨(y 2).val % 2048, by omega⟩ (y 3))

/-! ## One block -/

/-- One tile's product over the positions of parity `p`. -/
def partL (x : Vec Ideal S512x4096 .bf16) (v : Vec Ideal S1x2x4096x256 .bf16) (p : Fin 2) (i : Fin 512) (n : Fin 256) : EReal :=
  ∑ q : Fin 4096, x (ix2 i q) * v (ix4 0 p q n)

/-- One block of the transform. -/
def outL (x0 x1 : Vec Ideal S512x4096 .bf16) (v : Vec Ideal S1x2x4096x256 .bf16) : Vec Ideal S1x2x512x256 .bf16 :=
  fun y => if (y 1).val = 0 then partL x0 v 0 (y 2) (y 3) + partL x1 v 1 (y 2) (y 3)
    else partL x0 v 0 (y 2) (y 3) - partL x1 v 1 (y 2) (y 3)

theorem plus_apply (x0 x1 : Vec Ideal S512x4096 .bf16) (v v' : Vec Ideal S1x1x4096x256 .bf16) (i : Fin 512) (n : Fin 256) :
    k0_pay3 x0 v x1 v' (ix4 0 0 i n)
      = (∑ q : Fin 4096, x0 (ix2 i q) * v (ix4 0 0 q n)) + ∑ q : Fin 4096, x1 (ix2 i q) * v' (ix4 0 0 q n) := by
  unfold k0_pay3 k0_pay1 k0_pay2
  pointwise

theorem minus_apply (x0 x1 : Vec Ideal S512x4096 .bf16) (v v' : Vec Ideal S1x1x4096x256 .bf16) (i : Fin 512) (n : Fin 256) :
    k0_pay4 x0 v x1 v' (ix4 0 0 i n)
      = (∑ q : Fin 4096, x0 (ix2 i q) * v (ix4 0 0 q n)) - ∑ q : Fin 4096, x1 (ix2 i q) * v' (ix4 0 0 q n) := by
  unfold k0_pay4 k0_pay1 k0_pay2
  pointwise

theorem ld_tile (x : Vec Ideal S512x4096 .bf16) : View.ld x r0_0 = x :=
  funext fun y => congrArg x (funext fun e => by
    match e with
    | ⟨0, _⟩ => exact Fin.ext (by show 0 + 1 * (y 0).val = (y 0).val; omega)
    | ⟨1, _⟩ => exact Fin.ext (by show 0 + 1 * (y 1).val = (y 1).val; omega))

theorem ld_even (v : Vec Ideal S1x2x4096x256 .bf16) (q : Fin 4096) (n : Fin 256) :
    (View.ld v r0_1 : Vec Ideal S1x1x4096x256 .bf16) (ix4 0 0 q n) = v (ix4 0 0 q n) :=
  congrArg v (funext fun e => by
    match e with
    | ⟨0, _⟩ => exact Fin.ext (by show 0 + 1 * 0 = 0; omega)
    | ⟨1, _⟩ => exact Fin.ext (by show 0 + 1 * 0 = 0; omega)
    | ⟨2, _⟩ => exact Fin.ext (by show 0 + 1 * q.val = q.val; omega)
    | ⟨3, _⟩ => exact Fin.ext (by show 0 + 1 * n.val = n.val; omega))

theorem ld_odd (v : Vec Ideal S1x2x4096x256 .bf16) (q : Fin 4096) (n : Fin 256) :
    (View.ld v r0_2 : Vec Ideal S1x1x4096x256 .bf16) (ix4 0 0 q n) = v (ix4 0 1 q n) :=
  congrArg v (funext fun e => by
    match e with
    | ⟨0, _⟩ => exact Fin.ext (by show 0 + 1 * 0 = 0; omega)
    | ⟨1, _⟩ => exact Fin.ext (by show 1 + 1 * 0 = 1; omega)
    | ⟨2, _⟩ => exact Fin.ext (by show 0 + 1 * q.val = q.val; omega)
    | ⟨3, _⟩ => exact Fin.ext (by show 0 + 1 * n.val = n.val; omega))

theorem low_emb (i : Fin 512) (n : Fin 256) : r0_3.emb (ix4 0 0 i n : S1x1x512x256.Idx) = (ix4 0 0 i n : S1x2x512x256.Idx) :=
  funext fun e => by
    match e with
    | ⟨0, _⟩ => exact Fin.ext (by show 0 + 1 * 0 = 0; omega)
    | ⟨1, _⟩ => exact Fin.ext (by show 0 + 1 * 0 = 0; omega)
    | ⟨2, _⟩ => exact Fin.ext (by show 0 + 1 * i.val = i.val; omega)
    | ⟨3, _⟩ => exact Fin.ext (by show 0 + 1 * n.val = n.val; omega)

theorem high_emb (i : Fin 512) (n : Fin 256) : r0_4.emb (ix4 0 0 i n : S1x1x512x256.Idx) = (ix4 0 1 i n : S1x2x512x256.Idx) :=
  funext fun e => by
    match e with
    | ⟨0, _⟩ => exact Fin.ext (by show 0 + 1 * 0 = 0; omega)
    | ⟨1, _⟩ => exact Fin.ext (by show 1 + 1 * 0 = 1; omega)
    | ⟨2, _⟩ => exact Fin.ext (by show 0 + 1 * i.val = i.val; omega)
    | ⟨3, _⟩ => exact Fin.ext (by show 0 + 1 * n.val = n.val; omega)

theorem eq_ix (x : S1x1x512x256.Idx) : ∃ (i : Fin 512) (n : Fin 256), x = ix4 0 0 i n := ⟨x 2, x 3, by
  funext a
  match a with
  | ⟨0, _⟩ => exact Fin.ext (by have := (x 0).isLt; change _ < 1 at this; show (x 0).val = 0; omega)
  | ⟨1, _⟩ => exact Fin.ext (by have := (x 1).isLt; change _ < 1 at this; show (x 1).val = 0; omega)
  | ⟨2, _⟩ => rfl
  | ⟨3, _⟩ => rfl⟩

theorem even_eq (x : Vec Ideal S512x4096 .bf16) (v : Vec Ideal S1x2x4096x256 .bf16) (i : Fin 512) (n : Fin 256) :
    ∑ q : Fin 4096, (View.ld x r0_0 : Vec Ideal S512x4096 .bf16) (ix2 i q) * (View.ld v r0_1 : Vec Ideal S1x1x4096x256 .bf16) (ix4 0 0 q n)
      = partL x v 0 i n :=
  Finset.sum_congr rfl fun q _ => congrArg₂ (· * ·) (congrFun (ld_tile x) _) (ld_even v q n)

theorem odd_eq (x : Vec Ideal S512x4096 .bf16) (v : Vec Ideal S1x2x4096x256 .bf16) (i : Fin 512) (n : Fin 256) :
    ∑ q : Fin 4096, (View.ld x r0_0 : Vec Ideal S512x4096 .bf16) (ix2 i q) * (View.ld v r0_2 : Vec Ideal S1x1x4096x256 .bf16) (ix4 0 0 q n)
      = partL x v 1 i n :=
  Finset.sum_congr rfl fun q _ => congrArg₂ (· * ·) (congrFun (ld_tile x) _) (ld_odd v q n)

theorem out_eq (x0 x1 : Vec Ideal S512x4096 .bf16) (v : Vec Ideal S1x2x4096x256 .bf16) : out0_3 x0 x1 v = outL x0 x1 v := by
  funext y
  refine View.canon_apply_of_pieces (outL x0 x1 v) _ (fun p hp => ?_) y (cover0_3 _ _ y)
  simp only [List.mem_cons, List.not_mem_nil, or_false] at hp
  rcases hp with rfl | rfl
  · intro x
    obtain ⟨i, n, rfl⟩ := eq_ix x
    refine (minus_apply _ _ _ _ i n).trans (Eq.trans ?_ (congrArg (outL x0 x1 v) (high_emb i n)).symm)
    rw [even_eq, odd_eq]
    exact (if_neg (by show ¬ 1 = 0; omega)).symm
  · intro x
    obtain ⟨i, n, rfl⟩ := eq_ix x
    refine (plus_apply _ _ _ _ i n).trans (Eq.trans ?_ (congrArg (outL x0 x1 v) (low_emb i n)).symm)
    rw [even_eq, odd_eq]
    exact (if_pos rfl).symm

/-! ## The blocks the call reads -/

variable (m : (ℓ : Loc nD τ sig) → Buf (Elt Ideal) ℓ)

theorem reshape_values (vf : Vec Ideal S16x2x2x2048x256 .bf16) (b : Fin 16) (p : Fin 2) (q : Fin 4096) (n : Fin 256) :
    shapeCast S16x2x4096x256 vf shapeCasts_S16x2x2x2048x256_S16x2x4096x256 (ix4 b p q n)
      = vf (ix5 b p ⟨q / 2048, by omega⟩ ⟨q % 2048, by omega⟩ n) := by
  pointwise

/-- The values as the call finds them: each parity's two halves one after the other. -/
theorem V_v0 (c : Dev nD) (b : Fin 16) (p : Fin 2) (q : Fin 4096) (n : Fin 256) :
    (V m c main_v0 : Vec Ideal S16x2x4096x256 .bf16) (ix4 b p q n)
      = (m ((c : Thread nD τ).loc main_arg2) : Vec Ideal S16x2x2x2048x256 .bf16) (ix5 b p ⟨q / 2048, by omega⟩ ⟨q % 2048, by omega⟩ n) := by
  unfold V
  after_results
  exact reshape_values _ b p q n

theorem index0 (t : Fin cfg0.N) : win0_0.index t = ![(grid0.coords t 0).val, 0] := by
  revert t; decide +kernel
theorem index1 (t : Fin cfg0.N) : win0_1.index t = ![(grid0.coords t 0).val, 0] := by
  revert t; decide +kernel
theorem index2 (t : Fin cfg0.N) : win0_2.index t = ![(grid0.coords t 1).val, 0, 0, 0] := by
  revert t; decide +kernel
theorem index3 (t : Fin cfg0.N) : win0_3.index t = ![(grid0.coords t 1).val, 0, (grid0.coords t 0).val, 0] := by
  revert t; decide +kernel

theorem block0 (c : Dev nD) (t : Fin cfg0.N) :
    (iblk m c 0 t : Vec Ideal S512x4096 .bf16) = tile (m ((c : Thread nD τ).loc main_arg0)) (grid0.coords t 0) := by
  have e := V_main_arg0 m c
  funext y
  unfold tile
  rw [← e]
  blk_ext [iblk, index0 t]

theorem block1 (c : Dev nD) (t : Fin cfg0.N) :
    (iblk m c 1 t : Vec Ideal S512x4096 .bf16) = tile (m ((c : Thread nD τ).loc main_arg1)) (grid0.coords t 0) := by
  have e := V_main_arg1 m c
  funext y
  unfold tile
  rw [← e]
  blk_ext [iblk, index1 t]

theorem block2 (c : Dev nD) (t : Fin cfg0.N) :
    (iblk m c 2 t : Vec Ideal S1x2x4096x256 .bf16) = example1 (m ((c : Thread nD τ).loc main_arg2)) (grid0.coords t 1) := by
  funext y
  refine Eq.trans ?_ (V_v0 m c (grid0.coords t 1) (y 1) (y 2) (y 3))
  blk_ext [iblk, index2 t]

/-! ## The array -/

theorem covers3 : (cfg0.win 3).Covers :=
  (cfg0.win 3).covers_of_indexMap_surj rfl (by decide) fun β =>
    ⟨fun a => match a with
      | ⟨0, _⟩ => ⟨(β ⟨2, by decide⟩).val, lt_of_lt_of_eq (β ⟨2, by decide⟩).isLt (by decide : (cfg0.win 3).nblk ⟨2, by decide⟩ = 4)⟩
      | ⟨1, _⟩ => ⟨(β ⟨0, by decide⟩).val, lt_of_lt_of_eq (β ⟨0, by decide⟩).isLt (by decide : (cfg0.win 3).nblk ⟨0, by decide⟩ = 16)⟩,
    fun a => by
      match a with
      | ⟨0, _⟩ =>
        have := lt_of_lt_of_eq (β ⟨0, by decide⟩).isLt (by decide : (cfg0.win 3).nblk ⟨0, by decide⟩ = 16)
        show (BitVec.ofNat 32 (β ⟨0, by decide⟩).val).toNat = _
        rw [BitVec.toNat_ofNat]; omega
      | ⟨1, _⟩ =>
        have := lt_of_lt_of_eq (β ⟨1, by decide⟩).isLt (by decide : (cfg0.win 3).nblk ⟨1, by decide⟩ = 1)
        show 0 = _
        omega
      | ⟨2, _⟩ =>
        have := lt_of_lt_of_eq (β ⟨2, by decide⟩).isLt (by decide : (cfg0.win 3).nblk ⟨2, by decide⟩ = 4)
        show (BitVec.ofNat 32 (β ⟨2, by decide⟩).val).toNat = _
        rw [BitVec.toNat_ofNat]; omega
      | ⟨3, _⟩ =>
        have := lt_of_lt_of_eq (β ⟨3, by decide⟩).isLt (by decide : (cfg0.win 3).nblk ⟨3, by decide⟩ = 1)
        show 0 = _
        omega⟩

/-- After the run the output array is `outArr` of the arguments. -/
theorem arrAt_eq (c : Dev nD) : (dats m 0 c).arrAt 3 cfg0.N
    = outArr (m ((c : Thread nD τ).loc main_arg0)) (m ((c : Thread nD τ).loc main_arg1)) (m ((c : Thread nD τ).loc main_arg2)) := by
  refine (dats m 0 c).arrAt_eq_of_covers 3 _ covers3 fun t hf y => ?_
  blk_simp
  rw [after0_3, block0, block1, block2, out_eq]
  have h1 : (y 1).val < 2 := (y 1).isLt
  have h2 : (y 2).val < 512 := (y 2).isLt
  have h3 : (y 3).val < 256 := (y 3).isLt
  have h4 : (grid0.coords t 0).val < 4 := (grid0.coords t 0).isLt
  have e : (((cfg0.win 3).blk t).view.emb y : S16x2x2048x256.Idx)
      = ix4 (grid0.coords t 1) ⟨(y 1).val, h1⟩ ⟨(grid0.coords t 0).val * 512 + (y 2).val, by omega⟩ ⟨(y 3).val, h3⟩ := by
    funext a
    match a with
    | ⟨0, _⟩ => exact Fin.ext (by blk_simp [index3 t])
    | ⟨1, _⟩ => exact Fin.ext (by blk_simp [index3 t]; rfl)
    | ⟨2, _⟩ => exact Fin.ext (by blk_simp [index3 t]; rfl)
    | ⟨3, _⟩ => exact Fin.ext (by blk_simp [index3 t]; rfl)
  have hy : (y : S1x2x512x256.Idx) = ix4 0 ⟨(y 1).val, h1⟩ ⟨(y 2).val, h2⟩ ⟨(y 3).val, h3⟩ := by
    funext a
    match a with
    | ⟨0, _⟩ => exact Fin.ext (by have := (y 0).isLt; change _ < 1 at this; show (y 0).val = 0; omega)
    | ⟨1, _⟩ => rfl
    | ⟨2, _⟩ => rfl
    | ⟨3, _⟩ => rfl
  refine (congrArg _ hy).trans (Eq.trans ?_ (congrArg _ e).symm)
  rfl

end Cert.DftIdeal.Chain

end

end
-- ==== Proof.DftClaim.lean ====
module

public import proofs.«01_k».proof.Defs
public import Idealize.ShloMosaic.Lib.Quiescent
public import proofs.«01_k».proof.Proof.Gen.DftRefIdeal.Run
public import proofs.«01_k».proof.Proof.Gen.DftRefIdeal.Read
public import proofs.«01_k».proof.Proof.Gen.Pre_dft_finite
public import proofs.«01_k».proof.Proof.Layout
public import proofs.«01_k».proof.Proof.DftMath
public import proofs.«01_k».proof.Proof.DftArray

@[expose] public section

/-! # The Fourier transform's algebraic claim: the kernel call and the reference end with the same array -/

noncomputable section

namespace Cert.Pre_dft_finite.Chain

open Cert.Pre_dft_finite Cert.Pre_dft_finite.Gen Idealize Idealize.ShloMosaic

instance : Subsingleton S_.Idx := ⟨fun a b => funext fun x => x.elim0⟩

/-- The precondition: the odd positions' tables and values are real. -/
theorem real (te td : Vec Ideal S2048x4096 .bf16) (vf : Vec Ideal S16x2x2x2048x256 .bf16) (h : fn (F := Ideal) te td vf = fun _ => 1#1) :
    (∀ i, ∃ r : ℝ, td i = r) ∧ ∀ (b : Fin 16) (w : Fin 2) (r : Fin 2048) (n : Fin 256), ∃ x : ℝ, vf (ix5 b 1 w r n) = x := by
  have h0 := congrFun h (fun a => a.elim0)
  dsimp only [fn] at h0
  obtain ⟨h4, h11⟩ := IntOp.andi_eq_one.1 h0
  refine ⟨fun i => Cert.Pre_attention_layout.Chain.real_of_lt _ (Host.reduce_andi_all _ _ _ _ _ h4 i), fun b w r n => ?_⟩
  obtain ⟨x, hx⟩ := Cert.Pre_attention_layout.Chain.real_of_lt _ (Host.reduce_andi_all _ _ _ _ _ h11 (ix4 b w r n))
  refine ⟨x, Eq.trans (Eq.symm ?_) hx⟩
  show shapeCast S16x2x2048x256 (extractStridedSlice S16x1x2x2048x256 ![0, 1, 0, 0, 0] vf slices_S16x2x2x2048x256_S16x1x2x2048x256_0_1_0_0_0)
    shapeCasts_S16x1x2x2048x256_S16x2x2048x256 (ix4 b w r n) = _
  pointwise

end Cert.Pre_dft_finite.Chain

namespace Cert.DftRefIdeal.Chain

open Cert.DftRefIdeal Cert.DftRefIdeal.Gen Cert.DftRefIdeal.Read Cert.DftMath Idealize Idealize.ShloMosaic

variable (te td : Vec Ideal S2048x4096 .bf16) (vf : Vec Ideal S16x2x2x2048x256 .bf16)

/-! ## The tables of all frequencies and positions, and the values in the order of the positions -/

theorem v7_apply (k : Fin 2048) (t : Fin 4096) : val_main_v7 (F := Ideal) te td (ix2 k t)
    = if t.val % 2 < 1 then te (ix2 k ⟨t / 2, by omega⟩) else td (ix2 k ⟨t / 2, by omega⟩) := by
  unfold val_main_v7 val_main_v6 val_main_v5 val_main_v4 val_main_v3 val_main_v2 val_main_v1 val_main_v0
  pointwise
  rfl

theorem v12_apply (k : Fin 2048) (t : Fin 4096) : val_main_v12 (F := Ideal) te td (ix2 k t)
    = if t.val % 2 < 1 then te (ix2 k ⟨t / 2, by omega⟩) else (-td (ix2 k ⟨t / 2, by omega⟩) : EReal) := by
  unfold val_main_v12 val_main_v11 val_main_v10 val_main_v9 val_main_v8 val_main_v3 val_main_v2 val_main_v1 val_main_v0
  pointwise
  rfl

theorem v21_apply (k : Fin 2048) (t : Fin 4096) : val_main_v21 (F := Ideal) te td (ix2 k t)
    = if t.val % 2 < 1 then te (ix2 k ⟨2048 + t / 2, by omega⟩) else td (ix2 k ⟨2048 + t / 2, by omega⟩) := by
  unfold val_main_v21 val_main_v20 val_main_v19 val_main_v18 val_main_v17 val_main_v16 val_main_v15 val_main_v14
  pointwise
  rfl

theorem v26_apply (k : Fin 2048) (t : Fin 4096) : val_main_v26 (F := Ideal) te td (ix2 k t)
    = if t.val % 2 < 1 then te (ix2 k ⟨2048 + t / 2, by omega⟩) else (-td (ix2 k ⟨2048 + t / 2, by omega⟩) : EReal) := by
  unfold val_main_v26 val_main_v25 val_main_v24 val_main_v23 val_main_v22 val_main_v17 val_main_v16 val_main_v15 val_main_v14
  pointwise
  rfl

theorem v13_low (k : Fin 2048) (t : Fin 4096) :
    val_main_v13 (F := Ideal) te td (ix2 (⟨0 * 2048 + k, by omega⟩ : Fin 4096) t) = val_main_v7 (F := Ideal) te td (ix2 k t) := by
  unfold val_main_v13
  generalize val_main_v7 (F := Ideal) te td = a
  generalize val_main_v12 (F := Ideal) te td = a'
  pointwise

theorem v13_high (k : Fin 2048) (t : Fin 4096) :
    val_main_v13 (F := Ideal) te td (ix2 (⟨1 * 2048 + k, by omega⟩ : Fin 4096) t) = val_main_v12 (F := Ideal) te td (ix2 k t) := by
  unfold val_main_v13
  generalize val_main_v7 (F := Ideal) te td = a
  generalize val_main_v12 (F := Ideal) te td = a'
  pointwise

theorem v27_low (k : Fin 2048) (t : Fin 4096) :
    val_main_v27 (F := Ideal) te td (ix2 (⟨0 * 2048 + k, by omega⟩ : Fin 4096) t) = val_main_v21 (F := Ideal) te td (ix2 k t) := by
  unfold val_main_v27
  generalize val_main_v21 (F := Ideal) te td = a
  generalize val_main_v26 (F := Ideal) te td = a'
  pointwise

theorem v27_high (k : Fin 2048) (t : Fin 4096) :
    val_main_v27 (F := Ideal) te td (ix2 (⟨1 * 2048 + k, by omega⟩ : Fin 4096) t) = val_main_v26 (F := Ideal) te td (ix2 k t) := by
  unfold val_main_v27
  generalize val_main_v21 (F := Ideal) te td = a
  generalize val_main_v26 (F := Ideal) te td = a'
  pointwise

theorem v32_apply (b : Fin 16) (t : Fin 4096) (n : Fin 256) :
    val_main_v32 (F := Ideal) vf (ix3 b t n) = vf (ix5 b ⟨t % 2, by omega⟩ 0 ⟨t / 2, by omega⟩ n) := by
  unfold val_main_v32 val_main_v31 val_main_v30 val_main_v29 val_main_v28
  pointwise

theorem v36_apply (b : Fin 16) (t : Fin 4096) (n : Fin 256) :
    val_main_v36 (F := Ideal) vf (ix3 b t n) = vf (ix5 b ⟨t % 2, by omega⟩ 1 ⟨t / 2, by omega⟩ n) := by
  unfold val_main_v36 val_main_v35 val_main_v30 val_main_v29 val_main_v28
  pointwise

theorem v41_apply (b : Fin 16) (h : Fin 2) (i : Fin 2048) (n : Fin 256) :
    val_main_v41 (F := Ideal) te td vf (ix4 b h i n)
      = (∑ t : Fin 4096, val_main_v32 (F := Ideal) vf (ix3 b t n) * val_main_v13 (F := Ideal) te td (ix2 ⟨h * 2048 + i, by omega⟩ t))
        + ∑ t : Fin 4096, val_main_v36 (F := Ideal) vf (ix3 b t n) * val_main_v27 (F := Ideal) te td (ix2 ⟨h * 2048 + i, by omega⟩ t) := by
  unfold val_main_v41 val_main_v40 val_main_v39 val_main_v38 val_main_v37 val_main_v34 val_main_v33
  generalize val_main_v36 (F := Ideal) vf = a
  generalize val_main_v32 (F := Ideal) vf = a'
  generalize val_main_v13 (F := Ideal) te td = a''
  generalize val_main_v27 (F := Ideal) te td = a'''
  pointwise

/-! ## The sums, split -/

/-- The product over the positions of parity `p` with the cosines (`w = 0`) or the sines (`w = 1`). -/
def half (tab : Vec Ideal S2048x4096 .bf16) (b : Fin 16) (p w : Fin 2) (i : Fin 2048) (n : Fin 256) : EReal :=
  ∑ r : Fin 2048, tab (ix2 i ⟨2048 * w + r, by omega⟩) * vf (ix5 b p w r n)

theorem part_eq (tab : Vec Ideal S2048x4096 .bf16) (b : Fin 16) (p : Fin 2) (i : Fin 2048) (n : Fin 256) :
    Cert.DftIdeal.Chain.part tab vf b p i n = half vf tab b p 0 i n + half vf tab b p 1 i n := by
  refine (sum_halves _).trans (congrArg₂ (· + ·) (Finset.sum_congr rfl fun r _ => ?_) (Finset.sum_congr rfl fun r _ => ?_))
  · refine congrArg₂ (· * ·) (congrArg (fun q => tab (ix2 i q)) (Fin.ext ?_))
      (congrArg₂ (fun w q => vf (ix5 b p w q n)) (Fin.ext ?_) (Fin.ext ?_))
    · show r.val = 2048 * 0 + r.val; omega
    · show r.val / 2048 = 0; omega
    · show r.val % 2048 = r.val; omega
  · refine congrArg₂ (· * ·) (congrArg (fun q => tab (ix2 i q)) (Fin.ext ?_))
      (congrArg₂ (fun w q => vf (ix5 b p w q n)) (Fin.ext ?_) (Fin.ext ?_))
    · show 2048 + r.val = 2048 * 1 + r.val; omega
    · show (2048 + r.val) / 2048 = 1; omega
    · show (2048 + r.val) % 2048 = r.val; omega

/-- A sum over all positions, for values and a table given at each position: the even positions' half, then the odd
    positions', whose terms are `σ` of the products. -/
theorem positions (w : Fin 2) (b : Fin 16) (i : Fin 2048) (n : Fin 256) (σ : EReal → EReal) (f tab : Fin 4096 → EReal)
    (hσ : ∀ x y, x * σ y = σ (y * x))
    (hf : ∀ t : Fin 4096, f t = vf (ix5 b ⟨t % 2, by omega⟩ w ⟨t / 2, by omega⟩ n))
    (ht : ∀ t : Fin 4096, tab t = if t.val % 2 < 1 then te (ix2 i ⟨2048 * w + t / 2, by omega⟩) else σ (td (ix2 i ⟨2048 * w + t / 2, by omega⟩))) :
    ∑ t, f t * tab t = half vf te b 0 w i n + ∑ r : Fin 2048, σ (td (ix2 i ⟨2048 * w + r, by omega⟩) * vf (ix5 b 1 w r n)) := by
  refine (sum_parity _).trans (congrArg₂ (· + ·) (Finset.sum_congr rfl fun r _ => ?_) (Finset.sum_congr rfl fun r _ => ?_))
  · rw [hf, ht]
    refine (mul_comm _ _).trans (congrArg₂ (· * ·) ((if_pos ?_).trans (congrArg (fun q => te (ix2 i q)) (Fin.ext ?_)))
      (congrArg₂ (fun p q => vf (ix5 b p w q n)) (Fin.ext ?_) (Fin.ext ?_)))
    · show 2 * r.val % 2 < 1; omega
    · show 2048 * w.val + 2 * r.val / 2 = 2048 * w.val + r.val; omega
    · show 2 * r.val % 2 = 0; omega
    · show 2 * r.val / 2 = r.val; omega
  · rw [hf, ht, ← hσ]
    refine congrArg₂ (· * ·) (congrArg₂ (fun p q => vf (ix5 b p w q n)) (Fin.ext ?_) (Fin.ext ?_))
      ((if_neg ?_).trans (congrArg (fun q => σ (td (ix2 i q))) (Fin.ext ?_)))
    · show (2 * r.val + 1) % 2 = 1; omega
    · show (2 * r.val + 1) / 2 = r.val; omega
    · show ¬ (2 * r.val + 1) % 2 < 1; omega
    · show 2048 * w.val + (2 * r.val + 1) / 2 = 2048 * w.val + r.val; omega

variable (htd : ∀ i, ∃ r : ℝ, td i = r)
variable (hvf : ∀ (b : Fin 16) (w : Fin 2) (r : Fin 2048) (n : Fin 256), ∃ x : ℝ, vf (ix5 b 1 w r n) = x)

include htd hvf

theorem term_real (w : Fin 2) (b : Fin 16) (i : Fin 2048) (n : Fin 256) (r : Fin 2048) :
    ∃ x : ℝ, td (ix2 i ⟨2048 * w + r, by omega⟩) * vf (ix5 b 1 w r n) = (x : EReal) := by
  obtain ⟨x, hx⟩ := htd (ix2 i ⟨2048 * w + r, by omega⟩)
  obtain ⟨y, hy⟩ := hvf b w r n
  exact ⟨x * y, (congrArg₂ (· * ·) hx hy).trans (EReal.coe_mul x y).symm⟩

theorem half_real (w : Fin 2) (b : Fin 16) (i : Fin 2048) (n : Fin 256) : ∃ x : ℝ, half vf td b 1 w i n = (x : EReal) := by
  obtain ⟨g, _, hs⟩ := sum_real _ (term_real td vf htd hvf w b i n)
  exact ⟨_, hs⟩

/-- The reference's result is the kernel's. -/
theorem out_eq : val_main_v41 (F := Ideal) te td vf = Cert.DftIdeal.Chain.outArr te td vf := by
  funext y
  obtain ⟨b, h, i, n, rfl⟩ : ∃ (b : Fin 16) (h : Fin 2) (i : Fin 2048) (n : Fin 256), y = ix4 b h i n := ⟨y 0, y 1, y 2, y 3, by
    funext a
    match a with
    | ⟨0, _⟩ => rfl
    | ⟨1, _⟩ => rfl
    | ⟨2, _⟩ => rfl
    | ⟨3, _⟩ => rfl⟩
  refine (v41_apply te td vf b h i n).trans ?_
  match h with
  | ⟨0, _⟩ =>
    refine Eq.trans ?_ (if_pos rfl).symm
    refine (congrArg₂ (· + ·)
      (positions te td vf 0 b i n (fun x => x) _ _ (fun x y => mul_comm x y) (fun t => v32_apply vf b t n) fun t =>
        (v13_low te td i t).trans ((v7_apply te td i t).trans ?_))
      (positions te td vf 1 b i n (fun x => x) _ _ (fun x y => mul_comm x y) (fun t => v36_apply vf b t n) fun t =>
        (v27_low te td i t).trans (v21_apply te td i t))).trans ?_
    · simp only [Fin.val_zero, Nat.mul_zero, Nat.zero_add]
    · refine Eq.trans ?_ (congrArg₂ (· + ·) (part_eq vf te b 0 i n) (part_eq vf td b 1 i n)).symm
      exact add_add_add_comm _ _ _ _
  | ⟨1, _⟩ =>
    refine Eq.trans ?_ (if_neg (by show ¬ 1 = 0; omega)).symm
    refine (congrArg₂ (· + ·)
      (positions te td vf 0 b i n (fun x => -x) _ _ (fun x y => (mul_neg x y).trans (congrArg (fun z : EReal => -z) (mul_comm x y)))
        (fun t => v32_apply vf b t n) fun t => (v13_high te td i t).trans ((v12_apply te td i t).trans ?_))
      (positions te td vf 1 b i n (fun x => -x) _ _ (fun x y => (mul_neg x y).trans (congrArg (fun z : EReal => -z) (mul_comm x y)))
        (fun t => v36_apply vf b t n) fun t => (v27_high te td i t).trans (v26_apply te td i t))).trans ?_
    · simp only [Fin.val_zero, Nat.mul_zero, Nat.zero_add]
    · refine Eq.trans ?_ (congrArg₂ (fun x y : EReal => x - y) (part_eq vf te b 0 i n) (part_eq vf td b 1 i n)).symm
      rw [sum_neg _ (term_real td vf htd hvf 0 b i n), sum_neg _ (term_real td vf htd hvf 1 b i n)]
      exact sub_two _ _ _ _ (half_real td vf htd hvf 0 b i n) (half_real td vf htd hvf 1 b i n)

end Cert.DftRefIdeal.Chain

namespace Cert.DftClaim

open Idealize Idealize.ShloMosaic Idealize.SL.Sem Cert.DftIdeal

/-- The reference runs, keeps its arguments and, having no semaphores, ends with none raised. -/
theorem referenceFrame : Cert.quiescent_DftRefIdeal (hDftRefIdeal := Cert.DftRefIdeal.Gen.facts) := fun m g _ =>
  (θ_run (Cert.DftRefIdeal.defs (F := Ideal)) _ _).mono (fun r h => ⟨fun c => (h c).2, sem_eq_zero_of_no_sems (by decide) r.2⟩)
    (Cert.DftRefIdeal.Value.run m g)

/-- From equal arguments, the odd positions' being real, the call and the reference both run and their results are equal. -/
theorem algebraic : Cert.algebraic_DftIdeal_DftRefIdeal_pre_dft_finite (hDftIdeal := Cert.DftIdeal.Gen.facts)
    (hDftRefIdeal := Cert.DftRefIdeal.Gen.facts) (hPre_dft_finite := Cert.Pre_dft_finite.Gen.facts) := by
  intro m g m' g' hpre hargs
  refine ⟨_, (θ_run (defs (F := Ideal)) _ _).mono (fun r h c => ⟨(h c).1.trans (Chain.arrAt_eq m c), (h c).2⟩)
    (Value.run_blocks m g), ?_⟩
  refine (θ_run (Cert.DftRefIdeal.defs (F := Ideal)) _ _).mono (fun r h c => ⟨(h c).1.trans ?_, (h c).2⟩)
    (Cert.DftRefIdeal.Value.run m' g')
  obtain ⟨h0, h1, h2⟩ := hargs c
  obtain ⟨htd, hvf⟩ := Cert.Pre_dft_finite.Chain.real _ _ _ (hpre c)
  rw [Cert.DftRefIdeal.Read.val_main_v41_eq, h0, h1, h2]
  exact Cert.DftRefIdeal.Chain.out_eq _ _ _ htd hvf

end Cert.DftClaim

end

end
-- ==== Proof.FourWArray.lean ====
module

public import proofs.«01_k».proof.Proof.Gen.FourWIdeal.Value
public import proofs.«01_k».proof.Proof.Gen.FourWRefIdeal.Read
public import Idealize.ShloMosaic.Lib.Pipeline.Covers
public import Idealize.ShloMosaic.Lib.Pipeline.ValueKit
public import Idealize.ShloMosaic.Lib.Pointwise

@[expose] public section

/-! # What the four-weights call's two output arrays hold after the run

The call multiplies every group's linear map from the left by a table of cosines, and by a table of sines with the sign turned.
The two tables are computed on the host by the same operations in the call's program and in the reference. -/

noncomputable section

namespace Cert.FourWIdeal.Chain

open Cert.FourWIdeal Cert.FourWIdeal.Gen Idealize Idealize.ShloMosaic Idealize.ShloMosaic.TcCoe

/-- The cosines. -/
def cosTable : Vec Ideal S64x64 .f32 := Cert.FourWRefIdeal.Read.val_main_v12 (F := Ideal)

/-- The sines. -/
def sinTable : Vec Ideal S64x64 .f32 := Cert.FourWRefIdeal.Read.val_main_v17 (F := Ideal)

/-- A table times every group's map, for every layer. -/
def times (tab : Vec Ideal S64x64 .f32) (w : Vec Ideal S2x4x64x64 .f32) : Vec Ideal S2x4x64x64 .f32 :=
  fun y => ∑ k : Fin 64, tab (ix2 (y 2) k) * w (ix4 (y 0) (y 1) k (y 3))

/-- The same for one layer. -/
def timesL (tab : Vec Ideal S64x64 .f32) (w : Vec Ideal S1x4x64x64 .f32) : Vec Ideal S1x4x64x64 .f32 :=
  fun y => ∑ k : Fin 64, tab (ix2 (y 2) k) * w (ix4 0 (y 1) k (y 3))

/-- The product with the sign turned. -/
def minus (tab : Vec Ideal S64x64 .f32) (w : Vec Ideal S2x4x64x64 .f32) : Vec Ideal S2x4x64x64 .f32 :=
  fun y => -∑ k : Fin 64, tab (ix2 (y 2) k) * w (ix4 (y 0) (y 1) k (y 3))

/-- The same for one layer. -/
def minusL (tab : Vec Ideal S64x64 .f32) (w : Vec Ideal S1x4x64x64 .f32) : Vec Ideal S1x4x64x64 .f32 :=
  fun y => -∑ k : Fin 64, tab (ix2 (y 2) k) * w (ix4 0 (y 1) k (y 3))

/-- One layer's maps. -/
def layer (w : Vec Ideal S2x4x64x64 .f32) (l : Fin 2) : Vec Ideal S1x4x64x64 .f32 :=
  fun y => w (ix4 l (y 1) (y 2) (y 3))

/-! ## One group's product -/

theorem cosines_apply (v : Vec Ideal S1x1x64x64 .f32) (tab : Vec Ideal S64x64 .f32) (i j : Fin 64) :
    k0_pay4 v tab (ix4 0 0 i j) = ∑ k : Fin 64, tab (ix2 i k) * v (ix4 0 0 k j) := by
  unfold k0_pay4 k0_pay3
  pointwise

theorem sines_apply (v : Vec Ideal S1x1x64x64 .f32) (tab : Vec Ideal S64x64 .f32) (i j : Fin 64) :
    k0_pay5 v tab (ix4 0 0 i j) = -∑ k : Fin 64, tab (ix2 i k) * v (ix4 0 0 k j) := by
  unfold k0_pay5 k0_pay3
  pointwise
  simp only [zero_sub]

/-- Group `g`'s rectangle in a layer's block. -/
def rect (g : Fin 4) : Rect S1x4x64x64 :=
  Rect.unit (s := S1x4x64x64) ![0, g, 0, 0] S1x1x64x64.size (fun a => by revert a g; decide)

theorem rect_emb (g : Fin 4) (i j : Fin 64) : (rect g).emb (ix4 0 0 i j : S1x1x64x64.Idx) = (ix4 0 g i j : S1x4x64x64.Idx) :=
  funext fun e => by
    match e with
    | ⟨0, _⟩ => exact Fin.ext (by show 0 + 1 * 0 = 0; omega)
    | ⟨1, _⟩ => exact Fin.ext (by show g.val + 1 * 0 = g.val; omega)
    | ⟨2, _⟩ => exact Fin.ext (by show 0 + 1 * i.val = i.val; omega)
    | ⟨3, _⟩ => exact Fin.ext (by show 0 + 1 * j.val = j.val; omega)

theorem ld_rect (w : Vec Ideal S1x4x64x64 .f32) (g : Fin 4) (i j : Fin 64) :
    (View.ld w (rect g) : Vec Ideal S1x1x64x64 .f32) (ix4 0 0 i j) = w (ix4 0 g i j) :=
  congrArg w (rect_emb g i j)

theorem ld_table (x : Vec Ideal S64x64 .f32) : View.ld x r0_1 = x :=
  funext fun y => congrArg x (funext fun e => by
    match e with
    | ⟨0, _⟩ => exact Fin.ext (by show 0 + 1 * (y 0).val = (y 0).val; omega)
    | ⟨1, _⟩ => exact Fin.ext (by show 0 + 1 * (y 1).val = (y 1).val; omega))

theorem eq_ix (x : S1x1x64x64.Idx) : ∃ i j : Fin 64, x = ix4 0 0 i j := ⟨x 2, x 3, by
  funext a
  match a with
  | ⟨0, _⟩ => exact Fin.ext (by have := (x 0).isLt; change _ < 1 at this; show (x 0).val = 0; omega)
  | ⟨1, _⟩ => exact Fin.ext (by have := (x 1).isLt; change _ < 1 at this; show (x 1).val = 0; omega)
  | ⟨2, _⟩ => rfl
  | ⟨3, _⟩ => rfl⟩

/-! ## A layer's block: the four groups' products -/

theorem outR_eq (x0 x1 : Vec Ideal S64x64 .f32) (x2 : Vec Ideal S1x4x64x64 .f32) : out0_3 x0 x1 x2 = timesL x0 x2 := by
  funext y
  refine View.canon_apply_of_pieces (timesL x0 x2) _ (fun p hp => ?_) y (cover0_3 _ _ _ _ y)
  have hg : ∃ g : Fin 4, p = ⟨rect g, k0_pay4 (View.ld x2 (rect g)) (View.ld x0 r0_1)⟩ := by
    simp only [List.mem_cons, List.not_mem_nil, or_false] at hp
    rcases hp with rfl | rfl | rfl | rfl
    exacts [⟨3, rfl⟩, ⟨2, rfl⟩, ⟨1, rfl⟩, ⟨0, rfl⟩]
  obtain ⟨g, rfl⟩ := hg
  intro x
  obtain ⟨i, j, rfl⟩ := eq_ix x
  refine (cosines_apply _ _ i j).trans (Eq.trans ?_ (congrArg (timesL x0 x2) (rect_emb g i j)).symm)
  rw [ld_table]
  exact Finset.sum_congr rfl fun k _ => congrArg (_ * ·) (ld_rect x2 g k j)

theorem outI_eq (x0 x1 : Vec Ideal S64x64 .f32) (x2 : Vec Ideal S1x4x64x64 .f32) : out0_4 x0 x1 x2 = minusL x1 x2 := by
  funext y
  refine View.canon_apply_of_pieces (minusL x1 x2) _ (fun p hp => ?_) y (cover0_4 _ _ _ _ y)
  have hg : ∃ g : Fin 4, p = ⟨rect g, k0_pay5 (View.ld x2 (rect g)) (View.ld x1 r0_1)⟩ := by
    simp only [List.mem_cons, List.not_mem_nil, or_false] at hp
    rcases hp with rfl | rfl | rfl | rfl
    exacts [⟨3, rfl⟩, ⟨2, rfl⟩, ⟨1, rfl⟩, ⟨0, rfl⟩]
  obtain ⟨g, rfl⟩ := hg
  intro x
  obtain ⟨i, j, rfl⟩ := eq_ix x
  refine (sines_apply _ _ i j).trans (Eq.trans ?_ (congrArg (minusL x1 x2) (rect_emb g i j)).symm)
  rw [ld_table]
  exact congrArg (fun x : EReal => -x) (Finset.sum_congr rfl fun k _ => congrArg (_ * ·) (ld_rect x2 g k j))

/-! ## The blocks the call reads -/

variable (m : (ℓ : Loc nD τ sig) → Buf (Elt Ideal) ℓ)

theorem V_cos (c : Dev nD) : V m c main_v12 = cosTable := by
  unfold V
  simp only [List.flatten_cons, List.flatten_nil, List.append_nil, hostOps0, hostOps0_1, hostOps0_2, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem V_sin (c : Dev nD) : V m c main_v15 = sinTable := by
  unfold V
  simp only [List.flatten_cons, List.flatten_nil, List.append_nil, hostOps0, hostOps0_1, hostOps0_2, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem index0 (t : Fin cfg0.N) : win0_0.index t = ![0, 0] := by
  revert t; decide +kernel
theorem index1 (t : Fin cfg0.N) : win0_1.index t = ![0, 0] := by
  revert t; decide +kernel
theorem index2 (t : Fin cfg0.N) : win0_2.index t = ![(grid0.coords t 0).val, 0, 0, 0] := by
  revert t; decide +kernel
theorem index3 (t : Fin cfg0.N) : win0_3.index t = ![(grid0.coords t 0).val, 0, 0, 0] := by
  revert t; decide +kernel
theorem index4 (t : Fin cfg0.N) : win0_4.index t = ![(grid0.coords t 0).val, 0, 0, 0] := by
  revert t; decide +kernel

theorem block0 (c : Dev nD) (t : Fin cfg0.N) : (iblk m c 0 t : Vec Ideal S64x64 .f32) = cosTable := by
  rw [← V_cos m c]
  funext y
  blk_ext [iblk, index0 t]

theorem block1 (c : Dev nD) (t : Fin cfg0.N) : (iblk m c 1 t : Vec Ideal S64x64 .f32) = sinTable := by
  rw [← V_sin m c]
  funext y
  blk_ext [iblk, index1 t]

theorem block2 (c : Dev nD) (t : Fin cfg0.N) :
    (iblk m c 2 t : Vec Ideal S1x4x64x64 .f32) = layer (m ((c : Thread nD τ).loc main_arg0)) (grid0.coords t 0) := by
  have e := V_main_arg0 m c
  funext y
  unfold layer
  rw [← e]
  blk_ext [iblk, index2 t]

/-! ## The arrays -/

theorem covers3 : (cfg0.win 3).Covers :=
  (cfg0.win 3).covers_of_indexMap_surj rfl (by decide) fun β =>
    ⟨fun a => match a with
      | ⟨0, _⟩ => ⟨(β ⟨0, by decide⟩).val, lt_of_lt_of_eq (β ⟨0, by decide⟩).isLt (by decide : (cfg0.win 3).nblk ⟨0, by decide⟩ = 2)⟩,
    fun a => by
      match a with
      | ⟨0, _⟩ =>
        have := lt_of_lt_of_eq (β ⟨0, by decide⟩).isLt (by decide : (cfg0.win 3).nblk ⟨0, by decide⟩ = 2)
        show (BitVec.ofNat 32 (β ⟨0, by decide⟩).val).toNat = _
        rw [BitVec.toNat_ofNat]; omega
      | ⟨1, _⟩ =>
        have := lt_of_lt_of_eq (β ⟨1, by decide⟩).isLt (by decide : (cfg0.win 3).nblk ⟨1, by decide⟩ = 1)
        show 0 = _
        omega
      | ⟨2, _⟩ =>
        have := lt_of_lt_of_eq (β ⟨2, by decide⟩).isLt (by decide : (cfg0.win 3).nblk ⟨2, by decide⟩ = 1)
        show 0 = _
        omega
      | ⟨3, _⟩ =>
        have := lt_of_lt_of_eq (β ⟨3, by decide⟩).isLt (by decide : (cfg0.win 3).nblk ⟨3, by decide⟩ = 1)
        show 0 = _
        omega⟩

/-- The two outputs have the same blocks. -/
theorem covers4 : (cfg0.win 4).Covers :=
  (cfg0.win 4).covers_of_indexMap_surj rfl (by decide) fun β =>
    ⟨fun a => match a with
      | ⟨0, _⟩ => ⟨(β ⟨0, by decide⟩).val, lt_of_lt_of_eq (β ⟨0, by decide⟩).isLt (by decide : (cfg0.win 4).nblk ⟨0, by decide⟩ = 2)⟩,
    fun a => by
      match a with
      | ⟨0, _⟩ =>
        have := lt_of_lt_of_eq (β ⟨0, by decide⟩).isLt (by decide : (cfg0.win 4).nblk ⟨0, by decide⟩ = 2)
        show (BitVec.ofNat 32 (β ⟨0, by decide⟩).val).toNat = _
        rw [BitVec.toNat_ofNat]; omega
      | ⟨1, _⟩ =>
        have := lt_of_lt_of_eq (β ⟨1, by decide⟩).isLt (by decide : (cfg0.win 4).nblk ⟨1, by decide⟩ = 1)
        show 0 = _
        omega
      | ⟨2, _⟩ =>
        have := lt_of_lt_of_eq (β ⟨2, by decide⟩).isLt (by decide : (cfg0.win 4).nblk ⟨2, by decide⟩ = 1)
        show 0 = _
        omega
      | ⟨3, _⟩ =>
        have := lt_of_lt_of_eq (β ⟨3, by decide⟩).isLt (by decide : (cfg0.win 4).nblk ⟨3, by decide⟩ = 1)
        show 0 = _
        omega⟩

/-- A layer's product is that layer of the whole product. -/
theorem timesL_layer (tab : Vec Ideal S64x64 .f32) (w : Vec Ideal S2x4x64x64 .f32) (l : Fin 2) (y : S1x4x64x64.Idx) :
    timesL tab (layer w l) y = times tab w (ix4 l (y 1) (y 2) (y 3)) := rfl

theorem minusL_layer (tab : Vec Ideal S64x64 .f32) (w : Vec Ideal S2x4x64x64 .f32) (l : Fin 2) (y : S1x4x64x64.Idx) :
    minusL tab (layer w l) y = minus tab w (ix4 l (y 1) (y 2) (y 3)) := rfl

theorem real_arr (c : Dev nD) : (dats m 0 c).arrAt 3 cfg0.N = times cosTable (m ((c : Thread nD τ).loc main_arg0)) := by
  refine (dats m 0 c).arrAt_eq_of_covers 3 _ covers3 fun t hf y => ?_
  blk_simp
  rw [after0_3, block0, block1, block2, outR_eq]
  have e : (((cfg0.win 3).blk t).view.emb y : S2x4x64x64.Idx) = ix4 (grid0.coords t 0) (y 1) (y 2) (y 3) := by
    funext a
    match a with
    | ⟨0, _⟩ => exact Fin.ext (by blk_simp [index3 t])
    | ⟨1, _⟩ => exact Fin.ext (by blk_simp [index3 t]; rfl)
    | ⟨2, _⟩ => exact Fin.ext (by blk_simp [index3 t]; rfl)
    | ⟨3, _⟩ => exact Fin.ext (by blk_simp [index3 t]; rfl)
  exact Eq.trans (timesL_layer _ _ _ y) (congrArg _ e).symm

theorem imag_arr (c : Dev nD) : (dats m 0 c).arrAt 4 cfg0.N = minus sinTable (m ((c : Thread nD τ).loc main_arg0)) := by
  refine (dats m 0 c).arrAt_eq_of_covers 4 _ covers4 fun t hf y => ?_
  blk_simp
  rw [after0_4, block0, block1, block2, outI_eq]
  have e : (((cfg0.win 4).blk t).view.emb y : S2x4x64x64.Idx) = ix4 (grid0.coords t 0) (y 1) (y 2) (y 3) := by
    funext a
    match a with
    | ⟨0, _⟩ => exact Fin.ext (by blk_simp [index4 t])
    | ⟨1, _⟩ => exact Fin.ext (by blk_simp [index4 t]; rfl)
    | ⟨2, _⟩ => exact Fin.ext (by blk_simp [index4 t]; rfl)
    | ⟨3, _⟩ => exact Fin.ext (by blk_simp [index4 t]; rfl)
  exact Eq.trans (minusL_layer _ _ _ y) (congrArg _ e).symm

end Cert.FourWIdeal.Chain

end

end
-- ==== Proof.FourWClaim.lean ====
module

public import proofs.«01_k».proof.Defs
public import Idealize.ShloMosaic.Lib.Quiescent
public import proofs.«01_k».proof.Proof.Gen.FourWRefIdeal.Run
public import proofs.«01_k».proof.Proof.FourWArray

@[expose] public section

/-! # The four-weights algebraic claim: the kernel call and the reference end with the same two arrays -/

noncomputable section

namespace Cert.FourWRefIdeal.Chain

open Cert.FourWRefIdeal Cert.FourWRefIdeal.Gen Cert.FourWRefIdeal.Read Idealize Idealize.ShloMosaic

variable (w : Vec Ideal S2x4x64x64 .f32)

theorem eq_ix (x : S2x4x64x64.Idx) : x = ix4 (x 0) (x 1) (x 2) (x 3) := by
  funext a
  match a with
  | ⟨0, _⟩ => rfl
  | ⟨1, _⟩ => rfl
  | ⟨2, _⟩ => rfl
  | ⟨3, _⟩ => rfl

theorem v14_apply (l : Fin 2) (g : Fin 4) (i j : Fin 64) :
    val_main_v14 (F := Ideal) w (ix4 l g i j) = ∑ k : Fin 64, Cert.FourWIdeal.Chain.cosTable (ix2 i k) * w (ix4 l g k j) := by
  rw [val_main_v14_apply, val_main_v13_apply]
  refine Finset.sum_congr rfl fun k _ => (mul_comm _ _).trans (congrArg₂ (· * ·) (congrArg _ ?_) (congrArg w ?_))
  · blk_ext [ridx_main_v13, idx_main_v14]
  · blk_ext [lidx_main_v13, idx_main_v14]

theorem v20_apply (l : Fin 2) (g : Fin 4) (i j : Fin 64) :
    val_main_v20 (F := Ideal) w (ix4 l g i j) = -∑ k : Fin 64, Cert.FourWIdeal.Chain.sinTable (ix2 i k) * w (ix4 l g k j) := by
  rw [val_main_v20_apply, val_main_v19_apply, val_main_v18_apply]
  refine congrArg (fun x : EReal => -x)
    (Finset.sum_congr rfl fun k _ => (mul_comm _ _).trans (congrArg₂ (· * ·) (congrArg _ ?_) (congrArg w ?_)))
  · blk_ext [ridx_main_v18, idx_main_v19]
  · blk_ext [lidx_main_v18, idx_main_v19]

theorem real_eq : val_main_v14 (F := Ideal) w = Cert.FourWIdeal.Chain.times Cert.FourWIdeal.Chain.cosTable w :=
  funext fun x => (congrArg _ (eq_ix x)).trans (v14_apply w (x 0) (x 1) (x 2) (x 3))

theorem imag_eq : val_main_v20 (F := Ideal) w = Cert.FourWIdeal.Chain.minus Cert.FourWIdeal.Chain.sinTable w :=
  funext fun x => (congrArg _ (eq_ix x)).trans (v20_apply w (x 0) (x 1) (x 2) (x 3))

end Cert.FourWRefIdeal.Chain

namespace Cert.FourWClaim

open Idealize Idealize.ShloMosaic Idealize.SL.Sem Cert.FourWIdeal

/-- The reference runs, keeps its argument and, having no semaphores, ends with none raised. -/
theorem referenceFrame : Cert.quiescent_FourWRefIdeal (hFourWRefIdeal := Cert.FourWRefIdeal.Gen.facts) := fun m g _ =>
  (θ_run (Cert.FourWRefIdeal.defs (F := Ideal)) _ _).mono (fun r h => ⟨fun c => (h c).2.2, sem_eq_zero_of_no_sems (by decide) r.2⟩)
    (Cert.FourWRefIdeal.Value.run m g)

/-- From equal arguments the call and the reference both run and both of their results are equal. -/
theorem algebraic : Cert.algebraic_FourWIdeal_FourWRefIdeal (hFourWIdeal := Cert.FourWIdeal.Gen.facts)
    (hFourWRefIdeal := Cert.FourWRefIdeal.Gen.facts) := by
  intro m g m' g' _ hargs
  refine ⟨_, _, (θ_run (defs (F := Ideal)) _ _).mono
    (fun r h c => ⟨(h c).1.trans (Chain.real_arr m c), (h c).2.1.trans (Chain.imag_arr m c), (h c).2.2⟩) (Value.run_blocks m g), ?_⟩
  refine (θ_run (Cert.FourWRefIdeal.defs (F := Ideal)) _ _).mono (fun r h c => ⟨(h c).1.trans ?_, (h c).2.1.trans ?_, (h c).2.2⟩)
    (Cert.FourWRefIdeal.Value.run m' g')
  all_goals obtain h0 := hargs c
  · rw [Cert.FourWRefIdeal.Read.val_main_v14_eq, h0]
    exact Cert.FourWRefIdeal.Chain.real_eq _
  · rw [Cert.FourWRefIdeal.Read.val_main_v20_eq, h0]
    exact Cert.FourWRefIdeal.Chain.imag_eq _

end Cert.FourWClaim

end

end
-- ==== Proof.lean ====
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_attention_layout
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Dft.Frame
public import proofs.«01_k».proof.Proof.Gen.DftIdeal.Frame
public import proofs.«01_k».proof.Proof.Gen.DftIdeal.Value
public import proofs.«01_k».proof.Proof.Gen.DftRefIdeal.Run
public import proofs.«01_k».proof.Proof.Gen.DftRefIdeal.Read
public import proofs.«01_k».proof.Proof.Gen.FourW.Frame
public import proofs.«01_k».proof.Proof.Gen.FourWIdeal.Frame
public import proofs.«01_k».proof.Proof.Gen.FourWIdeal.Value
public import proofs.«01_k».proof.Proof.Gen.FourWRefIdeal.Run
public import proofs.«01_k».proof.Proof.Gen.FourWRefIdeal.Read
public import proofs.«01_k».proof.Proof.Gen.Pre_dft_finite
public import proofs.«01_k».proof.Proof.AttnClaim
public import proofs.«01_k».proof.Proof.FfnClaim
public import proofs.«01_k».proof.Proof.InProjClaim
public import proofs.«01_k».proof.Proof.AdaClaim
public import proofs.«01_k».proof.Proof.DftClaim
public import proofs.«01_k».proof.Proof.FourWClaim

@[expose] public section

noncomputable section

namespace Cert.Proof

open Idealize.ShloMosaic Idealize.SL.Sem

/-- The frames, idealizations and values of the attention, of the output projection with the feed-forward part, of the input
    projection, of the modulation, of the Fourier transform and of its channel maps. -/
theorem claim : Cert.Claim :=
  ⟨Cert.Attn.Gen.facts, Cert.AttnIdeal.Gen.facts, Cert.AttnRefIdeal.Gen.facts, Cert.Ffn.Gen.facts, Cert.FfnIdeal.Gen.facts,
    Cert.FfnRefIdeal.Gen.facts, Cert.InProj.Gen.facts, Cert.InProjIdeal.Gen.facts, Cert.InProjRefIdeal.Gen.facts,
    Cert.Ada.Gen.facts, Cert.AdaIdeal.Gen.facts, Cert.AdaRefIdeal.Gen.facts,
    Cert.Dft.Gen.facts, Cert.DftIdeal.Gen.facts, Cert.DftRefIdeal.Gen.facts,
    Cert.FourW.Gen.facts, Cert.FourWIdeal.Gen.facts, Cert.FourWRefIdeal.Gen.facts,
    Cert.Pre_attention_layout.Gen.facts, Cert.Pre_dft_finite.Gen.facts,
    fun m ρ _ => Cert.Attn.Gen.frame m ρ, fun m ρ _ => Cert.AttnIdeal.Gen.frame m ρ, fun m ρ _ => Cert.AttnIdeal.Gen.frame m ρ,
    Cert.AttnClaim.referenceFrame, fun m ρ _ => Cert.AttnClaim.referenceFrame m ρ trivial,
    fun m ρ _ => Cert.Ffn.Gen.frame m ρ, fun m ρ _ => Cert.FfnIdeal.Gen.frame m ρ, Cert.FfnClaim.referenceFrame,
    fun m ρ _ => Cert.InProj.Gen.frame m ρ, fun m ρ _ => Cert.InProjIdeal.Gen.frame m ρ, Cert.InProjClaim.referenceFrame,
    fun m ρ _ => Cert.Ada.Gen.frame m ρ, fun m ρ _ => Cert.AdaIdeal.Gen.frame m ρ, Cert.AdaClaim.referenceFrame,
    fun m ρ _ => Cert.Dft.Gen.frame m ρ, fun m ρ _ => Cert.DftIdeal.Gen.frame m ρ, fun m ρ _ => Cert.DftIdeal.Gen.frame m ρ,
    Cert.DftClaim.referenceFrame, fun m ρ _ => Cert.DftClaim.referenceFrame m ρ trivial,
    fun m ρ _ => Cert.FourW.Gen.frame m ρ, fun m ρ _ => Cert.FourWIdeal.Gen.frame m ρ, Cert.FourWClaim.referenceFrame,
    trivial, Cert.AttnClaim.algebraic, trivial, Cert.FfnClaim.algebraic, trivial, Cert.InProjClaim.algebraic,
    trivial, Cert.AdaClaim.algebraic, trivial, Cert.DftClaim.algebraic, trivial, Cert.FourWClaim.algebraic⟩

end Cert.Proof

end

end
